-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x4096 : Shape := ⟨2, ![4, 4096]⟩
abbrev S4 : Shape := ⟨1, ![4]⟩
abbrev S32000x1024 : Shape := ⟨2, ![32000, 1024]⟩
abbrev S100x1024 : Shape := ⟨2, ![100, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : IVec S4x4096 32) (main_arg1 : IVec S4 32) (main_arg2 : FVec F S32000x1024 .f32) (main_arg3 : FVec F S100x1024 .f32) (main_arg4 : FVec F S8x1024 .f32) (main_arg5 : FVec F S1024x1024 .f32) (main_arg6 : FVec F S1024 .f32) (main_arg7 : FVec F S1024x1024 .f32) (main_arg8 : FVec F S1024 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 32100#32
  let main_v3 : IVec S4x4096 32 := broadcastInDim S4x4096 ![] bcast_S_S4x4096 main_c_1
  let main_v4 : IVec S4x4096 1 := cmpi .slt main_arg0 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  let main_c_3 : IVec S_ 32 := constantI S_ 32 0#32
  let main_v7 : IVec S4 32 := broadcastInDim S4 ![] bcast_S_S4 main_c_3
  let main_v8 : IVec S4 1 := cmpi .sge main_arg1 main_v7
  let main_c_4 : IVec S_ 1 := constantI S_ 1 1#1
  let main_v9 : IVec S_ 1 := (fun x v => Host.reduce IntOp.andi x v reducesTo_S4_S_d0 h_S_) main_v8 main_c_4
  let main_v10 : IVec S_ 1 := andi main_v6 main_v9
  let main_c_5 : IVec S_ 32 := constantI S_ 32 8#32
  let main_v11 : IVec S4 32 := broadcastInDim S4 ![] bcast_S_S4 main_c_5
  let main_v12 : IVec S4 1 := cmpi .slt main_arg1 main_v11
  let main_c_6 : IVec S_ 1 := constantI S_ 1 1#1
  let main_v13 : IVec S_ 1 := (fun x v => Host.reduce IntOp.andi x v reducesTo_S4_S_d0 h_S_) main_v12 main_c_6
  let main_v14 : IVec S_ 1 := andi main_v10 main_v13
  main_v14
-- ==== Kernel.lean ====
abbrev S4x4096 : Shape := ⟨2, ![4, 4096]⟩
abbrev S4 : Shape := ⟨1, ![4]⟩
abbrev S32000x1024 : Shape := ⟨2, ![32000, 1024]⟩
abbrev S100x1024 : Shape := ⟨2, ![100, 1024]⟩
abbrev S8x1024 : Shape := ⟨2, ![8, 1024]⟩
abbrev S1024x1024 : Shape := ⟨2, ![1024, 1024]⟩
abbrev S1024 : Shape := ⟨1, ![1024]⟩
abbrev S1x1024 : Shape := ⟨2, ![1, 1024]⟩
abbrev S400x1024 : Shape := ⟨2, ![400, 1024]⟩
abbrev S1 : Shape := ⟨1, ![1]⟩
abbrev S16384x1024 : Shape := ⟨2, ![16384, 1024]⟩
abbrev S512 : Shape := ⟨1, ![512]⟩
abbrev S16x1024 : Shape := ⟨2, ![16, 1024]⟩
abbrev S_ : Shape := ⟨0, ![]⟩
abbrev S1x512 : Shape := ⟨2, ![1, 512]⟩
abbrev S16 : Shape := ⟨1, ![16]⟩
abbrev S16x128 : Shape := ⟨2, ![16, 128]⟩
abbrev S32000x128 : Shape := ⟨2, ![32000, 128]⟩
abbrev S4x4096x1024 : Shape := ⟨3, ![4, 4096, 1024]⟩

abbrev nBuf : Table → Nat
  | .hbm => 14
  | .local .tc .vmem => 7
  | .local .tc .smem => 1
  | .local .scVector .vmem => 6
  | _ => 0

abbrev bufTy : (tb : Table) → Fin (nBuf tb) → BufTy
  | .hbm, ⟨0, _⟩ => ⟨S4x4096, .i32⟩
  | .hbm, ⟨1, _⟩ => ⟨S4, .i32⟩
  | .hbm, ⟨2, _⟩ => ⟨S32000x1024, .f32⟩
  | .hbm, ⟨3, _⟩ => ⟨S100x1024, .f32⟩
  | .hbm, ⟨4, _⟩ => ⟨S8x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S400x1024, .f32⟩
  | .hbm, ⟨12, _⟩ => ⟨S16384x1024, .f32⟩
  | .hbm, ⟨13, _⟩ => ⟨S4x4096x1024, .f32⟩
  | .local .tc .vmem, ⟨0, _⟩ => ⟨S100x1024, .f32⟩
  | .local .tc .vmem, ⟨1, _⟩ => ⟨S8x1024, .f32⟩
  | .local .tc .vmem, ⟨2, _⟩ => ⟨S1024x1024, .f32⟩
  | .local .tc .vmem, ⟨3, _⟩ => ⟨S1x1024, .f32⟩
  | .local .tc .vmem, ⟨4, _⟩ => ⟨S1024x1024, .f32⟩
  | .local .tc .vmem, ⟨5, _⟩ => ⟨S1x1024, .f32⟩
  | .local .tc .vmem, ⟨6, _⟩ => ⟨S400x1024, .f32⟩
  | .local .tc .smem, ⟨0, _⟩ => ⟨S4, .i32⟩
  | .local .scVector .vmem, ⟨0, _⟩ => ⟨S512, .i32⟩
  | .local .scVector .vmem, ⟨1, _⟩ => ⟨S512, .i32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | _, _ => ⟨S4x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | _ => false

abbrev sig : RefSig :=
  ofTables nBuf rfl bufTy 4 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg0_scv : Ref sig .scVector := ⟨.hbm, 0, rfl⟩
abbrev main_arg2_scv : Ref sig .scVector := ⟨.hbm, 2, rfl⟩
abbrev main_v2_scv : Ref sig .scVector := ⟨.hbm, 11, rfl⟩
abbrev main_v3_scv : Ref sig .scVector := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

def k0_off1 (v0 : BitVec 32) : Fin 2 → Nat :=
  let v1 : Index := Scalar.indexCast v0
  let c0_0 : Index := 0#32
  ![v1.toNat, 0]

def k0_chk1 (v0 : BitVec 32) : Prop :=
  (∀ a, (k0_off1 v0) a + S1x1024.size a ≤ S8x1024.size a)
theorem k0_off1_inb : ∀ (v0 : BitVec 32) (k0_hw1 : k0_chk1 v0), ∀ a, (k0_off1 v0) a + S1x1024.size a ≤ S8x1024.size a := fun v0 k0_hw1 => k0_hw1

def k0_off2 (v6 : BitVec 32) : Fin 2 → Nat :=
  let v7 : Index := Scalar.indexCast v6
  let c0_3 : Index := 0#32
  ![v7.toNat, 0]

def k0_chk2 (v6 : BitVec 32) : Prop :=
  (∀ a, (k0_off2 v6) a + S1x1024.size a ≤ S8x1024.size a)
theorem k0_off2_inb : ∀ (v6 : BitVec 32) (k0_hw2 : k0_chk2 v6), ∀ a, (k0_off2 v6) a + S1x1024.size a ≤ S8x1024.size a := fun v6 k0_hw2 => k0_hw2

def k0_off3 (v12 : BitVec 32) : Fin 2 → Nat :=
  let v13 : Index := Scalar.indexCast v12
  let c0_6 : Index := 0#32
  ![v13.toNat, 0]

def k0_chk3 (v12 : BitVec 32) : Prop :=
  (∀ a, (k0_off3 v12) a + S1x1024.size a ≤ S8x1024.size a)
theorem k0_off3_inb : ∀ (v12 : BitVec 32) (k0_hw3 : k0_chk3 v12), ∀ a, (k0_off3 v12) a + S1x1024.size a ≤ S8x1024.size a := fun v12 k0_hw3 => k0_hw3

def k0_off4 (v18 : BitVec 32) : Fin 2 → Nat :=
  let v19 : Index := Scalar.indexCast v18
  let c0_9 : Index := 0#32
  ![v19.toNat, 0]

def k0_chk4 (v18 : BitVec 32) : Prop :=
  (∀ a, (k0_off4 v18) a + S1x1024.size a ≤ S8x1024.size a)
theorem k0_off4_inb : ∀ (v18 : BitVec 32) (k0_hw4 : k0_chk4 v18), ∀ a, (k0_off4 v18) a + S1x1024.size a ≤ S8x1024.size a := fun v18 k0_hw4 => k0_hw4

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S400x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c512_i32_10 : BitVec 32 := 512#32
  let v31 : BitVec 32 := Scalar.muli v30 c512_i32_10
  ![v19.toNat, v31.toNat]
@[reducible] def k1_t1_loop : Scf.Loop 32 :=
  let c0_i32_12 : BitVec 32 := 0#32
  let c32_i32 : BitVec 32 := 32#32
  let v32 : BitVec 32 := Scalar.addi c0_i32_12 c32_i32
  let c1_i32_13 : BitVec 32 := 1#32
  ⟨c0_i32_12, v32, c1_i32_13⟩
def k1_mult1 (k1_t1 : Fin k1_t1_loop.trips) : BitVec 32 :=
  let c0_i32_12 : BitVec 32 := 0#32
  let c1_i32_13 : BitVec 32 := 1#32
  let arg20 : BitVec 32 := Scf.iv c0_i32_12 c1_i32_13 k1_t1
  let c16_i32_101 : BitVec 32 := 16#32
  let v94 : BitVec 32 := Scalar.muli arg20 c16_i32_101
  v94
def k1_off2 (k1_t1 : Fin k1_t1_loop.trips) : Fin 1 → Nat :=
  let c0_i32_12 : BitVec 32 := 0#32
  let c1_i32_13 : BitVec 32 := 1#32
  let arg20 : BitVec 32 := Scf.iv c0_i32_12 c1_i32_13 k1_t1
  let c16_i32_101 : BitVec 32 := 16#32
  let v94 : BitVec 32 := Scalar.muli arg20 c16_i32_101
  let v95 : BitVec 32 := v94
  let v96 : Index := Scalar.indexCast v95
  ![v96.toNat]
@[reducible] def k1_t2_loop : Scf.Loop 32 :=
  let c0_i32_89 : BitVec 32 := 0#32
  let c8_i32_90 : BitVec 32 := 8#32
  let v81 : BitVec 32 := Scalar.addi c0_i32_89 c8_i32_90
  let c1_i32_91 : BitVec 32 := 1#32
  ⟨c0_i32_89, v81, c1_i32_91⟩
def k1_off3 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c16_i32_102 : BitVec 32 := 16#32
  let v96 : BitVec 32 := Scalar.muli v95 c16_i32_102
  ![v96.toNat]
def k1_cond1 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c2_i32_142 : BitVec 32 := 2#32
  let v128 : BitVec 32 := Scalar.addi v95 c2_i32_142
  let c32_i32_143 : BitVec 32 := 32#32
  let v129 : BitVec 1 := Scalar.cmpi .slt v128 c32_i32_143
  let v130 : BitVec 32 := Scalar.extui v129
  let c0_i32_144 : BitVec 32 := 0#32
  let v131 : BitVec 1 := Scalar.cmpi .ne v130 c0_i32_144
  v131

def k1_cond2 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c2_i32_438 : BitVec 32 := 2#32
  let v610 : BitVec 32 := Scalar.addi v95 c2_i32_438
  let c4_i32_439 : BitVec 32 := 4#32
  let v611 : BitVec 1 := Scalar.cmpi .sge v610 c4_i32_439
  let v612 : BitVec 32 := Scalar.extui v611
  let c0_i32_440 : BitVec 32 := 0#32
  let v613 : BitVec 1 := Scalar.cmpi .ne v612 c0_i32_440
  v613

def k1_off4 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c2_i32_482 : BitVec 32 := 2#32
  let v647 : BitVec 32 := Scalar.addi v95 c2_i32_482
  let c4_i32_483 : BitVec 32 := 4#32
  let v648 : BitVec 32 := Scalar.subi v647 c4_i32_483
  let c16_i32_484 : BitVec 32 := 16#32
  let v649 : BitVec 32 := Scalar.muli v648 c16_i32_484
  let v650 : BitVec 32 := Scalar.addi v2 v649
  let c0_i32_485 : BitVec 32 := 0#32
  ![v650.toNat, 0]
def k1_off5 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c2_i32_441 : BitVec 32 := 2#32
  let v614 : BitVec 32 := Scalar.addi v95 c2_i32_441
  let c16_i32_442 : BitVec 32 := 16#32
  let v615 : BitVec 32 := Scalar.muli v614 c16_i32_442
  ![v615.toNat]
def k1_mult2 (k1_t2 : Fin k1_t2_loop.trips) : BitVec 32 :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c16_i32_147 : BitVec 32 := 16#32
  let v132 : BitVec 32 := Scalar.muli v95 c16_i32_147
  let c0_i32_146 : BitVec 32 := 0#32
  let c16_i32_148 : BitVec 32 := 16#32
  let v133 : BitVec 32 := Scalar.muli c0_i32_146 c16_i32_148
  let v134 : BitVec 32 := Scalar.addi v132 v133
  v134
def k1_off6 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c16_i32_147 : BitVec 32 := 16#32
  let v132 : BitVec 32 := Scalar.muli v95 c16_i32_147
  let c0_i32_146 : BitVec 32 := 0#32
  let c16_i32_148 : BitVec 32 := 16#32
  let v133 : BitVec 32 := Scalar.muli c0_i32_146 c16_i32_148
  let v134 : BitVec 32 := Scalar.addi v132 v133
  let v135 : BitVec 32 := v134
  let v136 : Index := Scalar.indexCast v135
  ![v136.toNat]
def k1_off7 : Fin 2 → Nat :=
  let c0_i32_146 : BitVec 32 := 0#32
  let c16_i32_439 : BitVec 32 := 16#32
  let v613 : BitVec 32 := Scalar.muli c0_i32_146 c16_i32_439
  let c0_i32_440 : BitVec 32 := 0#32
  let v614 : BitVec 32 := Scalar.addi v613 c0_i32_440
  let c0_i32_441_r1 : BitVec 32 := 0#32
  ![v614.toNat, 0]
def k1_off8 (i : grid1.Coords) (v140 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v140 c32000_i32_438
  let c99_i32 : BitVec 32 := 99#32
  let v611 : BitVec 32 := Scalar.minsi v610 c99_i32
  let v612 : BitVec 32 := Scalar.addi v20 v611
  let c0_i32_442_r1 : BitVec 32 := 0#32
  ![v612.toNat, 0]
def k1_cond3 (v140 : BitVec 32) : BitVec 1 :=
  let c32000_i32 : BitVec 32 := 32000#32
  let v141 : BitVec 1 := Scalar.cmpi .sge v140 c32000_i32
  let v142 : BitVec 32 := Scalar.extui v141
  let c0_i32_149 : BitVec 32 := 0#32
  let v143 : BitVec 1 := Scalar.cmpi .ne v142 c0_i32_149
  v143

def k1_chk1 (i : grid1.Coords) (v140 : BitVec 32) : Prop :=
  (∀ (k1_h3 : k1_cond3 v140 = 1#1), ∀ a, (k1_off8 i v140) a + S1x1024.size a ≤ S400x1024.size a)
theorem k1_off8_inb : ∀ (i : grid1.Coords) (v140 : BitVec 32) (k1_hw1 : k1_chk1 i v140), ∀ (k1_h3 : k1_cond3 v140 = 1#1), ∀ a, (k1_off8 i v140) a + S1x1024.size a ≤ S400x1024.size a := fun i v140 k1_hw1 k1_h3 => k1_hw1 k1_h3

def k1_off9 : Fin 2 → Nat :=
  let c0_i32_146 : BitVec 32 := 0#32
  let c16_i32_439 : BitVec 32 := 16#32
  let v613 : BitVec 32 := Scalar.muli c0_i32_146 c16_i32_439
  let c1_i32_440 : BitVec 32 := 1#32
  let v614 : BitVec 32 := Scalar.addi v613 c1_i32_440
  let c0_i32_441_r2 : BitVec 32 := 0#32
  ![v614.toNat, 0]
def k1_off10 (i : grid1.Coords) (v145 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v145 c32000_i32_438
  let c99_i32 : BitVec 32 := 99#32
  let v611 : BitVec 32 := Scalar.minsi v610 c99_i32
  let v612 : BitVec 32 := Scalar.addi v20 v611
  let c0_i32_442_r2 : BitVec 32 := 0#32
  ![v612.toNat, 0]
def k1_cond4 (v145 : BitVec 32) : BitVec 1 :=
  let c32000_i32_150 : BitVec 32 := 32000#32
  let v146 : BitVec 1 := Scalar.cmpi .sge v145 c32000_i32_150
  let v147 : BitVec 32 := Scalar.extui v146
  let c0_i32_151 : BitVec 32 := 0#32
  let v148 : BitVec 1 := Scalar.cmpi .ne v147 c0_i32_151
  v148

def k1_chk2 (i : grid1.Coords) (v145 : BitVec 32) : Prop :=
  (∀ (k1_h4 : k1_cond4 v145 = 1#1), ∀ a, (k1_off10 i v145) a + S1x1024.size a ≤ S400x1024.size a)
theorem k1_off10_inb : ∀ (i : grid1.Coords) (v145 : BitVec 32) (k1_hw2 : k1_chk2 i v145), ∀ (k1_h4 : k1_cond4 v145 = 1#1), ∀ a, (k1_off10 i v145) a + S1x1024.size a ≤ S400x1024.size a := fun i v145 k1_hw2 k1_h4 => k1_hw2 k1_h4

def k1_off11 : Fin 2 → Nat :=
  let c0_i32_146 : BitVec 32 := 0#32
  let c16_i32_439 : BitVec 32 := 16#32
  let v613 : BitVec 32 := Scalar.muli c0_i32_146 c16_i32_439
  let c2_i32_440 : BitVec 32 := 2#32
  let v614 : BitVec 32 := Scalar.addi v613 c2_i32_440
  let c0_i32_441_r3 : BitVec 32 := 0#32
  ![v614.toNat, 0]
def k1_off12 (i : grid1.Coords) (v150 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v150 c32000_i32_438
  let c99_i32 : BitVec 32 := 99#32
  let v611 : BitVec 32 := Scalar.minsi v610 c99_i32
  let v612 : BitVec 32 := Scalar.addi v20 v611
  let c0_i32_442_r3 : BitVec 32 := 0#32
  ![v612.toNat, 0]
def k1_cond5 (v150 : BitVec 32) : BitVec 1 :=
  let c32000_i32_152 : BitVec 32 := 32000#32
  let v151 : BitVec 1 := Scalar.cmpi .sge v150 c32000_i32_152
  let v152 : BitVec 32 := Scalar.extui v151
  let c0_i32_153 : BitVec 32 := 0#32
  let v153 : BitVec 1 := Scalar.cmpi .ne v152 c0_i32_153
  v153

def k1_chk3 (i : grid1.Coords) (v150 : BitVec 32) : Prop :=
  (∀ (k1_h5 : k1_cond5 v150 = 1#1), ∀ a, (k1_off12 i v150) a + S1x1024.size a ≤ S400x1024.size a)
theorem k1_off12_inb : ∀ (i : grid1.Coords) (v150 : BitVec 32) (k1_hw3 : k1_chk3 i v150), ∀ (k1_h5 : k1_cond5 v150 = 1#1), ∀ a, (k1_off12 i v150) a + S1x1024.size a ≤ S400x1024.size a := fun i v150 k1_hw3 k1_h5 => k1_hw3 k1_h5

def k1_off13 : Fin 2 → Nat :=
  let c0_i32_146 : BitVec 32 := 0#32
  let c16_i32_439 : BitVec 32 := 16#32
  let v613 : BitVec 32 := Scalar.muli c0_i32_146 c16_i32_439
  let c3_i32_440 : BitVec 32 := 3#32
  let v614 : BitVec 32 := Scalar.addi v613 c3_i32_440
  let c0_i32_441_r4 : BitVec 32 := 0#32
  ![v614.toNat, 0]
def k1_off14 (i : grid1.Coords) (v155 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v155 c32000_i32_438
  let c99_i32 : BitVec 32 := 99#32
  let v611 : BitVec 32 := Scalar.minsi v610 c99_i32
  let v612 : BitVec 32 := Scalar.addi v20 v611
  let c0_i32_442_r4 : BitVec 32 := 0#32
  ![v612.toNat, 0]
def k1_cond6 (v155 : BitVec 32) : BitVec 1 :=
  let c32000_i32_154 : BitVec 32 := 32000#32
  let v156 : BitVec 1 := Scalar.cmpi .sge v155 c32000_i32_154
  let v157 : BitVec 32 := Scalar.extui v156
  let c0_i32_155 : BitVec 32 := 0#32
  let v158 : BitVec 1 := Scalar.cmpi .ne v157 c0_i32_155
  v158

def k1_chk4 (i : grid1.Coords) (v155 : BitVec 32) : Prop :=
  (∀ (k1_h6 : k1_cond6 v155 = 1#1), ∀ a, (k1_off14 i v155) a + S1x1024.size a ≤ S400x1024.size a)
theorem k1_off14_inb : ∀ (i : grid1.Coords) (v155 : BitVec 32) (k1_hw4 : k1_chk4 i v155), ∀ (k1_h6 : k1_cond6 v155 = 1#1), ∀ a, (k1_off14 i v155) a + S1x1024.size a ≤ S400x1024.size a := fun i v155 k1_hw4 k1_h6 => k1_hw4 k1_h6

def k1_off15 : Fin 2 → Nat :=
  let c0_i32_146 : BitVec 32 := 0#32
  let c16_i32_439 : BitVec 32 := 16#32
  let v613 : BitVec 32 := Scalar.muli c0_i32_146 c16_i32_439
  let c4_i32_440 : BitVec 32 := 4#32
  let v614 : BitVec 32 := Scalar.addi v613 c4_i32_440
  let c0_i32_441_r5 : BitVec 32 := 0#32
  ![v614.toNat, 0]
def k1_off16 (i : grid1.Coords) (v160 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v160 c32000_i32_438
  let c99_i32 : BitVec 32 := 99#32
  let v611 : BitVec 32 := Scalar.minsi v610 c99_i32
  let v612 : BitVec 32 := Scalar.addi v20 v611
  let c0_i32_442_r5 : BitVec 32 := 0#32
  ![v612.toNat, 0]
def k1_cond7 (v160 : BitVec 32) : BitVec 1 :=
  let c32000_i32_156 : BitVec 32 := 32000#32
  let v161 : BitVec 1 := Scalar.cmpi .sge v160 c32000_i32_156
  let v162 : BitVec 32 := Scalar.extui v161
  let c0_i32_157 : BitVec 32 := 0#32
  let v163 : BitVec 1 := Scalar.cmpi .ne v162 c0_i32_157
  v163

def k1_chk5 (i : grid1.Coords) (v160 : BitVec 32) : Prop :=
  (∀ (k1_h7 : k1_cond7 v160 = 1#1), ∀ a, (k1_off16 i v160) a + S1x1024.size a ≤ S400x1024.size a)
theorem k1_off16_inb : ∀ (i : grid1.Coords) (v160 : BitVec 32) (k1_hw5 : k1_chk5 i v160), ∀ (k1_h7 : k1_cond7 v160 = 1#1), ∀ a, (k1_off16 i v160) a + S1x1024.size a ≤ S400x1024.size a := fun i v160 k1_hw5 k1_h7 => k1_hw5 k1_h7

def k1_off17 : Fin 2 → Nat :=
  let c0_i32_146 : BitVec 32 := 0#32
  let c16_i32_439 : BitVec 32 := 16#32
  let v613 : BitVec 32 := Scalar.muli c0_i32_146 c16_i32_439
  let c5_i32 : BitVec 32 := 5#32
  let v614 : BitVec 32 := Scalar.addi v613 c5_i32
  let c0_i32_440_r6 : BitVec 32 := 0#32
  ![v614.toNat, 0]
def k1_off18 (i : grid1.Coords) (v165 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v165 c32000_i32_438
  let c99_i32 : BitVec 32 := 99#32
  let v611 : BitVec 32 := Scalar.minsi v610 c99_i32
  let v612 : BitVec 32 := Scalar.addi v20 v611
  let c0_i32_441_r6 : BitVec 32 := 0#32
  ![v612.toNat, 0]
def k1_cond8 (v165 : BitVec 32) : BitVec 1 :=
  let c32000_i32_158 : BitVec 32 := 32000#32
  let v166 : BitVec 1 := Scalar.cmpi .sge v165 c32000_i32_158
  let v167 : BitVec 32 := Scalar.extui v166
  let c0_i32_159 : BitVec 32 := 0#32
  let v168 : BitVec 1 := Scalar.cmpi .ne v167 c0_i32_159
  v168

def k1_chk6 (i : grid1.Coords) (v165 : BitVec 32) : Prop :=
  (∀ (k1_h8 : k1_cond8 v165 = 1#1), ∀ a, (k1_off18 i v165) a + S1x1024.size a ≤ S400x1024.size a)
theorem k1_off18_inb : ∀ (i : grid1.Coords) (v165 : BitVec 32) (k1_hw6 : k1_chk6 i v165), ∀ (k1_h8 : k1_cond8 v165 = 1#1), ∀ a, (k1_off18 i v165) a + S1x1024.size a ≤ S400x1024.size a := fun i v165 k1_hw6 k1_h8 => k1_hw6 k1_h8

def k1_off19 : Fin 2 → Nat :=
  let c0_i32_146 : BitVec 32 := 0#32
  let c16_i32_439 : BitVec 32 := 16#32
  let v613 : BitVec 32 := Scalar.muli c0_i32_146 c16_i32_439
  let c6_i32 : BitVec 32 := 6#32
  let v614 : BitVec 32 := Scalar.addi v613 c6_i32
  let c0_i32_440_r7 : BitVec 32 := 0#32
  ![v614.toNat, 0]
def k1_off20 (i : grid1.Coords) (v170 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v170 c32000_i32_438
  let c99_i32 : BitVec 32 := 99#32
  let v611 : BitVec 32 := Scalar.minsi v610 c99_i32
  let v612 : BitVec 32 := Scalar.addi v20 v611
  let c0_i32_441_r7 : BitVec 32 := 0#32
  ![v612.toNat, 0]
def k1_cond9 (v170 : BitVec 32) : BitVec 1 :=
  let c32000_i32_160 : BitVec 32 := 32000#32
  let v171 : BitVec 1 := Scalar.cmpi .sge v170 c32000_i32_160
  let v172 : BitVec 32 := Scalar.extui v171
  let c0_i32_161 : BitVec 32 := 0#32
  let v173 : BitVec 1 := Scalar.cmpi .ne v172 c0_i32_161
  v173

def k1_chk7 (i : grid1.Coords) (v170 : BitVec 32) : Prop :=
  (∀ (k1_h9 : k1_cond9 v170 = 1#1), ∀ a, (k1_off20 i v170) a + S1x1024.size a ≤ S400x1024.size a)
theorem k1_off20_inb : ∀ (i : grid1.Coords) (v170 : BitVec 32) (k1_hw7 : k1_chk7 i v170), ∀ (k1_h9 : k1_cond9 v170 = 1#1), ∀ a, (k1_off20 i v170) a + S1x1024.size a ≤ S400x1024.size a := fun i v170 k1_hw7 k1_h9 => k1_hw7 k1_h9

def k1_off21 : Fin 2 → Nat :=
  let c0_i32_146 : BitVec 32 := 0#32
  let c16_i32_439 : BitVec 32 := 16#32
  let v613 : BitVec 32 := Scalar.muli c0_i32_146 c16_i32_439
  let c7_i32 : BitVec 32 := 7#32
  let v614 : BitVec 32 := Scalar.addi v613 c7_i32
  let c0_i32_440_r8 : BitVec 32 := 0#32
  ![v614.toNat, 0]
def k1_off22 (i : grid1.Coords) (v175 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v175 c32000_i32_438
  let c99_i32 : BitVec 32 := 99#32
  let v611 : BitVec 32 := Scalar.minsi v610 c99_i32
  let v612 : BitVec 32 := Scalar.addi v20 v611
  let c0_i32_441_r8 : BitVec 32 := 0#32
  ![v612.toNat, 0]
def k1_cond10 (v175 : BitVec 32) : BitVec 1 :=
  let c32000_i32_162 : BitVec 32 := 32000#32
  let v176 : BitVec 1 := Scalar.cmpi .sge v175 c32000_i32_162
  let v177 : BitVec 32 := Scalar.extui v176
  let c0_i32_163 : BitVec 32 := 0#32
  let v178 : BitVec 1 := Scalar.cmpi .ne v177 c0_i32_163
  v178

def k1_chk8 (i : grid1.Coords) (v175 : BitVec 32) : Prop :=
  (∀ (k1_h10 : k1_cond10 v175 = 1#1), ∀ a, (k1_off22 i v175) a + S1x1024.size a ≤ S400x1024.size a)
theorem k1_off22_inb : ∀ (i : grid1.Coords) (v175 : BitVec 32) (k1_hw8 : k1_chk8 i v175), ∀ (k1_h10 : k1_cond10 v175 = 1#1), ∀ a, (k1_off22 i v175) a + S1x1024.size a ≤ S400x1024.size a := fun i v175 k1_hw8 k1_h10 => k1_hw8 k1_h10

def k1_off23 : Fin 2 → Nat :=
  let c0_i32_146 : BitVec 32 := 0#32
  let c16_i32_439 : BitVec 32 := 16#32
  let v613 : BitVec 32 := Scalar.muli c0_i32_146 c16_i32_439
  let c8_i32_440 : BitVec 32 := 8#32
  let v614 : BitVec 32 := Scalar.addi v613 c8_i32_440
  let c0_i32_441_r9 : BitVec 32 := 0#32
  ![v614.toNat, 0]
def k1_off24 (i : grid1.Coords) (v180 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v180 c32000_i32_438
  let c99_i32 : BitVec 32 := 99#32
  let v611 : BitVec 32 := Scalar.minsi v610 c99_i32
  let v612 : BitVec 32 := Scalar.addi v20 v611
  let c0_i32_442_r9 : BitVec 32 := 0#32
  ![v612.toNat, 0]
def k1_cond11 (v180 : BitVec 32) : BitVec 1 :=
  let c32000_i32_164 : BitVec 32 := 32000#32
  let v181 : BitVec 1 := Scalar.cmpi .sge v180 c32000_i32_164
  let v182 : BitVec 32 := Scalar.extui v181
  let c0_i32_165 : BitVec 32 := 0#32
  let v183 : BitVec 1 := Scalar.cmpi .ne v182 c0_i32_165
  v183

def k1_chk9 (i : grid1.Coords) (v180 : BitVec 32) : Prop :=
  (∀ (k1_h11 : k1_cond11 v180 = 1#1), ∀ a, (k1_off24 i v180) a + S1x1024.size a ≤ S400x1024.size a)
theorem k1_off24_inb : ∀ (i : grid1.Coords) (v180 : BitVec 32) (k1_hw9 : k1_chk9 i v180), ∀ (k1_h11 : k1_cond11 v180 = 1#1), ∀ a, (k1_off24 i v180) a + S1x1024.size a ≤ S400x1024.size a := fun i v180 k1_hw9 k1_h11 => k1_hw9 k1_h11

def k1_off25 : Fin 2 → Nat :=
  let c0_i32_146 : BitVec 32 := 0#32
  let c16_i32_439 : BitVec 32 := 16#32
  let v613 : BitVec 32 := Scalar.muli c0_i32_146 c16_i32_439
  let c9_i32 : BitVec 32 := 9#32
  let v614 : BitVec 32 := Scalar.addi v613 c9_i32
  let c0_i32_440_r10 : BitVec 32 := 0#32
  ![v614.toNat, 0]
def k1_off26 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v185 c32000_i32_438
  let c99_i32 : BitVec 32 := 99#32
  let v611 : BitVec 32 := Scalar.minsi v610 c99_i32
  let v612 : BitVec 32 := Scalar.addi v20 v611
  let c0_i32_441_r10 : BitVec 32 := 0#32
  ![v612.toNat, 0]
def k1_cond12 (v185 : BitVec 32) : BitVec 1 :=
  let c32000_i32_166 : BitVec 32 := 32000#32
  let v186 : BitVec 1 := Scalar.cmpi .sge v185 c32000_i32_166
  let v187 : BitVec 32 := Scalar.extui v186
  let c0_i32_167 : BitVec 32 := 0#32
  let v188 : BitVec 1 := Scalar.cmpi .ne v187 c0_i32_167
  v188

def k1_chk10 (i : grid1.Coords) (v185 : BitVec 32) : Prop :=
  (∀ (k1_h12 : k1_cond12 v185 = 1#1), ∀ a, (k1_off26 i v185) a + S1x1024.size a ≤ S400x1024.size a)
theorem k1_off26_inb : ∀ (i : grid1.Coords) (v185 : BitVec 32) (k1_hw10 : k1_chk10 i v185), ∀ (k1_h12 : k1_cond12 v185 = 1#1), ∀ a, (k1_off26 i v185) a + S1x1024.size a ≤ S400x1024.size a := fun i v185 k1_hw10 k1_h12 => k1_hw10 k1_h12

def k1_off27 : Fin 2 → Nat :=
  let c0_i32_146 : BitVec 32 := 0#32
  let c16_i32_439 : BitVec 32 := 16#32
  let v613 : BitVec 32 := Scalar.muli c0_i32_146 c16_i32_439
  let c10_i32 : BitVec 32 := 10#32
  let v614 : BitVec 32 := Scalar.addi v613 c10_i32
  let c0_i32_440_r11 : BitVec 32 := 0#32
  ![v614.toNat, 0]
def k1_off28 (i : grid1.Coords) (v190 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v190 c32000_i32_438
  let c99_i32 : BitVec 32 := 99#32
  let v611 : BitVec 32 := Scalar.minsi v610 c99_i32
  let v612 : BitVec 32 := Scalar.addi v20 v611
  let c0_i32_441_r11 : BitVec 32 := 0#32
  ![v612.toNat, 0]
def k1_cond13 (v190 : BitVec 32) : BitVec 1 :=
  let c32000_i32_168 : BitVec 32 := 32000#32
  let v191 : BitVec 1 := Scalar.cmpi .sge v190 c32000_i32_168
  let v192 : BitVec 32 := Scalar.extui v191
  let c0_i32_169 : BitVec 32 := 0#32
  let v193 : BitVec 1 := Scalar.cmpi .ne v192 c0_i32_169
  v193

def k1_chk11 (i : grid1.Coords) (v190 : BitVec 32) : Prop :=
  (∀ (k1_h13 : k1_cond13 v190 = 1#1), ∀ a, (k1_off28 i v190) a + S1x1024.size a ≤ S400x1024.size a)
theorem k1_off28_inb : ∀ (i : grid1.Coords) (v190 : BitVec 32) (k1_hw11 : k1_chk11 i v190), ∀ (k1_h13 : k1_cond13 v190 = 1#1), ∀ a, (k1_off28 i v190) a + S1x1024.size a ≤ S400x1024.size a := fun i v190 k1_hw11 k1_h13 => k1_hw11 k1_h13

def k1_off29 : Fin 2 → Nat :=
  let c0_i32_146 : BitVec 32 := 0#32
  let c16_i32_439 : BitVec 32 := 16#32
  let v613 : BitVec 32 := Scalar.muli c0_i32_146 c16_i32_439
  let c11_i32 : BitVec 32 := 11#32
  let v614 : BitVec 32 := Scalar.addi v613 c11_i32
  let c0_i32_440_r12 : BitVec 32 := 0#32
  ![v614.toNat, 0]
def k1_off30 (i : grid1.Coords) (v195 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v195 c32000_i32_438
  let c99_i32 : BitVec 32 := 99#32
  let v611 : BitVec 32 := Scalar.minsi v610 c99_i32
  let v612 : BitVec 32 := Scalar.addi v20 v611
  let c0_i32_441_r12 : BitVec 32 := 0#32
  ![v612.toNat, 0]
def k1_cond14 (v195 : BitVec 32) : BitVec 1 :=
  let c32000_i32_170 : BitVec 32 := 32000#32
  let v196 : BitVec 1 := Scalar.cmpi .sge v195 c32000_i32_170
  let v197 : BitVec 32 := Scalar.extui v196
  let c0_i32_171 : BitVec 32 := 0#32
  let v198 : BitVec 1 := Scalar.cmpi .ne v197 c0_i32_171
  v198

def k1_chk12 (i : grid1.Coords) (v195 : BitVec 32) : Prop :=
  (∀ (k1_h14 : k1_cond14 v195 = 1#1), ∀ a, (k1_off30 i v195) a + S1x1024.size a ≤ S400x1024.size a)
theorem k1_off30_inb : ∀ (i : grid1.Coords) (v195 : BitVec 32) (k1_hw12 : k1_chk12 i v195), ∀ (k1_h14 : k1_cond14 v195 = 1#1), ∀ a, (k1_off30 i v195) a + S1x1024.size a ≤ S400x1024.size a := fun i v195 k1_hw12 k1_h14 => k1_hw12 k1_h14

def k1_off31 : Fin 2 → Nat :=
  let c0_i32_146 : BitVec 32 := 0#32
  let c16_i32_439 : BitVec 32 := 16#32
  let v613 : BitVec 32 := Scalar.muli c0_i32_146 c16_i32_439
  let c12_i32 : BitVec 32 := 12#32
  let v614 : BitVec 32 := Scalar.addi v613 c12_i32
  let c0_i32_440_r13 : BitVec 32 := 0#32
  ![v614.toNat, 0]
def k1_off32 (i : grid1.Coords) (v200 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v200 c32000_i32_438
  let c99_i32 : BitVec 32 := 99#32
  let v611 : BitVec 32 := Scalar.minsi v610 c99_i32
  let v612 : BitVec 32 := Scalar.addi v20 v611
  let c0_i32_441_r13 : BitVec 32 := 0#32
  ![v612.toNat, 0]
def k1_cond15 (v200 : BitVec 32) : BitVec 1 :=
  let c32000_i32_172 : BitVec 32 := 32000#32
  let v201 : BitVec 1 := Scalar.cmpi .sge v200 c32000_i32_172
  let v202 : BitVec 32 := Scalar.extui v201
  let c0_i32_173 : BitVec 32 := 0#32
  let v203 : BitVec 1 := Scalar.cmpi .ne v202 c0_i32_173
  v203

def k1_chk13 (i : grid1.Coords) (v200 : BitVec 32) : Prop :=
  (∀ (k1_h15 : k1_cond15 v200 = 1#1), ∀ a, (k1_off32 i v200) a + S1x1024.size a ≤ S400x1024.size a)
theorem k1_off32_inb : ∀ (i : grid1.Coords) (v200 : BitVec 32) (k1_hw13 : k1_chk13 i v200), ∀ (k1_h15 : k1_cond15 v200 = 1#1), ∀ a, (k1_off32 i v200) a + S1x1024.size a ≤ S400x1024.size a := fun i v200 k1_hw13 k1_h15 => k1_hw13 k1_h15

def k1_off33 : Fin 2 → Nat :=
  let c0_i32_146 : BitVec 32 := 0#32
  let c16_i32_439 : BitVec 32 := 16#32
  let v613 : BitVec 32 := Scalar.muli c0_i32_146 c16_i32_439
  let c13_i32 : BitVec 32 := 13#32
  let v614 : BitVec 32 := Scalar.addi v613 c13_i32
  let c0_i32_440_r14 : BitVec 32 := 0#32
  ![v614.toNat, 0]
def k1_off34 (i : grid1.Coords) (v205 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v205 c32000_i32_438
  let c99_i32 : BitVec 32 := 99#32
  let v611 : BitVec 32 := Scalar.minsi v610 c99_i32
  let v612 : BitVec 32 := Scalar.addi v20 v611
  let c0_i32_441_r14 : BitVec 32 := 0#32
  ![v612.toNat, 0]
def k1_cond16 (v205 : BitVec 32) : BitVec 1 :=
  let c32000_i32_174 : BitVec 32 := 32000#32
  let v206 : BitVec 1 := Scalar.cmpi .sge v205 c32000_i32_174
  let v207 : BitVec 32 := Scalar.extui v206
  let c0_i32_175 : BitVec 32 := 0#32
  let v208 : BitVec 1 := Scalar.cmpi .ne v207 c0_i32_175
  v208

def k1_chk14 (i : grid1.Coords) (v205 : BitVec 32) : Prop :=
  (∀ (k1_h16 : k1_cond16 v205 = 1#1), ∀ a, (k1_off34 i v205) a + S1x1024.size a ≤ S400x1024.size a)
theorem k1_off34_inb : ∀ (i : grid1.Coords) (v205 : BitVec 32) (k1_hw14 : k1_chk14 i v205), ∀ (k1_h16 : k1_cond16 v205 = 1#1), ∀ a, (k1_off34 i v205) a + S1x1024.size a ≤ S400x1024.size a := fun i v205 k1_hw14 k1_h16 => k1_hw14 k1_h16

def k1_off35 : Fin 2 → Nat :=
  let c0_i32_146 : BitVec 32 := 0#32
  let c16_i32_439 : BitVec 32 := 16#32
  let v613 : BitVec 32 := Scalar.muli c0_i32_146 c16_i32_439
  let c14_i32 : BitVec 32 := 14#32
  let v614 : BitVec 32 := Scalar.addi v613 c14_i32
  let c0_i32_440_r15 : BitVec 32 := 0#32
  ![v614.toNat, 0]
def k1_off36 (i : grid1.Coords) (v210 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v210 c32000_i32_438
  let c99_i32 : BitVec 32 := 99#32
  let v611 : BitVec 32 := Scalar.minsi v610 c99_i32
  let v612 : BitVec 32 := Scalar.addi v20 v611
  let c0_i32_441_r15 : BitVec 32 := 0#32
  ![v612.toNat, 0]
def k1_cond17 (v210 : BitVec 32) : BitVec 1 :=
  let c32000_i32_176 : BitVec 32 := 32000#32
  let v211 : BitVec 1 := Scalar.cmpi .sge v210 c32000_i32_176
  let v212 : BitVec 32 := Scalar.extui v211
  let c0_i32_177 : BitVec 32 := 0#32
  let v213 : BitVec 1 := Scalar.cmpi .ne v212 c0_i32_177
  v213

def k1_chk15 (i : grid1.Coords) (v210 : BitVec 32) : Prop :=
  (∀ (k1_h17 : k1_cond17 v210 = 1#1), ∀ a, (k1_off36 i v210) a + S1x1024.size a ≤ S400x1024.size a)
theorem k1_off36_inb : ∀ (i : grid1.Coords) (v210 : BitVec 32) (k1_hw15 : k1_chk15 i v210), ∀ (k1_h17 : k1_cond17 v210 = 1#1), ∀ a, (k1_off36 i v210) a + S1x1024.size a ≤ S400x1024.size a := fun i v210 k1_hw15 k1_h17 => k1_hw15 k1_h17

def k1_off37 : Fin 2 → Nat :=
  let c0_i32_146 : BitVec 32 := 0#32
  let c16_i32_439 : BitVec 32 := 16#32
  let v613 : BitVec 32 := Scalar.muli c0_i32_146 c16_i32_439
  let c15_i32 : BitVec 32 := 15#32
  let v614 : BitVec 32 := Scalar.addi v613 c15_i32
  let c0_i32_440_r16 : BitVec 32 := 0#32
  ![v614.toNat, 0]
def k1_off38 (i : grid1.Coords) (v215 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v215 c32000_i32_438
  let c99_i32 : BitVec 32 := 99#32
  let v611 : BitVec 32 := Scalar.minsi v610 c99_i32
  let v612 : BitVec 32 := Scalar.addi v20 v611
  let c0_i32_441_r16 : BitVec 32 := 0#32
  ![v612.toNat, 0]
def k1_cond18 (v215 : BitVec 32) : BitVec 1 :=
  let c32000_i32_178 : BitVec 32 := 32000#32
  let v216 : BitVec 1 := Scalar.cmpi .sge v215 c32000_i32_178
  let v217 : BitVec 32 := Scalar.extui v216
  let c0_i32_179 : BitVec 32 := 0#32
  let v218 : BitVec 1 := Scalar.cmpi .ne v217 c0_i32_179
  v218

def k1_chk16 (i : grid1.Coords) (v215 : BitVec 32) : Prop :=
  (∀ (k1_h18 : k1_cond18 v215 = 1#1), ∀ a, (k1_off38 i v215) a + S1x1024.size a ≤ S400x1024.size a)
theorem k1_off38_inb : ∀ (i : grid1.Coords) (v215 : BitVec 32) (k1_hw16 : k1_chk16 i v215), ∀ (k1_h18 : k1_cond18 v215 = 1#1), ∀ a, (k1_off38 i v215) a + S1x1024.size a ≤ S400x1024.size a := fun i v215 k1_hw16 k1_h18 => k1_hw16 k1_h18

def k1_off39 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32 : BitVec 32 := 4#32
  let v94 : BitVec 32 := Scalar.muli arg20 c4_i32
  let c0_i32_101 : BitVec 32 := 0#32
  let v95 : BitVec 32 := Scalar.addi v94 c0_i32_101
  let c16_i32_181 : BitVec 32 := 16#32
  let v219 : BitVec 32 := Scalar.muli v95 c16_i32_181
  let v220 : BitVec 32 := Scalar.addi v2 v219
  let c0_i32_182 : BitVec 32 := 0#32
  ![v220.toNat, 0]
def k1_off40 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c16_i32_186 : BitVec 32 := 16#32
  let v225 : BitVec 32 := Scalar.muli v224 c16_i32_186
  ![v225.toNat]
def k1_cond19 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c2_i32_226 : BitVec 32 := 2#32
  let v257 : BitVec 32 := Scalar.addi v224 c2_i32_226
  let c32_i32_227 : BitVec 32 := 32#32
  let v258 : BitVec 1 := Scalar.cmpi .slt v257 c32_i32_227
  let v259 : BitVec 32 := Scalar.extui v258
  let c0_i32_228 : BitVec 32 := 0#32
  let v260 : BitVec 1 := Scalar.cmpi .ne v259 c0_i32_228
  v260

def k1_cond20 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c2_i32_438 : BitVec 32 := 2#32
  let v610 : BitVec 32 := Scalar.addi v224 c2_i32_438
  let c4_i32_439 : BitVec 32 := 4#32
  let v611 : BitVec 1 := Scalar.cmpi .sge v610 c4_i32_439
  let v612 : BitVec 32 := Scalar.extui v611
  let c0_i32_440 : BitVec 32 := 0#32
  let v613 : BitVec 1 := Scalar.cmpi .ne v612 c0_i32_440
  v613

def k1_off41 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c2_i32_482 : BitVec 32 := 2#32
  let v647 : BitVec 32 := Scalar.addi v224 c2_i32_482
  let c4_i32_483 : BitVec 32 := 4#32
  let v648 : BitVec 32 := Scalar.subi v647 c4_i32_483
  let c16_i32_484 : BitVec 32 := 16#32
  let v649 : BitVec 32 := Scalar.muli v648 c16_i32_484
  let v650 : BitVec 32 := Scalar.addi v2 v649
  let c0_i32_485 : BitVec 32 := 0#32
  ![v650.toNat, 0]
def k1_off42 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c2_i32_441 : BitVec 32 := 2#32
  let v614 : BitVec 32 := Scalar.addi v224 c2_i32_441
  let c16_i32_442 : BitVec 32 := 16#32
  let v615 : BitVec 32 := Scalar.muli v614 c16_i32_442
  ![v615.toNat]
def k1_mult3 (k1_t2 : Fin k1_t2_loop.trips) : BitVec 32 :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c16_i32_231 : BitVec 32 := 16#32
  let v261 : BitVec 32 := Scalar.muli v224 c16_i32_231
  let c0_i32_230 : BitVec 32 := 0#32
  let c16_i32_232 : BitVec 32 := 16#32
  let v262 : BitVec 32 := Scalar.muli c0_i32_230 c16_i32_232
  let v263 : BitVec 32 := Scalar.addi v261 v262
  v263
def k1_off43 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c16_i32_231 : BitVec 32 := 16#32
  let v261 : BitVec 32 := Scalar.muli v224 c16_i32_231
  let c0_i32_230 : BitVec 32 := 0#32
  let c16_i32_232 : BitVec 32 := 16#32
  let v262 : BitVec 32 := Scalar.muli c0_i32_230 c16_i32_232
  let v263 : BitVec 32 := Scalar.addi v261 v262
  let v264 : BitVec 32 := v263
  let v265 : Index := Scalar.indexCast v264
  ![v265.toNat]
def k1_off44 : Fin 2 → Nat :=
  let c0_i32_230 : BitVec 32 := 0#32
  let c16_i32_439 : BitVec 32 := 16#32
  let v613 : BitVec 32 := Scalar.muli c0_i32_230 c16_i32_439
  let c0_i32_440 : BitVec 32 := 0#32
  let v614 : BitVec 32 := Scalar.addi v613 c0_i32_440
  let c0_i32_441_r17 : BitVec 32 := 0#32
  ![v614.toNat, 0]
def k1_off45 (i : grid1.Coords) (v269 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v269 c32000_i32_438
  let c99_i32 : BitVec 32 := 99#32
  let v611 : BitVec 32 := Scalar.minsi v610 c99_i32
  let v612 : BitVec 32 := Scalar.addi v20 v611
  let c0_i32_442_r17 : BitVec 32 := 0#32
  ![v612.toNat, 0]
def k1_cond21 (v269 : BitVec 32) : BitVec 1 :=
  let c32000_i32_233 : BitVec 32 := 32000#32
  let v270 : BitVec 1 := Scalar.cmpi .sge v269 c32000_i32_233
  let v271 : BitVec 32 := Scalar.extui v270
  let c0_i32_234 : BitVec 32 := 0#32
  let v272 : BitVec 1 := Scalar.cmpi .ne v271 c0_i32_234
  v272

def k1_chk17 (i : grid1.Coords) (v269 : BitVec 32) : Prop :=
  (∀ (k1_h21 : k1_cond21 v269 = 1#1), ∀ a, (k1_off45 i v269) a + S1x1024.size a ≤ S400x1024.size a)
theorem k1_off45_inb : ∀ (i : grid1.Coords) (v269 : BitVec 32) (k1_hw17 : k1_chk17 i v269), ∀ (k1_h21 : k1_cond21 v269 = 1#1), ∀ a, (k1_off45 i v269) a + S1x1024.size a ≤ S400x1024.size a := fun i v269 k1_hw17 k1_h21 => k1_hw17 k1_h21

def k1_off46 : Fin 2 → Nat :=
  let c0_i32_230 : BitVec 32 := 0#32
  let c16_i32_439 : BitVec 32 := 16#32
  let v613 : BitVec 32 := Scalar.muli c0_i32_230 c16_i32_439
  let c1_i32_440 : BitVec 32 := 1#32
  let v614 : BitVec 32 := Scalar.addi v613 c1_i32_440
  let c0_i32_441_r18 : BitVec 32 := 0#32
  ![v614.toNat, 0]
def k1_off47 (i : grid1.Coords) (v274 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v274 c32000_i32_438
  let c99_i32 : BitVec 32 := 99#32
  let v611 : BitVec 32 := Scalar.minsi v610 c99_i32
  let v612 : BitVec 32 := Scalar.addi v20 v611
  let c0_i32_442_r18 : BitVec 32 := 0#32
  ![v612.toNat, 0]
def k1_cond22 (v274 : BitVec 32) : BitVec 1 :=
  let c32000_i32_235 : BitVec 32 := 32000#32
  let v275 : BitVec 1 := Scalar.cmpi .sge v274 c32000_i32_235
  let v276 : BitVec 32 := Scalar.extui v275
  let c0_i32_236 : BitVec 32 := 0#32
  let v277 : BitVec 1 := Scalar.cmpi .ne v276 c0_i32_236
  v277

def k1_chk18 (i : grid1.Coords) (v274 : BitVec 32) : Prop :=
  (∀ (k1_h22 : k1_cond22 v274 = 1#1), ∀ a, (k1_off47 i v274) a + S1x1024.size a ≤ S400x1024.size a)
theorem k1_off47_inb : ∀ (i : grid1.Coords) (v274 : BitVec 32) (k1_hw18 : k1_chk18 i v274), ∀ (k1_h22 : k1_cond22 v274 = 1#1), ∀ a, (k1_off47 i v274) a + S1x1024.size a ≤ S400x1024.size a := fun i v274 k1_hw18 k1_h22 => k1_hw18 k1_h22

def k1_off48 : Fin 2 → Nat :=
  let c0_i32_230 : BitVec 32 := 0#32
  let c16_i32_439 : BitVec 32 := 16#32
  let v613 : BitVec 32 := Scalar.muli c0_i32_230 c16_i32_439
  let c2_i32_440 : BitVec 32 := 2#32
  let v614 : BitVec 32 := Scalar.addi v613 c2_i32_440
  let c0_i32_441_r19 : BitVec 32 := 0#32
  ![v614.toNat, 0]
def k1_off49 (i : grid1.Coords) (v279 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v279 c32000_i32_438
  let c99_i32 : BitVec 32 := 99#32
  let v611 : BitVec 32 := Scalar.minsi v610 c99_i32
  let v612 : BitVec 32 := Scalar.addi v20 v611
  let c0_i32_442_r19 : BitVec 32 := 0#32
  ![v612.toNat, 0]
def k1_cond23 (v279 : BitVec 32) : BitVec 1 :=
  let c32000_i32_237 : BitVec 32 := 32000#32
  let v280 : BitVec 1 := Scalar.cmpi .sge v279 c32000_i32_237
  let v281 : BitVec 32 := Scalar.extui v280
  let c0_i32_238 : BitVec 32 := 0#32
  let v282 : BitVec 1 := Scalar.cmpi .ne v281 c0_i32_238
  v282

def k1_chk19 (i : grid1.Coords) (v279 : BitVec 32) : Prop :=
  (∀ (k1_h23 : k1_cond23 v279 = 1#1), ∀ a, (k1_off49 i v279) a + S1x1024.size a ≤ S400x1024.size a)
theorem k1_off49_inb : ∀ (i : grid1.Coords) (v279 : BitVec 32) (k1_hw19 : k1_chk19 i v279), ∀ (k1_h23 : k1_cond23 v279 = 1#1), ∀ a, (k1_off49 i v279) a + S1x1024.size a ≤ S400x1024.size a := fun i v279 k1_hw19 k1_h23 => k1_hw19 k1_h23

def k1_off50 : Fin 2 → Nat :=
  let c0_i32_230 : BitVec 32 := 0#32
  let c16_i32_439 : BitVec 32 := 16#32
  let v613 : BitVec 32 := Scalar.muli c0_i32_230 c16_i32_439
  let c3_i32_440 : BitVec 32 := 3#32
  let v614 : BitVec 32 := Scalar.addi v613 c3_i32_440
  let c0_i32_441_r20 : BitVec 32 := 0#32
  ![v614.toNat, 0]
def k1_off51 (i : grid1.Coords) (v284 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v284 c32000_i32_438
  let c99_i32 : BitVec 32 := 99#32
  let v611 : BitVec 32 := Scalar.minsi v610 c99_i32
  let v612 : BitVec 32 := Scalar.addi v20 v611
  let c0_i32_442_r20 : BitVec 32 := 0#32
  ![v612.toNat, 0]
def k1_cond24 (v284 : BitVec 32) : BitVec 1 :=
  let c32000_i32_239 : BitVec 32 := 32000#32
  let v285 : BitVec 1 := Scalar.cmpi .sge v284 c32000_i32_239
  let v286 : BitVec 32 := Scalar.extui v285
  let c0_i32_240 : BitVec 32 := 0#32
  let v287 : BitVec 1 := Scalar.cmpi .ne v286 c0_i32_240
  v287

def k1_chk20 (i : grid1.Coords) (v284 : BitVec 32) : Prop :=
  (∀ (k1_h24 : k1_cond24 v284 = 1#1), ∀ a, (k1_off51 i v284) a + S1x1024.size a ≤ S400x1024.size a)
theorem k1_off51_inb : ∀ (i : grid1.Coords) (v284 : BitVec 32) (k1_hw20 : k1_chk20 i v284), ∀ (k1_h24 : k1_cond24 v284 = 1#1), ∀ a, (k1_off51 i v284) a + S1x1024.size a ≤ S400x1024.size a := fun i v284 k1_hw20 k1_h24 => k1_hw20 k1_h24

def k1_off52 : Fin 2 → Nat :=
  let c0_i32_230 : BitVec 32 := 0#32
  let c16_i32_439 : BitVec 32 := 16#32
  let v613 : BitVec 32 := Scalar.muli c0_i32_230 c16_i32_439
  let c4_i32_440 : BitVec 32 := 4#32
  let v614 : BitVec 32 := Scalar.addi v613 c4_i32_440
  let c0_i32_441_r21 : BitVec 32 := 0#32
  ![v614.toNat, 0]
def k1_off53 (i : grid1.Coords) (v289 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v289 c32000_i32_438
  let c99_i32 : BitVec 32 := 99#32
  let v611 : BitVec 32 := Scalar.minsi v610 c99_i32
  let v612 : BitVec 32 := Scalar.addi v20 v611
  let c0_i32_442_r21 : BitVec 32 := 0#32
  ![v612.toNat, 0]
def k1_cond25 (v289 : BitVec 32) : BitVec 1 :=
  let c32000_i32_241 : BitVec 32 := 32000#32
  let v290 : BitVec 1 := Scalar.cmpi .sge v289 c32000_i32_241
  let v291 : BitVec 32 := Scalar.extui v290
  let c0_i32_242 : BitVec 32 := 0#32
  let v292 : BitVec 1 := Scalar.cmpi .ne v291 c0_i32_242
  v292

def k1_chk21 (i : grid1.Coords) (v289 : BitVec 32) : Prop :=
  (∀ (k1_h25 : k1_cond25 v289 = 1#1), ∀ a, (k1_off53 i v289) a + S1x1024.size a ≤ S400x1024.size a)
theorem k1_off53_inb : ∀ (i : grid1.Coords) (v289 : BitVec 32) (k1_hw21 : k1_chk21 i v289), ∀ (k1_h25 : k1_cond25 v289 = 1#1), ∀ a, (k1_off53 i v289) a + S1x1024.size a ≤ S400x1024.size a := fun i v289 k1_hw21 k1_h25 => k1_hw21 k1_h25

def k1_off54 : Fin 2 → Nat :=
  let c0_i32_230 : BitVec 32 := 0#32
  let c16_i32_439 : BitVec 32 := 16#32
  let v613 : BitVec 32 := Scalar.muli c0_i32_230 c16_i32_439
  let c5_i32 : BitVec 32 := 5#32
  let v614 : BitVec 32 := Scalar.addi v613 c5_i32
  let c0_i32_440_r22 : BitVec 32 := 0#32
  ![v614.toNat, 0]
def k1_off55 (i : grid1.Coords) (v294 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v294 c32000_i32_438
  let c99_i32 : BitVec 32 := 99#32
  let v611 : BitVec 32 := Scalar.minsi v610 c99_i32
  let v612 : BitVec 32 := Scalar.addi v20 v611
  let c0_i32_441_r22 : BitVec 32 := 0#32
  ![v612.toNat, 0]
def k1_cond26 (v294 : BitVec 32) : BitVec 1 :=
  let c32000_i32_243 : BitVec 32 := 32000#32
  let v295 : BitVec 1 := Scalar.cmpi .sge v294 c32000_i32_243
  let v296 : BitVec 32 := Scalar.extui v295
  let c0_i32_244 : BitVec 32 := 0#32
  let v297 : BitVec 1 := Scalar.cmpi .ne v296 c0_i32_244
  v297

def k1_chk22 (i : grid1.Coords) (v294 : BitVec 32) : Prop :=
  (∀ (k1_h26 : k1_cond26 v294 = 1#1), ∀ a, (k1_off55 i v294) a + S1x1024.size a ≤ S400x1024.size a)
theorem k1_off55_inb : ∀ (i : grid1.Coords) (v294 : BitVec 32) (k1_hw22 : k1_chk22 i v294), ∀ (k1_h26 : k1_cond26 v294 = 1#1), ∀ a, (k1_off55 i v294) a + S1x1024.size a ≤ S400x1024.size a := fun i v294 k1_hw22 k1_h26 => k1_hw22 k1_h26

def k1_off56 : Fin 2 → Nat :=
  let c0_i32_230 : BitVec 32 := 0#32
  let c16_i32_439 : BitVec 32 := 16#32
  let v613 : BitVec 32 := Scalar.muli c0_i32_230 c16_i32_439
  let c6_i32 : BitVec 32 := 6#32
  let v614 : BitVec 32 := Scalar.addi v613 c6_i32
  let c0_i32_440_r23 : BitVec 32 := 0#32
  ![v614.toNat, 0]
def k1_off57 (i : grid1.Coords) (v299 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v299 c32000_i32_438
  let c99_i32 : BitVec 32 := 99#32
  let v611 : BitVec 32 := Scalar.minsi v610 c99_i32
  let v612 : BitVec 32 := Scalar.addi v20 v611
  let c0_i32_441_r23 : BitVec 32 := 0#32
  ![v612.toNat, 0]
def k1_cond27 (v299 : BitVec 32) : BitVec 1 :=
  let c32000_i32_245 : BitVec 32 := 32000#32
  let v300 : BitVec 1 := Scalar.cmpi .sge v299 c32000_i32_245
  let v301 : BitVec 32 := Scalar.extui v300
  let c0_i32_246 : BitVec 32 := 0#32
  let v302 : BitVec 1 := Scalar.cmpi .ne v301 c0_i32_246
  v302

def k1_chk23 (i : grid1.Coords) (v299 : BitVec 32) : Prop :=
  (∀ (k1_h27 : k1_cond27 v299 = 1#1), ∀ a, (k1_off57 i v299) a + S1x1024.size a ≤ S400x1024.size a)
theorem k1_off57_inb : ∀ (i : grid1.Coords) (v299 : BitVec 32) (k1_hw23 : k1_chk23 i v299), ∀ (k1_h27 : k1_cond27 v299 = 1#1), ∀ a, (k1_off57 i v299) a + S1x1024.size a ≤ S400x1024.size a := fun i v299 k1_hw23 k1_h27 => k1_hw23 k1_h27

def k1_off58 : Fin 2 → Nat :=
  let c0_i32_230 : BitVec 32 := 0#32
  let c16_i32_439 : BitVec 32 := 16#32
  let v613 : BitVec 32 := Scalar.muli c0_i32_230 c16_i32_439
  let c7_i32 : BitVec 32 := 7#32
  let v614 : BitVec 32 := Scalar.addi v613 c7_i32
  let c0_i32_440_r24 : BitVec 32 := 0#32
  ![v614.toNat, 0]
def k1_off59 (i : grid1.Coords) (v304 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v304 c32000_i32_438
  let c99_i32 : BitVec 32 := 99#32
  let v611 : BitVec 32 := Scalar.minsi v610 c99_i32
  let v612 : BitVec 32 := Scalar.addi v20 v611
  let c0_i32_441_r24 : BitVec 32 := 0#32
  ![v612.toNat, 0]
def k1_cond28 (v304 : BitVec 32) : BitVec 1 :=
  let c32000_i32_247 : BitVec 32 := 32000#32
  let v305 : BitVec 1 := Scalar.cmpi .sge v304 c32000_i32_247
  let v306 : BitVec 32 := Scalar.extui v305
  let c0_i32_248 : BitVec 32 := 0#32
  let v307 : BitVec 1 := Scalar.cmpi .ne v306 c0_i32_248
  v307

def k1_chk24 (i : grid1.Coords) (v304 : BitVec 32) : Prop :=
  (∀ (k1_h28 : k1_cond28 v304 = 1#1), ∀ a, (k1_off59 i v304) a + S1x1024.size a ≤ S400x1024.size a)
theorem k1_off59_inb : ∀ (i : grid1.Coords) (v304 : BitVec 32) (k1_hw24 : k1_chk24 i v304), ∀ (k1_h28 : k1_cond28 v304 = 1#1), ∀ a, (k1_off59 i v304) a + S1x1024.size a ≤ S400x1024.size a := fun i v304 k1_hw24 k1_h28 => k1_hw24 k1_h28

def k1_off60 : Fin 2 → Nat :=
  let c0_i32_230 : BitVec 32 := 0#32
  let c16_i32_439 : BitVec 32 := 16#32
  let v613 : BitVec 32 := Scalar.muli c0_i32_230 c16_i32_439
  let c8_i32_440 : BitVec 32 := 8#32
  let v614 : BitVec 32 := Scalar.addi v613 c8_i32_440
  let c0_i32_441_r25 : BitVec 32 := 0#32
  ![v614.toNat, 0]
def k1_off61 (i : grid1.Coords) (v309 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v309 c32000_i32_438
  let c99_i32 : BitVec 32 := 99#32
  let v611 : BitVec 32 := Scalar.minsi v610 c99_i32
  let v612 : BitVec 32 := Scalar.addi v20 v611
  let c0_i32_442_r25 : BitVec 32 := 0#32
  ![v612.toNat, 0]
def k1_cond29 (v309 : BitVec 32) : BitVec 1 :=
  let c32000_i32_249 : BitVec 32 := 32000#32
  let v310 : BitVec 1 := Scalar.cmpi .sge v309 c32000_i32_249
  let v311 : BitVec 32 := Scalar.extui v310
  let c0_i32_250 : BitVec 32 := 0#32
  let v312 : BitVec 1 := Scalar.cmpi .ne v311 c0_i32_250
  v312

def k1_chk25 (i : grid1.Coords) (v309 : BitVec 32) : Prop :=
  (∀ (k1_h29 : k1_cond29 v309 = 1#1), ∀ a, (k1_off61 i v309) a + S1x1024.size a ≤ S400x1024.size a)
theorem k1_off61_inb : ∀ (i : grid1.Coords) (v309 : BitVec 32) (k1_hw25 : k1_chk25 i v309), ∀ (k1_h29 : k1_cond29 v309 = 1#1), ∀ a, (k1_off61 i v309) a + S1x1024.size a ≤ S400x1024.size a := fun i v309 k1_hw25 k1_h29 => k1_hw25 k1_h29

def k1_off62 : Fin 2 → Nat :=
  let c0_i32_230 : BitVec 32 := 0#32
  let c16_i32_439 : BitVec 32 := 16#32
  let v613 : BitVec 32 := Scalar.muli c0_i32_230 c16_i32_439
  let c9_i32 : BitVec 32 := 9#32
  let v614 : BitVec 32 := Scalar.addi v613 c9_i32
  let c0_i32_440_r26 : BitVec 32 := 0#32
  ![v614.toNat, 0]
def k1_off63 (i : grid1.Coords) (v314 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v314 c32000_i32_438
  let c99_i32 : BitVec 32 := 99#32
  let v611 : BitVec 32 := Scalar.minsi v610 c99_i32
  let v612 : BitVec 32 := Scalar.addi v20 v611
  let c0_i32_441_r26 : BitVec 32 := 0#32
  ![v612.toNat, 0]
def k1_cond30 (v314 : BitVec 32) : BitVec 1 :=
  let c32000_i32_251 : BitVec 32 := 32000#32
  let v315 : BitVec 1 := Scalar.cmpi .sge v314 c32000_i32_251
  let v316 : BitVec 32 := Scalar.extui v315
  let c0_i32_252 : BitVec 32 := 0#32
  let v317 : BitVec 1 := Scalar.cmpi .ne v316 c0_i32_252
  v317

def k1_chk26 (i : grid1.Coords) (v314 : BitVec 32) : Prop :=
  (∀ (k1_h30 : k1_cond30 v314 = 1#1), ∀ a, (k1_off63 i v314) a + S1x1024.size a ≤ S400x1024.size a)
theorem k1_off63_inb : ∀ (i : grid1.Coords) (v314 : BitVec 32) (k1_hw26 : k1_chk26 i v314), ∀ (k1_h30 : k1_cond30 v314 = 1#1), ∀ a, (k1_off63 i v314) a + S1x1024.size a ≤ S400x1024.size a := fun i v314 k1_hw26 k1_h30 => k1_hw26 k1_h30

def k1_off64 : Fin 2 → Nat :=
  let c0_i32_230 : BitVec 32 := 0#32
  let c16_i32_439 : BitVec 32 := 16#32
  let v613 : BitVec 32 := Scalar.muli c0_i32_230 c16_i32_439
  let c10_i32 : BitVec 32 := 10#32
  let v614 : BitVec 32 := Scalar.addi v613 c10_i32
  let c0_i32_440_r27 : BitVec 32 := 0#32
  ![v614.toNat, 0]
def k1_off65 (i : grid1.Coords) (v319 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v319 c32000_i32_438
  let c99_i32 : BitVec 32 := 99#32
  let v611 : BitVec 32 := Scalar.minsi v610 c99_i32
  let v612 : BitVec 32 := Scalar.addi v20 v611
  let c0_i32_441_r27 : BitVec 32 := 0#32
  ![v612.toNat, 0]
def k1_cond31 (v319 : BitVec 32) : BitVec 1 :=
  let c32000_i32_253 : BitVec 32 := 32000#32
  let v320 : BitVec 1 := Scalar.cmpi .sge v319 c32000_i32_253
  let v321 : BitVec 32 := Scalar.extui v320
  let c0_i32_254 : BitVec 32 := 0#32
  let v322 : BitVec 1 := Scalar.cmpi .ne v321 c0_i32_254
  v322

def k1_chk27 (i : grid1.Coords) (v319 : BitVec 32) : Prop :=
  (∀ (k1_h31 : k1_cond31 v319 = 1#1), ∀ a, (k1_off65 i v319) a + S1x1024.size a ≤ S400x1024.size a)
theorem k1_off65_inb : ∀ (i : grid1.Coords) (v319 : BitVec 32) (k1_hw27 : k1_chk27 i v319), ∀ (k1_h31 : k1_cond31 v319 = 1#1), ∀ a, (k1_off65 i v319) a + S1x1024.size a ≤ S400x1024.size a := fun i v319 k1_hw27 k1_h31 => k1_hw27 k1_h31

def k1_off66 : Fin 2 → Nat :=
  let c0_i32_230 : BitVec 32 := 0#32
  let c16_i32_439 : BitVec 32 := 16#32
  let v613 : BitVec 32 := Scalar.muli c0_i32_230 c16_i32_439
  let c11_i32 : BitVec 32 := 11#32
  let v614 : BitVec 32 := Scalar.addi v613 c11_i32
  let c0_i32_440_r28 : BitVec 32 := 0#32
  ![v614.toNat, 0]
def k1_off67 (i : grid1.Coords) (v324 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v324 c32000_i32_438
  let c99_i32 : BitVec 32 := 99#32
  let v611 : BitVec 32 := Scalar.minsi v610 c99_i32
  let v612 : BitVec 32 := Scalar.addi v20 v611
  let c0_i32_441_r28 : BitVec 32 := 0#32
  ![v612.toNat, 0]
def k1_cond32 (v324 : BitVec 32) : BitVec 1 :=
  let c32000_i32_255 : BitVec 32 := 32000#32
  let v325 : BitVec 1 := Scalar.cmpi .sge v324 c32000_i32_255
  let v326 : BitVec 32 := Scalar.extui v325
  let c0_i32_256 : BitVec 32 := 0#32
  let v327 : BitVec 1 := Scalar.cmpi .ne v326 c0_i32_256
  v327

def k1_chk28 (i : grid1.Coords) (v324 : BitVec 32) : Prop :=
  (∀ (k1_h32 : k1_cond32 v324 = 1#1), ∀ a, (k1_off67 i v324) a + S1x1024.size a ≤ S400x1024.size a)
theorem k1_off67_inb : ∀ (i : grid1.Coords) (v324 : BitVec 32) (k1_hw28 : k1_chk28 i v324), ∀ (k1_h32 : k1_cond32 v324 = 1#1), ∀ a, (k1_off67 i v324) a + S1x1024.size a ≤ S400x1024.size a := fun i v324 k1_hw28 k1_h32 => k1_hw28 k1_h32

def k1_off68 : Fin 2 → Nat :=
  let c0_i32_230 : BitVec 32 := 0#32
  let c16_i32_439 : BitVec 32 := 16#32
  let v613 : BitVec 32 := Scalar.muli c0_i32_230 c16_i32_439
  let c12_i32 : BitVec 32 := 12#32
  let v614 : BitVec 32 := Scalar.addi v613 c12_i32
  let c0_i32_440_r29 : BitVec 32 := 0#32
  ![v614.toNat, 0]
def k1_off69 (i : grid1.Coords) (v329 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v329 c32000_i32_438
  let c99_i32 : BitVec 32 := 99#32
  let v611 : BitVec 32 := Scalar.minsi v610 c99_i32
  let v612 : BitVec 32 := Scalar.addi v20 v611
  let c0_i32_441_r29 : BitVec 32 := 0#32
  ![v612.toNat, 0]
def k1_cond33 (v329 : BitVec 32) : BitVec 1 :=
  let c32000_i32_257 : BitVec 32 := 32000#32
  let v330 : BitVec 1 := Scalar.cmpi .sge v329 c32000_i32_257
  let v331 : BitVec 32 := Scalar.extui v330
  let c0_i32_258 : BitVec 32 := 0#32
  let v332 : BitVec 1 := Scalar.cmpi .ne v331 c0_i32_258
  v332

def k1_chk29 (i : grid1.Coords) (v329 : BitVec 32) : Prop :=
  (∀ (k1_h33 : k1_cond33 v329 = 1#1), ∀ a, (k1_off69 i v329) a + S1x1024.size a ≤ S400x1024.size a)
theorem k1_off69_inb : ∀ (i : grid1.Coords) (v329 : BitVec 32) (k1_hw29 : k1_chk29 i v329), ∀ (k1_h33 : k1_cond33 v329 = 1#1), ∀ a, (k1_off69 i v329) a + S1x1024.size a ≤ S400x1024.size a := fun i v329 k1_hw29 k1_h33 => k1_hw29 k1_h33

def k1_off70 : Fin 2 → Nat :=
  let c0_i32_230 : BitVec 32 := 0#32
  let c16_i32_439 : BitVec 32 := 16#32
  let v613 : BitVec 32 := Scalar.muli c0_i32_230 c16_i32_439
  let c13_i32 : BitVec 32 := 13#32
  let v614 : BitVec 32 := Scalar.addi v613 c13_i32
  let c0_i32_440_r30 : BitVec 32 := 0#32
  ![v614.toNat, 0]
def k1_off71 (i : grid1.Coords) (v334 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v334 c32000_i32_438
  let c99_i32 : BitVec 32 := 99#32
  let v611 : BitVec 32 := Scalar.minsi v610 c99_i32
  let v612 : BitVec 32 := Scalar.addi v20 v611
  let c0_i32_441_r30 : BitVec 32 := 0#32
  ![v612.toNat, 0]
def k1_cond34 (v334 : BitVec 32) : BitVec 1 :=
  let c32000_i32_259 : BitVec 32 := 32000#32
  let v335 : BitVec 1 := Scalar.cmpi .sge v334 c32000_i32_259
  let v336 : BitVec 32 := Scalar.extui v335
  let c0_i32_260 : BitVec 32 := 0#32
  let v337 : BitVec 1 := Scalar.cmpi .ne v336 c0_i32_260
  v337

def k1_chk30 (i : grid1.Coords) (v334 : BitVec 32) : Prop :=
  (∀ (k1_h34 : k1_cond34 v334 = 1#1), ∀ a, (k1_off71 i v334) a + S1x1024.size a ≤ S400x1024.size a)
theorem k1_off71_inb : ∀ (i : grid1.Coords) (v334 : BitVec 32) (k1_hw30 : k1_chk30 i v334), ∀ (k1_h34 : k1_cond34 v334 = 1#1), ∀ a, (k1_off71 i v334) a + S1x1024.size a ≤ S400x1024.size a := fun i v334 k1_hw30 k1_h34 => k1_hw30 k1_h34

def k1_off72 : Fin 2 → Nat :=
  let c0_i32_230 : BitVec 32 := 0#32
  let c16_i32_439 : BitVec 32 := 16#32
  let v613 : BitVec 32 := Scalar.muli c0_i32_230 c16_i32_439
  let c14_i32 : BitVec 32 := 14#32
  let v614 : BitVec 32 := Scalar.addi v613 c14_i32
  let c0_i32_440_r31 : BitVec 32 := 0#32
  ![v614.toNat, 0]
def k1_off73 (i : grid1.Coords) (v339 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v339 c32000_i32_438
  let c99_i32 : BitVec 32 := 99#32
  let v611 : BitVec 32 := Scalar.minsi v610 c99_i32
  let v612 : BitVec 32 := Scalar.addi v20 v611
  let c0_i32_441_r31 : BitVec 32 := 0#32
  ![v612.toNat, 0]
def k1_cond35 (v339 : BitVec 32) : BitVec 1 :=
  let c32000_i32_261 : BitVec 32 := 32000#32
  let v340 : BitVec 1 := Scalar.cmpi .sge v339 c32000_i32_261
  let v341 : BitVec 32 := Scalar.extui v340
  let c0_i32_262 : BitVec 32 := 0#32
  let v342 : BitVec 1 := Scalar.cmpi .ne v341 c0_i32_262
  v342

def k1_chk31 (i : grid1.Coords) (v339 : BitVec 32) : Prop :=
  (∀ (k1_h35 : k1_cond35 v339 = 1#1), ∀ a, (k1_off73 i v339) a + S1x1024.size a ≤ S400x1024.size a)
theorem k1_off73_inb : ∀ (i : grid1.Coords) (v339 : BitVec 32) (k1_hw31 : k1_chk31 i v339), ∀ (k1_h35 : k1_cond35 v339 = 1#1), ∀ a, (k1_off73 i v339) a + S1x1024.size a ≤ S400x1024.size a := fun i v339 k1_hw31 k1_h35 => k1_hw31 k1_h35

def k1_off74 : Fin 2 → Nat :=
  let c0_i32_230 : BitVec 32 := 0#32
  let c16_i32_439 : BitVec 32 := 16#32
  let v613 : BitVec 32 := Scalar.muli c0_i32_230 c16_i32_439
  let c15_i32 : BitVec 32 := 15#32
  let v614 : BitVec 32 := Scalar.addi v613 c15_i32
  let c0_i32_440_r32 : BitVec 32 := 0#32
  ![v614.toNat, 0]
def k1_off75 (i : grid1.Coords) (v344 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v344 c32000_i32_438
  let c99_i32 : BitVec 32 := 99#32
  let v611 : BitVec 32 := Scalar.minsi v610 c99_i32
  let v612 : BitVec 32 := Scalar.addi v20 v611
  let c0_i32_441_r32 : BitVec 32 := 0#32
  ![v612.toNat, 0]
def k1_cond36 (v344 : BitVec 32) : BitVec 1 :=
  let c32000_i32_263 : BitVec 32 := 32000#32
  let v345 : BitVec 1 := Scalar.cmpi .sge v344 c32000_i32_263
  let v346 : BitVec 32 := Scalar.extui v345
  let c0_i32_264 : BitVec 32 := 0#32
  let v347 : BitVec 1 := Scalar.cmpi .ne v346 c0_i32_264
  v347

def k1_chk32 (i : grid1.Coords) (v344 : BitVec 32) : Prop :=
  (∀ (k1_h36 : k1_cond36 v344 = 1#1), ∀ a, (k1_off75 i v344) a + S1x1024.size a ≤ S400x1024.size a)
theorem k1_off75_inb : ∀ (i : grid1.Coords) (v344 : BitVec 32) (k1_hw32 : k1_chk32 i v344), ∀ (k1_h36 : k1_cond36 v344 = 1#1), ∀ a, (k1_off75 i v344) a + S1x1024.size a ≤ S400x1024.size a := fun i v344 k1_hw32 k1_h36 => k1_hw32 k1_h36

def k1_off76 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_184 : BitVec 32 := 4#32
  let v223 : BitVec 32 := Scalar.muli arg20 c4_i32_184
  let c1_i32_185 : BitVec 32 := 1#32
  let v224 : BitVec 32 := Scalar.addi v223 c1_i32_185
  let c16_i32_266 : BitVec 32 := 16#32
  let v348 : BitVec 32 := Scalar.muli v224 c16_i32_266
  let v349 : BitVec 32 := Scalar.addi v2 v348
  let c0_i32_267 : BitVec 32 := 0#32
  ![v349.toNat, 0]
def k1_off77 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c16_i32_271 : BitVec 32 := 16#32
  let v354 : BitVec 32 := Scalar.muli v353 c16_i32_271
  ![v354.toNat]
def k1_cond37 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c2_i32_311 : BitVec 32 := 2#32
  let v386 : BitVec 32 := Scalar.addi v353 c2_i32_311
  let c32_i32_312 : BitVec 32 := 32#32
  let v387 : BitVec 1 := Scalar.cmpi .slt v386 c32_i32_312
  let v388 : BitVec 32 := Scalar.extui v387
  let c0_i32_313 : BitVec 32 := 0#32
  let v389 : BitVec 1 := Scalar.cmpi .ne v388 c0_i32_313
  v389

def k1_cond38 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c2_i32_438 : BitVec 32 := 2#32
  let v610 : BitVec 32 := Scalar.addi v353 c2_i32_438
  let c4_i32_439 : BitVec 32 := 4#32
  let v611 : BitVec 1 := Scalar.cmpi .sge v610 c4_i32_439
  let v612 : BitVec 32 := Scalar.extui v611
  let c0_i32_440 : BitVec 32 := 0#32
  let v613 : BitVec 1 := Scalar.cmpi .ne v612 c0_i32_440
  v613

def k1_off78 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c2_i32_482 : BitVec 32 := 2#32
  let v647 : BitVec 32 := Scalar.addi v353 c2_i32_482
  let c4_i32_483 : BitVec 32 := 4#32
  let v648 : BitVec 32 := Scalar.subi v647 c4_i32_483
  let c16_i32_484 : BitVec 32 := 16#32
  let v649 : BitVec 32 := Scalar.muli v648 c16_i32_484
  let v650 : BitVec 32 := Scalar.addi v2 v649
  let c0_i32_485 : BitVec 32 := 0#32
  ![v650.toNat, 0]
def k1_off79 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c2_i32_441 : BitVec 32 := 2#32
  let v614 : BitVec 32 := Scalar.addi v353 c2_i32_441
  let c16_i32_442 : BitVec 32 := 16#32
  let v615 : BitVec 32 := Scalar.muli v614 c16_i32_442
  ![v615.toNat]
def k1_mult4 (k1_t2 : Fin k1_t2_loop.trips) : BitVec 32 :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c16_i32_316 : BitVec 32 := 16#32
  let v390 : BitVec 32 := Scalar.muli v353 c16_i32_316
  let c0_i32_315 : BitVec 32 := 0#32
  let c16_i32_317 : BitVec 32 := 16#32
  let v391 : BitVec 32 := Scalar.muli c0_i32_315 c16_i32_317
  let v392 : BitVec 32 := Scalar.addi v390 v391
  v392
def k1_off80 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c16_i32_316 : BitVec 32 := 16#32
  let v390 : BitVec 32 := Scalar.muli v353 c16_i32_316
  let c0_i32_315 : BitVec 32 := 0#32
  let c16_i32_317 : BitVec 32 := 16#32
  let v391 : BitVec 32 := Scalar.muli c0_i32_315 c16_i32_317
  let v392 : BitVec 32 := Scalar.addi v390 v391
  let v393 : BitVec 32 := v392
  let v394 : Index := Scalar.indexCast v393
  ![v394.toNat]
def k1_off81 : Fin 2 → Nat :=
  let c0_i32_315 : BitVec 32 := 0#32
  let c16_i32_439 : BitVec 32 := 16#32
  let v613 : BitVec 32 := Scalar.muli c0_i32_315 c16_i32_439
  let c0_i32_440 : BitVec 32 := 0#32
  let v614 : BitVec 32 := Scalar.addi v613 c0_i32_440
  let c0_i32_441_r33 : BitVec 32 := 0#32
  ![v614.toNat, 0]
def k1_off82 (i : grid1.Coords) (v398 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v398 c32000_i32_438
  let c99_i32 : BitVec 32 := 99#32
  let v611 : BitVec 32 := Scalar.minsi v610 c99_i32
  let v612 : BitVec 32 := Scalar.addi v20 v611
  let c0_i32_442_r33 : BitVec 32 := 0#32
  ![v612.toNat, 0]
def k1_cond39 (v398 : BitVec 32) : BitVec 1 :=
  let c32000_i32_318 : BitVec 32 := 32000#32
  let v399 : BitVec 1 := Scalar.cmpi .sge v398 c32000_i32_318
  let v400 : BitVec 32 := Scalar.extui v399
  let c0_i32_319 : BitVec 32 := 0#32
  let v401 : BitVec 1 := Scalar.cmpi .ne v400 c0_i32_319
  v401

def k1_chk33 (i : grid1.Coords) (v398 : BitVec 32) : Prop :=
  (∀ (k1_h39 : k1_cond39 v398 = 1#1), ∀ a, (k1_off82 i v398) a + S1x1024.size a ≤ S400x1024.size a)
theorem k1_off82_inb : ∀ (i : grid1.Coords) (v398 : BitVec 32) (k1_hw33 : k1_chk33 i v398), ∀ (k1_h39 : k1_cond39 v398 = 1#1), ∀ a, (k1_off82 i v398) a + S1x1024.size a ≤ S400x1024.size a := fun i v398 k1_hw33 k1_h39 => k1_hw33 k1_h39

def k1_off83 : Fin 2 → Nat :=
  let c0_i32_315 : BitVec 32 := 0#32
  let c16_i32_439 : BitVec 32 := 16#32
  let v613 : BitVec 32 := Scalar.muli c0_i32_315 c16_i32_439
  let c1_i32_440 : BitVec 32 := 1#32
  let v614 : BitVec 32 := Scalar.addi v613 c1_i32_440
  let c0_i32_441_r34 : BitVec 32 := 0#32
  ![v614.toNat, 0]
def k1_off84 (i : grid1.Coords) (v403 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v403 c32000_i32_438
  let c99_i32 : BitVec 32 := 99#32
  let v611 : BitVec 32 := Scalar.minsi v610 c99_i32
  let v612 : BitVec 32 := Scalar.addi v20 v611
  let c0_i32_442_r34 : BitVec 32 := 0#32
  ![v612.toNat, 0]
def k1_cond40 (v403 : BitVec 32) : BitVec 1 :=
  let c32000_i32_320 : BitVec 32 := 32000#32
  let v404 : BitVec 1 := Scalar.cmpi .sge v403 c32000_i32_320
  let v405 : BitVec 32 := Scalar.extui v404
  let c0_i32_321 : BitVec 32 := 0#32
  let v406 : BitVec 1 := Scalar.cmpi .ne v405 c0_i32_321
  v406

def k1_chk34 (i : grid1.Coords) (v403 : BitVec 32) : Prop :=
  (∀ (k1_h40 : k1_cond40 v403 = 1#1), ∀ a, (k1_off84 i v403) a + S1x1024.size a ≤ S400x1024.size a)
theorem k1_off84_inb : ∀ (i : grid1.Coords) (v403 : BitVec 32) (k1_hw34 : k1_chk34 i v403), ∀ (k1_h40 : k1_cond40 v403 = 1#1), ∀ a, (k1_off84 i v403) a + S1x1024.size a ≤ S400x1024.size a := fun i v403 k1_hw34 k1_h40 => k1_hw34 k1_h40

def k1_off85 : Fin 2 → Nat :=
  let c0_i32_315 : BitVec 32 := 0#32
  let c16_i32_439 : BitVec 32 := 16#32
  let v613 : BitVec 32 := Scalar.muli c0_i32_315 c16_i32_439
  let c2_i32_440 : BitVec 32 := 2#32
  let v614 : BitVec 32 := Scalar.addi v613 c2_i32_440
  let c0_i32_441_r35 : BitVec 32 := 0#32
  ![v614.toNat, 0]
def k1_off86 (i : grid1.Coords) (v408 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v408 c32000_i32_438
  let c99_i32 : BitVec 32 := 99#32
  let v611 : BitVec 32 := Scalar.minsi v610 c99_i32
  let v612 : BitVec 32 := Scalar.addi v20 v611
  let c0_i32_442_r35 : BitVec 32 := 0#32
  ![v612.toNat, 0]
def k1_cond41 (v408 : BitVec 32) : BitVec 1 :=
  let c32000_i32_322 : BitVec 32 := 32000#32
  let v409 : BitVec 1 := Scalar.cmpi .sge v408 c32000_i32_322
  let v410 : BitVec 32 := Scalar.extui v409
  let c0_i32_323 : BitVec 32 := 0#32
  let v411 : BitVec 1 := Scalar.cmpi .ne v410 c0_i32_323
  v411

def k1_chk35 (i : grid1.Coords) (v408 : BitVec 32) : Prop :=
  (∀ (k1_h41 : k1_cond41 v408 = 1#1), ∀ a, (k1_off86 i v408) a + S1x1024.size a ≤ S400x1024.size a)
theorem k1_off86_inb : ∀ (i : grid1.Coords) (v408 : BitVec 32) (k1_hw35 : k1_chk35 i v408), ∀ (k1_h41 : k1_cond41 v408 = 1#1), ∀ a, (k1_off86 i v408) a + S1x1024.size a ≤ S400x1024.size a := fun i v408 k1_hw35 k1_h41 => k1_hw35 k1_h41

def k1_off87 : Fin 2 → Nat :=
  let c0_i32_315 : BitVec 32 := 0#32
  let c16_i32_439 : BitVec 32 := 16#32
  let v613 : BitVec 32 := Scalar.muli c0_i32_315 c16_i32_439
  let c3_i32_440 : BitVec 32 := 3#32
  let v614 : BitVec 32 := Scalar.addi v613 c3_i32_440
  let c0_i32_441_r36 : BitVec 32 := 0#32
  ![v614.toNat, 0]
def k1_off88 (i : grid1.Coords) (v413 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v413 c32000_i32_438
  let c99_i32 : BitVec 32 := 99#32
  let v611 : BitVec 32 := Scalar.minsi v610 c99_i32
  let v612 : BitVec 32 := Scalar.addi v20 v611
  let c0_i32_442_r36 : BitVec 32 := 0#32
  ![v612.toNat, 0]
def k1_cond42 (v413 : BitVec 32) : BitVec 1 :=
  let c32000_i32_324 : BitVec 32 := 32000#32
  let v414 : BitVec 1 := Scalar.cmpi .sge v413 c32000_i32_324
  let v415 : BitVec 32 := Scalar.extui v414
  let c0_i32_325 : BitVec 32 := 0#32
  let v416 : BitVec 1 := Scalar.cmpi .ne v415 c0_i32_325
  v416

def k1_chk36 (i : grid1.Coords) (v413 : BitVec 32) : Prop :=
  (∀ (k1_h42 : k1_cond42 v413 = 1#1), ∀ a, (k1_off88 i v413) a + S1x1024.size a ≤ S400x1024.size a)
theorem k1_off88_inb : ∀ (i : grid1.Coords) (v413 : BitVec 32) (k1_hw36 : k1_chk36 i v413), ∀ (k1_h42 : k1_cond42 v413 = 1#1), ∀ a, (k1_off88 i v413) a + S1x1024.size a ≤ S400x1024.size a := fun i v413 k1_hw36 k1_h42 => k1_hw36 k1_h42

def k1_off89 : Fin 2 → Nat :=
  let c0_i32_315 : BitVec 32 := 0#32
  let c16_i32_439 : BitVec 32 := 16#32
  let v613 : BitVec 32 := Scalar.muli c0_i32_315 c16_i32_439
  let c4_i32_440 : BitVec 32 := 4#32
  let v614 : BitVec 32 := Scalar.addi v613 c4_i32_440
  let c0_i32_441_r37 : BitVec 32 := 0#32
  ![v614.toNat, 0]
def k1_off90 (i : grid1.Coords) (v418 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v418 c32000_i32_438
  let c99_i32 : BitVec 32 := 99#32
  let v611 : BitVec 32 := Scalar.minsi v610 c99_i32
  let v612 : BitVec 32 := Scalar.addi v20 v611
  let c0_i32_442_r37 : BitVec 32 := 0#32
  ![v612.toNat, 0]
def k1_cond43 (v418 : BitVec 32) : BitVec 1 :=
  let c32000_i32_326 : BitVec 32 := 32000#32
  let v419 : BitVec 1 := Scalar.cmpi .sge v418 c32000_i32_326
  let v420 : BitVec 32 := Scalar.extui v419
  let c0_i32_327 : BitVec 32 := 0#32
  let v421 : BitVec 1 := Scalar.cmpi .ne v420 c0_i32_327
  v421

def k1_chk37 (i : grid1.Coords) (v418 : BitVec 32) : Prop :=
  (∀ (k1_h43 : k1_cond43 v418 = 1#1), ∀ a, (k1_off90 i v418) a + S1x1024.size a ≤ S400x1024.size a)
theorem k1_off90_inb : ∀ (i : grid1.Coords) (v418 : BitVec 32) (k1_hw37 : k1_chk37 i v418), ∀ (k1_h43 : k1_cond43 v418 = 1#1), ∀ a, (k1_off90 i v418) a + S1x1024.size a ≤ S400x1024.size a := fun i v418 k1_hw37 k1_h43 => k1_hw37 k1_h43

def k1_off91 : Fin 2 → Nat :=
  let c0_i32_315 : BitVec 32 := 0#32
  let c16_i32_439 : BitVec 32 := 16#32
  let v613 : BitVec 32 := Scalar.muli c0_i32_315 c16_i32_439
  let c5_i32 : BitVec 32 := 5#32
  let v614 : BitVec 32 := Scalar.addi v613 c5_i32
  let c0_i32_440_r38 : BitVec 32 := 0#32
  ![v614.toNat, 0]
def k1_off92 (i : grid1.Coords) (v423 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v423 c32000_i32_438
  let c99_i32 : BitVec 32 := 99#32
  let v611 : BitVec 32 := Scalar.minsi v610 c99_i32
  let v612 : BitVec 32 := Scalar.addi v20 v611
  let c0_i32_441_r38 : BitVec 32 := 0#32
  ![v612.toNat, 0]
def k1_cond44 (v423 : BitVec 32) : BitVec 1 :=
  let c32000_i32_328 : BitVec 32 := 32000#32
  let v424 : BitVec 1 := Scalar.cmpi .sge v423 c32000_i32_328
  let v425 : BitVec 32 := Scalar.extui v424
  let c0_i32_329 : BitVec 32 := 0#32
  let v426 : BitVec 1 := Scalar.cmpi .ne v425 c0_i32_329
  v426

def k1_chk38 (i : grid1.Coords) (v423 : BitVec 32) : Prop :=
  (∀ (k1_h44 : k1_cond44 v423 = 1#1), ∀ a, (k1_off92 i v423) a + S1x1024.size a ≤ S400x1024.size a)
theorem k1_off92_inb : ∀ (i : grid1.Coords) (v423 : BitVec 32) (k1_hw38 : k1_chk38 i v423), ∀ (k1_h44 : k1_cond44 v423 = 1#1), ∀ a, (k1_off92 i v423) a + S1x1024.size a ≤ S400x1024.size a := fun i v423 k1_hw38 k1_h44 => k1_hw38 k1_h44

def k1_off93 : Fin 2 → Nat :=
  let c0_i32_315 : BitVec 32 := 0#32
  let c16_i32_439 : BitVec 32 := 16#32
  let v613 : BitVec 32 := Scalar.muli c0_i32_315 c16_i32_439
  let c6_i32 : BitVec 32 := 6#32
  let v614 : BitVec 32 := Scalar.addi v613 c6_i32
  let c0_i32_440_r39 : BitVec 32 := 0#32
  ![v614.toNat, 0]
def k1_off94 (i : grid1.Coords) (v428 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v428 c32000_i32_438
  let c99_i32 : BitVec 32 := 99#32
  let v611 : BitVec 32 := Scalar.minsi v610 c99_i32
  let v612 : BitVec 32 := Scalar.addi v20 v611
  let c0_i32_441_r39 : BitVec 32 := 0#32
  ![v612.toNat, 0]
def k1_cond45 (v428 : BitVec 32) : BitVec 1 :=
  let c32000_i32_330 : BitVec 32 := 32000#32
  let v429 : BitVec 1 := Scalar.cmpi .sge v428 c32000_i32_330
  let v430 : BitVec 32 := Scalar.extui v429
  let c0_i32_331 : BitVec 32 := 0#32
  let v431 : BitVec 1 := Scalar.cmpi .ne v430 c0_i32_331
  v431

def k1_chk39 (i : grid1.Coords) (v428 : BitVec 32) : Prop :=
  (∀ (k1_h45 : k1_cond45 v428 = 1#1), ∀ a, (k1_off94 i v428) a + S1x1024.size a ≤ S400x1024.size a)
theorem k1_off94_inb : ∀ (i : grid1.Coords) (v428 : BitVec 32) (k1_hw39 : k1_chk39 i v428), ∀ (k1_h45 : k1_cond45 v428 = 1#1), ∀ a, (k1_off94 i v428) a + S1x1024.size a ≤ S400x1024.size a := fun i v428 k1_hw39 k1_h45 => k1_hw39 k1_h45

def k1_off95 : Fin 2 → Nat :=
  let c0_i32_315 : BitVec 32 := 0#32
  let c16_i32_439 : BitVec 32 := 16#32
  let v613 : BitVec 32 := Scalar.muli c0_i32_315 c16_i32_439
  let c7_i32 : BitVec 32 := 7#32
  let v614 : BitVec 32 := Scalar.addi v613 c7_i32
  let c0_i32_440_r40 : BitVec 32 := 0#32
  ![v614.toNat, 0]
def k1_off96 (i : grid1.Coords) (v433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v433 c32000_i32_438
  let c99_i32 : BitVec 32 := 99#32
  let v611 : BitVec 32 := Scalar.minsi v610 c99_i32
  let v612 : BitVec 32 := Scalar.addi v20 v611
  let c0_i32_441_r40 : BitVec 32 := 0#32
  ![v612.toNat, 0]
def k1_cond46 (v433 : BitVec 32) : BitVec 1 :=
  let c32000_i32_332 : BitVec 32 := 32000#32
  let v434 : BitVec 1 := Scalar.cmpi .sge v433 c32000_i32_332
  let v435 : BitVec 32 := Scalar.extui v434
  let c0_i32_333 : BitVec 32 := 0#32
  let v436 : BitVec 1 := Scalar.cmpi .ne v435 c0_i32_333
  v436

def k1_chk40 (i : grid1.Coords) (v433 : BitVec 32) : Prop :=
  (∀ (k1_h46 : k1_cond46 v433 = 1#1), ∀ a, (k1_off96 i v433) a + S1x1024.size a ≤ S400x1024.size a)
theorem k1_off96_inb : ∀ (i : grid1.Coords) (v433 : BitVec 32) (k1_hw40 : k1_chk40 i v433), ∀ (k1_h46 : k1_cond46 v433 = 1#1), ∀ a, (k1_off96 i v433) a + S1x1024.size a ≤ S400x1024.size a := fun i v433 k1_hw40 k1_h46 => k1_hw40 k1_h46

def k1_off97 : Fin 2 → Nat :=
  let c0_i32_315 : BitVec 32 := 0#32
  let c16_i32_439 : BitVec 32 := 16#32
  let v613 : BitVec 32 := Scalar.muli c0_i32_315 c16_i32_439
  let c8_i32_440 : BitVec 32 := 8#32
  let v614 : BitVec 32 := Scalar.addi v613 c8_i32_440
  let c0_i32_441_r41 : BitVec 32 := 0#32
  ![v614.toNat, 0]
def k1_off98 (i : grid1.Coords) (v438 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v438 c32000_i32_438
  let c99_i32 : BitVec 32 := 99#32
  let v611 : BitVec 32 := Scalar.minsi v610 c99_i32
  let v612 : BitVec 32 := Scalar.addi v20 v611
  let c0_i32_442_r41 : BitVec 32 := 0#32
  ![v612.toNat, 0]
def k1_cond47 (v438 : BitVec 32) : BitVec 1 :=
  let c32000_i32_334 : BitVec 32 := 32000#32
  let v439 : BitVec 1 := Scalar.cmpi .sge v438 c32000_i32_334
  let v440 : BitVec 32 := Scalar.extui v439
  let c0_i32_335 : BitVec 32 := 0#32
  let v441 : BitVec 1 := Scalar.cmpi .ne v440 c0_i32_335
  v441

def k1_chk41 (i : grid1.Coords) (v438 : BitVec 32) : Prop :=
  (∀ (k1_h47 : k1_cond47 v438 = 1#1), ∀ a, (k1_off98 i v438) a + S1x1024.size a ≤ S400x1024.size a)
theorem k1_off98_inb : ∀ (i : grid1.Coords) (v438 : BitVec 32) (k1_hw41 : k1_chk41 i v438), ∀ (k1_h47 : k1_cond47 v438 = 1#1), ∀ a, (k1_off98 i v438) a + S1x1024.size a ≤ S400x1024.size a := fun i v438 k1_hw41 k1_h47 => k1_hw41 k1_h47

def k1_off99 : Fin 2 → Nat :=
  let c0_i32_315 : BitVec 32 := 0#32
  let c16_i32_439 : BitVec 32 := 16#32
  let v613 : BitVec 32 := Scalar.muli c0_i32_315 c16_i32_439
  let c9_i32 : BitVec 32 := 9#32
  let v614 : BitVec 32 := Scalar.addi v613 c9_i32
  let c0_i32_440_r42 : BitVec 32 := 0#32
  ![v614.toNat, 0]
def k1_off100 (i : grid1.Coords) (v443 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v443 c32000_i32_438
  let c99_i32 : BitVec 32 := 99#32
  let v611 : BitVec 32 := Scalar.minsi v610 c99_i32
  let v612 : BitVec 32 := Scalar.addi v20 v611
  let c0_i32_441_r42 : BitVec 32 := 0#32
  ![v612.toNat, 0]
def k1_cond48 (v443 : BitVec 32) : BitVec 1 :=
  let c32000_i32_336 : BitVec 32 := 32000#32
  let v444 : BitVec 1 := Scalar.cmpi .sge v443 c32000_i32_336
  let v445 : BitVec 32 := Scalar.extui v444
  let c0_i32_337 : BitVec 32 := 0#32
  let v446 : BitVec 1 := Scalar.cmpi .ne v445 c0_i32_337
  v446

def k1_chk42 (i : grid1.Coords) (v443 : BitVec 32) : Prop :=
  (∀ (k1_h48 : k1_cond48 v443 = 1#1), ∀ a, (k1_off100 i v443) a + S1x1024.size a ≤ S400x1024.size a)
theorem k1_off100_inb : ∀ (i : grid1.Coords) (v443 : BitVec 32) (k1_hw42 : k1_chk42 i v443), ∀ (k1_h48 : k1_cond48 v443 = 1#1), ∀ a, (k1_off100 i v443) a + S1x1024.size a ≤ S400x1024.size a := fun i v443 k1_hw42 k1_h48 => k1_hw42 k1_h48

def k1_off101 : Fin 2 → Nat :=
  let c0_i32_315 : BitVec 32 := 0#32
  let c16_i32_439 : BitVec 32 := 16#32
  let v613 : BitVec 32 := Scalar.muli c0_i32_315 c16_i32_439
  let c10_i32 : BitVec 32 := 10#32
  let v614 : BitVec 32 := Scalar.addi v613 c10_i32
  let c0_i32_440_r43 : BitVec 32 := 0#32
  ![v614.toNat, 0]
def k1_off102 (i : grid1.Coords) (v448 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v448 c32000_i32_438
  let c99_i32 : BitVec 32 := 99#32
  let v611 : BitVec 32 := Scalar.minsi v610 c99_i32
  let v612 : BitVec 32 := Scalar.addi v20 v611
  let c0_i32_441_r43 : BitVec 32 := 0#32
  ![v612.toNat, 0]
def k1_cond49 (v448 : BitVec 32) : BitVec 1 :=
  let c32000_i32_338 : BitVec 32 := 32000#32
  let v449 : BitVec 1 := Scalar.cmpi .sge v448 c32000_i32_338
  let v450 : BitVec 32 := Scalar.extui v449
  let c0_i32_339 : BitVec 32 := 0#32
  let v451 : BitVec 1 := Scalar.cmpi .ne v450 c0_i32_339
  v451

def k1_chk43 (i : grid1.Coords) (v448 : BitVec 32) : Prop :=
  (∀ (k1_h49 : k1_cond49 v448 = 1#1), ∀ a, (k1_off102 i v448) a + S1x1024.size a ≤ S400x1024.size a)
theorem k1_off102_inb : ∀ (i : grid1.Coords) (v448 : BitVec 32) (k1_hw43 : k1_chk43 i v448), ∀ (k1_h49 : k1_cond49 v448 = 1#1), ∀ a, (k1_off102 i v448) a + S1x1024.size a ≤ S400x1024.size a := fun i v448 k1_hw43 k1_h49 => k1_hw43 k1_h49

def k1_off103 : Fin 2 → Nat :=
  let c0_i32_315 : BitVec 32 := 0#32
  let c16_i32_439 : BitVec 32 := 16#32
  let v613 : BitVec 32 := Scalar.muli c0_i32_315 c16_i32_439
  let c11_i32 : BitVec 32 := 11#32
  let v614 : BitVec 32 := Scalar.addi v613 c11_i32
  let c0_i32_440_r44 : BitVec 32 := 0#32
  ![v614.toNat, 0]
def k1_off104 (i : grid1.Coords) (v453 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v453 c32000_i32_438
  let c99_i32 : BitVec 32 := 99#32
  let v611 : BitVec 32 := Scalar.minsi v610 c99_i32
  let v612 : BitVec 32 := Scalar.addi v20 v611
  let c0_i32_441_r44 : BitVec 32 := 0#32
  ![v612.toNat, 0]
def k1_cond50 (v453 : BitVec 32) : BitVec 1 :=
  let c32000_i32_340 : BitVec 32 := 32000#32
  let v454 : BitVec 1 := Scalar.cmpi .sge v453 c32000_i32_340
  let v455 : BitVec 32 := Scalar.extui v454
  let c0_i32_341 : BitVec 32 := 0#32
  let v456 : BitVec 1 := Scalar.cmpi .ne v455 c0_i32_341
  v456

def k1_chk44 (i : grid1.Coords) (v453 : BitVec 32) : Prop :=
  (∀ (k1_h50 : k1_cond50 v453 = 1#1), ∀ a, (k1_off104 i v453) a + S1x1024.size a ≤ S400x1024.size a)
theorem k1_off104_inb : ∀ (i : grid1.Coords) (v453 : BitVec 32) (k1_hw44 : k1_chk44 i v453), ∀ (k1_h50 : k1_cond50 v453 = 1#1), ∀ a, (k1_off104 i v453) a + S1x1024.size a ≤ S400x1024.size a := fun i v453 k1_hw44 k1_h50 => k1_hw44 k1_h50

def k1_off105 : Fin 2 → Nat :=
  let c0_i32_315 : BitVec 32 := 0#32
  let c16_i32_439 : BitVec 32 := 16#32
  let v613 : BitVec 32 := Scalar.muli c0_i32_315 c16_i32_439
  let c12_i32 : BitVec 32 := 12#32
  let v614 : BitVec 32 := Scalar.addi v613 c12_i32
  let c0_i32_440_r45 : BitVec 32 := 0#32
  ![v614.toNat, 0]
def k1_off106 (i : grid1.Coords) (v458 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v458 c32000_i32_438
  let c99_i32 : BitVec 32 := 99#32
  let v611 : BitVec 32 := Scalar.minsi v610 c99_i32
  let v612 : BitVec 32 := Scalar.addi v20 v611
  let c0_i32_441_r45 : BitVec 32 := 0#32
  ![v612.toNat, 0]
def k1_cond51 (v458 : BitVec 32) : BitVec 1 :=
  let c32000_i32_342 : BitVec 32 := 32000#32
  let v459 : BitVec 1 := Scalar.cmpi .sge v458 c32000_i32_342
  let v460 : BitVec 32 := Scalar.extui v459
  let c0_i32_343 : BitVec 32 := 0#32
  let v461 : BitVec 1 := Scalar.cmpi .ne v460 c0_i32_343
  v461

def k1_chk45 (i : grid1.Coords) (v458 : BitVec 32) : Prop :=
  (∀ (k1_h51 : k1_cond51 v458 = 1#1), ∀ a, (k1_off106 i v458) a + S1x1024.size a ≤ S400x1024.size a)
theorem k1_off106_inb : ∀ (i : grid1.Coords) (v458 : BitVec 32) (k1_hw45 : k1_chk45 i v458), ∀ (k1_h51 : k1_cond51 v458 = 1#1), ∀ a, (k1_off106 i v458) a + S1x1024.size a ≤ S400x1024.size a := fun i v458 k1_hw45 k1_h51 => k1_hw45 k1_h51

def k1_off107 : Fin 2 → Nat :=
  let c0_i32_315 : BitVec 32 := 0#32
  let c16_i32_439 : BitVec 32 := 16#32
  let v613 : BitVec 32 := Scalar.muli c0_i32_315 c16_i32_439
  let c13_i32 : BitVec 32 := 13#32
  let v614 : BitVec 32 := Scalar.addi v613 c13_i32
  let c0_i32_440_r46 : BitVec 32 := 0#32
  ![v614.toNat, 0]
def k1_off108 (i : grid1.Coords) (v463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v463 c32000_i32_438
  let c99_i32 : BitVec 32 := 99#32
  let v611 : BitVec 32 := Scalar.minsi v610 c99_i32
  let v612 : BitVec 32 := Scalar.addi v20 v611
  let c0_i32_441_r46 : BitVec 32 := 0#32
  ![v612.toNat, 0]
def k1_cond52 (v463 : BitVec 32) : BitVec 1 :=
  let c32000_i32_344 : BitVec 32 := 32000#32
  let v464 : BitVec 1 := Scalar.cmpi .sge v463 c32000_i32_344
  let v465 : BitVec 32 := Scalar.extui v464
  let c0_i32_345 : BitVec 32 := 0#32
  let v466 : BitVec 1 := Scalar.cmpi .ne v465 c0_i32_345
  v466

def k1_chk46 (i : grid1.Coords) (v463 : BitVec 32) : Prop :=
  (∀ (k1_h52 : k1_cond52 v463 = 1#1), ∀ a, (k1_off108 i v463) a + S1x1024.size a ≤ S400x1024.size a)
theorem k1_off108_inb : ∀ (i : grid1.Coords) (v463 : BitVec 32) (k1_hw46 : k1_chk46 i v463), ∀ (k1_h52 : k1_cond52 v463 = 1#1), ∀ a, (k1_off108 i v463) a + S1x1024.size a ≤ S400x1024.size a := fun i v463 k1_hw46 k1_h52 => k1_hw46 k1_h52

def k1_off109 : Fin 2 → Nat :=
  let c0_i32_315 : BitVec 32 := 0#32
  let c16_i32_439 : BitVec 32 := 16#32
  let v613 : BitVec 32 := Scalar.muli c0_i32_315 c16_i32_439
  let c14_i32 : BitVec 32 := 14#32
  let v614 : BitVec 32 := Scalar.addi v613 c14_i32
  let c0_i32_440_r47 : BitVec 32 := 0#32
  ![v614.toNat, 0]
def k1_off110 (i : grid1.Coords) (v468 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v468 c32000_i32_438
  let c99_i32 : BitVec 32 := 99#32
  let v611 : BitVec 32 := Scalar.minsi v610 c99_i32
  let v612 : BitVec 32 := Scalar.addi v20 v611
  let c0_i32_441_r47 : BitVec 32 := 0#32
  ![v612.toNat, 0]
def k1_cond53 (v468 : BitVec 32) : BitVec 1 :=
  let c32000_i32_346 : BitVec 32 := 32000#32
  let v469 : BitVec 1 := Scalar.cmpi .sge v468 c32000_i32_346
  let v470 : BitVec 32 := Scalar.extui v469
  let c0_i32_347 : BitVec 32 := 0#32
  let v471 : BitVec 1 := Scalar.cmpi .ne v470 c0_i32_347
  v471

def k1_chk47 (i : grid1.Coords) (v468 : BitVec 32) : Prop :=
  (∀ (k1_h53 : k1_cond53 v468 = 1#1), ∀ a, (k1_off110 i v468) a + S1x1024.size a ≤ S400x1024.size a)
theorem k1_off110_inb : ∀ (i : grid1.Coords) (v468 : BitVec 32) (k1_hw47 : k1_chk47 i v468), ∀ (k1_h53 : k1_cond53 v468 = 1#1), ∀ a, (k1_off110 i v468) a + S1x1024.size a ≤ S400x1024.size a := fun i v468 k1_hw47 k1_h53 => k1_hw47 k1_h53

def k1_off111 : Fin 2 → Nat :=
  let c0_i32_315 : BitVec 32 := 0#32
  let c16_i32_439 : BitVec 32 := 16#32
  let v613 : BitVec 32 := Scalar.muli c0_i32_315 c16_i32_439
  let c15_i32 : BitVec 32 := 15#32
  let v614 : BitVec 32 := Scalar.addi v613 c15_i32
  let c0_i32_440_r48 : BitVec 32 := 0#32
  ![v614.toNat, 0]
def k1_off112 (i : grid1.Coords) (v473 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v473 c32000_i32_438
  let c99_i32 : BitVec 32 := 99#32
  let v611 : BitVec 32 := Scalar.minsi v610 c99_i32
  let v612 : BitVec 32 := Scalar.addi v20 v611
  let c0_i32_441_r48 : BitVec 32 := 0#32
  ![v612.toNat, 0]
def k1_cond54 (v473 : BitVec 32) : BitVec 1 :=
  let c32000_i32_348 : BitVec 32 := 32000#32
  let v474 : BitVec 1 := Scalar.cmpi .sge v473 c32000_i32_348
  let v475 : BitVec 32 := Scalar.extui v474
  let c0_i32_349 : BitVec 32 := 0#32
  let v476 : BitVec 1 := Scalar.cmpi .ne v475 c0_i32_349
  v476

def k1_chk48 (i : grid1.Coords) (v473 : BitVec 32) : Prop :=
  (∀ (k1_h54 : k1_cond54 v473 = 1#1), ∀ a, (k1_off112 i v473) a + S1x1024.size a ≤ S400x1024.size a)
theorem k1_off112_inb : ∀ (i : grid1.Coords) (v473 : BitVec 32) (k1_hw48 : k1_chk48 i v473), ∀ (k1_h54 : k1_cond54 v473 = 1#1), ∀ a, (k1_off112 i v473) a + S1x1024.size a ≤ S400x1024.size a := fun i v473 k1_hw48 k1_h54 => k1_hw48 k1_h54

def k1_off113 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_269 : BitVec 32 := 4#32
  let v352 : BitVec 32 := Scalar.muli arg20 c4_i32_269
  let c2_i32_270 : BitVec 32 := 2#32
  let v353 : BitVec 32 := Scalar.addi v352 c2_i32_270
  let c16_i32_351 : BitVec 32 := 16#32
  let v477 : BitVec 32 := Scalar.muli v353 c16_i32_351
  let v478 : BitVec 32 := Scalar.addi v2 v477
  let c0_i32_352 : BitVec 32 := 0#32
  ![v478.toNat, 0]
def k1_off114 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c16_i32_355 : BitVec 32 := 16#32
  let v483 : BitVec 32 := Scalar.muli v482 c16_i32_355
  ![v483.toNat]
def k1_cond55 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c2_i32_395 : BitVec 32 := 2#32
  let v515 : BitVec 32 := Scalar.addi v482 c2_i32_395
  let c32_i32_396 : BitVec 32 := 32#32
  let v516 : BitVec 1 := Scalar.cmpi .slt v515 c32_i32_396
  let v517 : BitVec 32 := Scalar.extui v516
  let c0_i32_397 : BitVec 32 := 0#32
  let v518 : BitVec 1 := Scalar.cmpi .ne v517 c0_i32_397
  v518

def k1_cond56 (k1_t2 : Fin k1_t2_loop.trips) : BitVec 1 :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c2_i32_438 : BitVec 32 := 2#32
  let v610 : BitVec 32 := Scalar.addi v482 c2_i32_438
  let c4_i32_439 : BitVec 32 := 4#32
  let v611 : BitVec 1 := Scalar.cmpi .sge v610 c4_i32_439
  let v612 : BitVec 32 := Scalar.extui v611
  let c0_i32_440 : BitVec 32 := 0#32
  let v613 : BitVec 1 := Scalar.cmpi .ne v612 c0_i32_440
  v613

def k1_off115 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c2_i32_482 : BitVec 32 := 2#32
  let v647 : BitVec 32 := Scalar.addi v482 c2_i32_482
  let c4_i32_483 : BitVec 32 := 4#32
  let v648 : BitVec 32 := Scalar.subi v647 c4_i32_483
  let c16_i32_484 : BitVec 32 := 16#32
  let v649 : BitVec 32 := Scalar.muli v648 c16_i32_484
  let v650 : BitVec 32 := Scalar.addi v2 v649
  let c0_i32_485 : BitVec 32 := 0#32
  ![v650.toNat, 0]
def k1_off116 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c2_i32_441 : BitVec 32 := 2#32
  let v614 : BitVec 32 := Scalar.addi v482 c2_i32_441
  let c16_i32_442 : BitVec 32 := 16#32
  let v615 : BitVec 32 := Scalar.muli v614 c16_i32_442
  ![v615.toNat]
def k1_mult5 (k1_t2 : Fin k1_t2_loop.trips) : BitVec 32 :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c16_i32_400 : BitVec 32 := 16#32
  let v519 : BitVec 32 := Scalar.muli v482 c16_i32_400
  let c0_i32_399 : BitVec 32 := 0#32
  let c16_i32_401 : BitVec 32 := 16#32
  let v520 : BitVec 32 := Scalar.muli c0_i32_399 c16_i32_401
  let v521 : BitVec 32 := Scalar.addi v519 v520
  v521
def k1_off117 (k1_t2 : Fin k1_t2_loop.trips) : Fin 1 → Nat :=
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c16_i32_400 : BitVec 32 := 16#32
  let v519 : BitVec 32 := Scalar.muli v482 c16_i32_400
  let c0_i32_399 : BitVec 32 := 0#32
  let c16_i32_401 : BitVec 32 := 16#32
  let v520 : BitVec 32 := Scalar.muli c0_i32_399 c16_i32_401
  let v521 : BitVec 32 := Scalar.addi v519 v520
  let v522 : BitVec 32 := v521
  let v523 : Index := Scalar.indexCast v522
  ![v523.toNat]
def k1_off118 : Fin 2 → Nat :=
  let c0_i32_399 : BitVec 32 := 0#32
  let c16_i32_439 : BitVec 32 := 16#32
  let v613 : BitVec 32 := Scalar.muli c0_i32_399 c16_i32_439
  let c0_i32_440 : BitVec 32 := 0#32
  let v614 : BitVec 32 := Scalar.addi v613 c0_i32_440
  let c0_i32_441_r49 : BitVec 32 := 0#32
  ![v614.toNat, 0]
def k1_off119 (i : grid1.Coords) (v527 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v527 c32000_i32_438
  let c99_i32 : BitVec 32 := 99#32
  let v611 : BitVec 32 := Scalar.minsi v610 c99_i32
  let v612 : BitVec 32 := Scalar.addi v20 v611
  let c0_i32_442_r49 : BitVec 32 := 0#32
  ![v612.toNat, 0]
def k1_cond57 (v527 : BitVec 32) : BitVec 1 :=
  let c32000_i32_402 : BitVec 32 := 32000#32
  let v528 : BitVec 1 := Scalar.cmpi .sge v527 c32000_i32_402
  let v529 : BitVec 32 := Scalar.extui v528
  let c0_i32_403 : BitVec 32 := 0#32
  let v530 : BitVec 1 := Scalar.cmpi .ne v529 c0_i32_403
  v530

def k1_chk49 (i : grid1.Coords) (v527 : BitVec 32) : Prop :=
  (∀ (k1_h57 : k1_cond57 v527 = 1#1), ∀ a, (k1_off119 i v527) a + S1x1024.size a ≤ S400x1024.size a)
theorem k1_off119_inb : ∀ (i : grid1.Coords) (v527 : BitVec 32) (k1_hw49 : k1_chk49 i v527), ∀ (k1_h57 : k1_cond57 v527 = 1#1), ∀ a, (k1_off119 i v527) a + S1x1024.size a ≤ S400x1024.size a := fun i v527 k1_hw49 k1_h57 => k1_hw49 k1_h57

def k1_off120 : Fin 2 → Nat :=
  let c0_i32_399 : BitVec 32 := 0#32
  let c16_i32_439 : BitVec 32 := 16#32
  let v613 : BitVec 32 := Scalar.muli c0_i32_399 c16_i32_439
  let c1_i32_440 : BitVec 32 := 1#32
  let v614 : BitVec 32 := Scalar.addi v613 c1_i32_440
  let c0_i32_441_r50 : BitVec 32 := 0#32
  ![v614.toNat, 0]
def k1_off121 (i : grid1.Coords) (v532 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v532 c32000_i32_438
  let c99_i32 : BitVec 32 := 99#32
  let v611 : BitVec 32 := Scalar.minsi v610 c99_i32
  let v612 : BitVec 32 := Scalar.addi v20 v611
  let c0_i32_442_r50 : BitVec 32 := 0#32
  ![v612.toNat, 0]
def k1_cond58 (v532 : BitVec 32) : BitVec 1 :=
  let c32000_i32_404 : BitVec 32 := 32000#32
  let v533 : BitVec 1 := Scalar.cmpi .sge v532 c32000_i32_404
  let v534 : BitVec 32 := Scalar.extui v533
  let c0_i32_405 : BitVec 32 := 0#32
  let v535 : BitVec 1 := Scalar.cmpi .ne v534 c0_i32_405
  v535

def k1_chk50 (i : grid1.Coords) (v532 : BitVec 32) : Prop :=
  (∀ (k1_h58 : k1_cond58 v532 = 1#1), ∀ a, (k1_off121 i v532) a + S1x1024.size a ≤ S400x1024.size a)
theorem k1_off121_inb : ∀ (i : grid1.Coords) (v532 : BitVec 32) (k1_hw50 : k1_chk50 i v532), ∀ (k1_h58 : k1_cond58 v532 = 1#1), ∀ a, (k1_off121 i v532) a + S1x1024.size a ≤ S400x1024.size a := fun i v532 k1_hw50 k1_h58 => k1_hw50 k1_h58

def k1_off122 : Fin 2 → Nat :=
  let c0_i32_399 : BitVec 32 := 0#32
  let c16_i32_439 : BitVec 32 := 16#32
  let v613 : BitVec 32 := Scalar.muli c0_i32_399 c16_i32_439
  let c2_i32_440 : BitVec 32 := 2#32
  let v614 : BitVec 32 := Scalar.addi v613 c2_i32_440
  let c0_i32_441_r51 : BitVec 32 := 0#32
  ![v614.toNat, 0]
def k1_off123 (i : grid1.Coords) (v537 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v537 c32000_i32_438
  let c99_i32 : BitVec 32 := 99#32
  let v611 : BitVec 32 := Scalar.minsi v610 c99_i32
  let v612 : BitVec 32 := Scalar.addi v20 v611
  let c0_i32_442_r51 : BitVec 32 := 0#32
  ![v612.toNat, 0]
def k1_cond59 (v537 : BitVec 32) : BitVec 1 :=
  let c32000_i32_406 : BitVec 32 := 32000#32
  let v538 : BitVec 1 := Scalar.cmpi .sge v537 c32000_i32_406
  let v539 : BitVec 32 := Scalar.extui v538
  let c0_i32_407 : BitVec 32 := 0#32
  let v540 : BitVec 1 := Scalar.cmpi .ne v539 c0_i32_407
  v540

def k1_chk51 (i : grid1.Coords) (v537 : BitVec 32) : Prop :=
  (∀ (k1_h59 : k1_cond59 v537 = 1#1), ∀ a, (k1_off123 i v537) a + S1x1024.size a ≤ S400x1024.size a)
theorem k1_off123_inb : ∀ (i : grid1.Coords) (v537 : BitVec 32) (k1_hw51 : k1_chk51 i v537), ∀ (k1_h59 : k1_cond59 v537 = 1#1), ∀ a, (k1_off123 i v537) a + S1x1024.size a ≤ S400x1024.size a := fun i v537 k1_hw51 k1_h59 => k1_hw51 k1_h59

def k1_off124 : Fin 2 → Nat :=
  let c0_i32_399 : BitVec 32 := 0#32
  let c16_i32_439 : BitVec 32 := 16#32
  let v613 : BitVec 32 := Scalar.muli c0_i32_399 c16_i32_439
  let c3_i32_440 : BitVec 32 := 3#32
  let v614 : BitVec 32 := Scalar.addi v613 c3_i32_440
  let c0_i32_441_r52 : BitVec 32 := 0#32
  ![v614.toNat, 0]
def k1_off125 (i : grid1.Coords) (v542 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v542 c32000_i32_438
  let c99_i32 : BitVec 32 := 99#32
  let v611 : BitVec 32 := Scalar.minsi v610 c99_i32
  let v612 : BitVec 32 := Scalar.addi v20 v611
  let c0_i32_442_r52 : BitVec 32 := 0#32
  ![v612.toNat, 0]
def k1_cond60 (v542 : BitVec 32) : BitVec 1 :=
  let c32000_i32_408 : BitVec 32 := 32000#32
  let v543 : BitVec 1 := Scalar.cmpi .sge v542 c32000_i32_408
  let v544 : BitVec 32 := Scalar.extui v543
  let c0_i32_409 : BitVec 32 := 0#32
  let v545 : BitVec 1 := Scalar.cmpi .ne v544 c0_i32_409
  v545

def k1_chk52 (i : grid1.Coords) (v542 : BitVec 32) : Prop :=
  (∀ (k1_h60 : k1_cond60 v542 = 1#1), ∀ a, (k1_off125 i v542) a + S1x1024.size a ≤ S400x1024.size a)
theorem k1_off125_inb : ∀ (i : grid1.Coords) (v542 : BitVec 32) (k1_hw52 : k1_chk52 i v542), ∀ (k1_h60 : k1_cond60 v542 = 1#1), ∀ a, (k1_off125 i v542) a + S1x1024.size a ≤ S400x1024.size a := fun i v542 k1_hw52 k1_h60 => k1_hw52 k1_h60

def k1_off126 : Fin 2 → Nat :=
  let c0_i32_399 : BitVec 32 := 0#32
  let c16_i32_439 : BitVec 32 := 16#32
  let v613 : BitVec 32 := Scalar.muli c0_i32_399 c16_i32_439
  let c4_i32_440 : BitVec 32 := 4#32
  let v614 : BitVec 32 := Scalar.addi v613 c4_i32_440
  let c0_i32_441_r53 : BitVec 32 := 0#32
  ![v614.toNat, 0]
def k1_off127 (i : grid1.Coords) (v547 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v547 c32000_i32_438
  let c99_i32 : BitVec 32 := 99#32
  let v611 : BitVec 32 := Scalar.minsi v610 c99_i32
  let v612 : BitVec 32 := Scalar.addi v20 v611
  let c0_i32_442_r53 : BitVec 32 := 0#32
  ![v612.toNat, 0]
def k1_cond61 (v547 : BitVec 32) : BitVec 1 :=
  let c32000_i32_410 : BitVec 32 := 32000#32
  let v548 : BitVec 1 := Scalar.cmpi .sge v547 c32000_i32_410
  let v549 : BitVec 32 := Scalar.extui v548
  let c0_i32_411 : BitVec 32 := 0#32
  let v550 : BitVec 1 := Scalar.cmpi .ne v549 c0_i32_411
  v550

def k1_chk53 (i : grid1.Coords) (v547 : BitVec 32) : Prop :=
  (∀ (k1_h61 : k1_cond61 v547 = 1#1), ∀ a, (k1_off127 i v547) a + S1x1024.size a ≤ S400x1024.size a)
theorem k1_off127_inb : ∀ (i : grid1.Coords) (v547 : BitVec 32) (k1_hw53 : k1_chk53 i v547), ∀ (k1_h61 : k1_cond61 v547 = 1#1), ∀ a, (k1_off127 i v547) a + S1x1024.size a ≤ S400x1024.size a := fun i v547 k1_hw53 k1_h61 => k1_hw53 k1_h61

def k1_off128 : Fin 2 → Nat :=
  let c0_i32_399 : BitVec 32 := 0#32
  let c16_i32_439 : BitVec 32 := 16#32
  let v613 : BitVec 32 := Scalar.muli c0_i32_399 c16_i32_439
  let c5_i32 : BitVec 32 := 5#32
  let v614 : BitVec 32 := Scalar.addi v613 c5_i32
  let c0_i32_440_r54 : BitVec 32 := 0#32
  ![v614.toNat, 0]
def k1_off129 (i : grid1.Coords) (v552 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v552 c32000_i32_438
  let c99_i32 : BitVec 32 := 99#32
  let v611 : BitVec 32 := Scalar.minsi v610 c99_i32
  let v612 : BitVec 32 := Scalar.addi v20 v611
  let c0_i32_441_r54 : BitVec 32 := 0#32
  ![v612.toNat, 0]
def k1_cond62 (v552 : BitVec 32) : BitVec 1 :=
  let c32000_i32_412 : BitVec 32 := 32000#32
  let v553 : BitVec 1 := Scalar.cmpi .sge v552 c32000_i32_412
  let v554 : BitVec 32 := Scalar.extui v553
  let c0_i32_413 : BitVec 32 := 0#32
  let v555 : BitVec 1 := Scalar.cmpi .ne v554 c0_i32_413
  v555

def k1_chk54 (i : grid1.Coords) (v552 : BitVec 32) : Prop :=
  (∀ (k1_h62 : k1_cond62 v552 = 1#1), ∀ a, (k1_off129 i v552) a + S1x1024.size a ≤ S400x1024.size a)
theorem k1_off129_inb : ∀ (i : grid1.Coords) (v552 : BitVec 32) (k1_hw54 : k1_chk54 i v552), ∀ (k1_h62 : k1_cond62 v552 = 1#1), ∀ a, (k1_off129 i v552) a + S1x1024.size a ≤ S400x1024.size a := fun i v552 k1_hw54 k1_h62 => k1_hw54 k1_h62

def k1_off130 : Fin 2 → Nat :=
  let c0_i32_399 : BitVec 32 := 0#32
  let c16_i32_439 : BitVec 32 := 16#32
  let v613 : BitVec 32 := Scalar.muli c0_i32_399 c16_i32_439
  let c6_i32 : BitVec 32 := 6#32
  let v614 : BitVec 32 := Scalar.addi v613 c6_i32
  let c0_i32_440_r55 : BitVec 32 := 0#32
  ![v614.toNat, 0]
def k1_off131 (i : grid1.Coords) (v557 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v557 c32000_i32_438
  let c99_i32 : BitVec 32 := 99#32
  let v611 : BitVec 32 := Scalar.minsi v610 c99_i32
  let v612 : BitVec 32 := Scalar.addi v20 v611
  let c0_i32_441_r55 : BitVec 32 := 0#32
  ![v612.toNat, 0]
def k1_cond63 (v557 : BitVec 32) : BitVec 1 :=
  let c32000_i32_414 : BitVec 32 := 32000#32
  let v558 : BitVec 1 := Scalar.cmpi .sge v557 c32000_i32_414
  let v559 : BitVec 32 := Scalar.extui v558
  let c0_i32_415 : BitVec 32 := 0#32
  let v560 : BitVec 1 := Scalar.cmpi .ne v559 c0_i32_415
  v560

def k1_chk55 (i : grid1.Coords) (v557 : BitVec 32) : Prop :=
  (∀ (k1_h63 : k1_cond63 v557 = 1#1), ∀ a, (k1_off131 i v557) a + S1x1024.size a ≤ S400x1024.size a)
theorem k1_off131_inb : ∀ (i : grid1.Coords) (v557 : BitVec 32) (k1_hw55 : k1_chk55 i v557), ∀ (k1_h63 : k1_cond63 v557 = 1#1), ∀ a, (k1_off131 i v557) a + S1x1024.size a ≤ S400x1024.size a := fun i v557 k1_hw55 k1_h63 => k1_hw55 k1_h63

def k1_off132 : Fin 2 → Nat :=
  let c0_i32_399 : BitVec 32 := 0#32
  let c16_i32_439 : BitVec 32 := 16#32
  let v613 : BitVec 32 := Scalar.muli c0_i32_399 c16_i32_439
  let c7_i32 : BitVec 32 := 7#32
  let v614 : BitVec 32 := Scalar.addi v613 c7_i32
  let c0_i32_440_r56 : BitVec 32 := 0#32
  ![v614.toNat, 0]
def k1_off133 (i : grid1.Coords) (v562 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v562 c32000_i32_438
  let c99_i32 : BitVec 32 := 99#32
  let v611 : BitVec 32 := Scalar.minsi v610 c99_i32
  let v612 : BitVec 32 := Scalar.addi v20 v611
  let c0_i32_441_r56 : BitVec 32 := 0#32
  ![v612.toNat, 0]
def k1_cond64 (v562 : BitVec 32) : BitVec 1 :=
  let c32000_i32_416 : BitVec 32 := 32000#32
  let v563 : BitVec 1 := Scalar.cmpi .sge v562 c32000_i32_416
  let v564 : BitVec 32 := Scalar.extui v563
  let c0_i32_417 : BitVec 32 := 0#32
  let v565 : BitVec 1 := Scalar.cmpi .ne v564 c0_i32_417
  v565

def k1_chk56 (i : grid1.Coords) (v562 : BitVec 32) : Prop :=
  (∀ (k1_h64 : k1_cond64 v562 = 1#1), ∀ a, (k1_off133 i v562) a + S1x1024.size a ≤ S400x1024.size a)
theorem k1_off133_inb : ∀ (i : grid1.Coords) (v562 : BitVec 32) (k1_hw56 : k1_chk56 i v562), ∀ (k1_h64 : k1_cond64 v562 = 1#1), ∀ a, (k1_off133 i v562) a + S1x1024.size a ≤ S400x1024.size a := fun i v562 k1_hw56 k1_h64 => k1_hw56 k1_h64

def k1_off134 : Fin 2 → Nat :=
  let c0_i32_399 : BitVec 32 := 0#32
  let c16_i32_439 : BitVec 32 := 16#32
  let v613 : BitVec 32 := Scalar.muli c0_i32_399 c16_i32_439
  let c8_i32_440 : BitVec 32 := 8#32
  let v614 : BitVec 32 := Scalar.addi v613 c8_i32_440
  let c0_i32_441_r57 : BitVec 32 := 0#32
  ![v614.toNat, 0]
def k1_off135 (i : grid1.Coords) (v567 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v567 c32000_i32_438
  let c99_i32 : BitVec 32 := 99#32
  let v611 : BitVec 32 := Scalar.minsi v610 c99_i32
  let v612 : BitVec 32 := Scalar.addi v20 v611
  let c0_i32_442_r57 : BitVec 32 := 0#32
  ![v612.toNat, 0]
def k1_cond65 (v567 : BitVec 32) : BitVec 1 :=
  let c32000_i32_418 : BitVec 32 := 32000#32
  let v568 : BitVec 1 := Scalar.cmpi .sge v567 c32000_i32_418
  let v569 : BitVec 32 := Scalar.extui v568
  let c0_i32_419 : BitVec 32 := 0#32
  let v570 : BitVec 1 := Scalar.cmpi .ne v569 c0_i32_419
  v570

def k1_chk57 (i : grid1.Coords) (v567 : BitVec 32) : Prop :=
  (∀ (k1_h65 : k1_cond65 v567 = 1#1), ∀ a, (k1_off135 i v567) a + S1x1024.size a ≤ S400x1024.size a)
theorem k1_off135_inb : ∀ (i : grid1.Coords) (v567 : BitVec 32) (k1_hw57 : k1_chk57 i v567), ∀ (k1_h65 : k1_cond65 v567 = 1#1), ∀ a, (k1_off135 i v567) a + S1x1024.size a ≤ S400x1024.size a := fun i v567 k1_hw57 k1_h65 => k1_hw57 k1_h65

def k1_off136 : Fin 2 → Nat :=
  let c0_i32_399 : BitVec 32 := 0#32
  let c16_i32_439 : BitVec 32 := 16#32
  let v613 : BitVec 32 := Scalar.muli c0_i32_399 c16_i32_439
  let c9_i32 : BitVec 32 := 9#32
  let v614 : BitVec 32 := Scalar.addi v613 c9_i32
  let c0_i32_440_r58 : BitVec 32 := 0#32
  ![v614.toNat, 0]
def k1_off137 (i : grid1.Coords) (v572 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v572 c32000_i32_438
  let c99_i32 : BitVec 32 := 99#32
  let v611 : BitVec 32 := Scalar.minsi v610 c99_i32
  let v612 : BitVec 32 := Scalar.addi v20 v611
  let c0_i32_441_r58 : BitVec 32 := 0#32
  ![v612.toNat, 0]
def k1_cond66 (v572 : BitVec 32) : BitVec 1 :=
  let c32000_i32_420 : BitVec 32 := 32000#32
  let v573 : BitVec 1 := Scalar.cmpi .sge v572 c32000_i32_420
  let v574 : BitVec 32 := Scalar.extui v573
  let c0_i32_421 : BitVec 32 := 0#32
  let v575 : BitVec 1 := Scalar.cmpi .ne v574 c0_i32_421
  v575

def k1_chk58 (i : grid1.Coords) (v572 : BitVec 32) : Prop :=
  (∀ (k1_h66 : k1_cond66 v572 = 1#1), ∀ a, (k1_off137 i v572) a + S1x1024.size a ≤ S400x1024.size a)
theorem k1_off137_inb : ∀ (i : grid1.Coords) (v572 : BitVec 32) (k1_hw58 : k1_chk58 i v572), ∀ (k1_h66 : k1_cond66 v572 = 1#1), ∀ a, (k1_off137 i v572) a + S1x1024.size a ≤ S400x1024.size a := fun i v572 k1_hw58 k1_h66 => k1_hw58 k1_h66

def k1_off138 : Fin 2 → Nat :=
  let c0_i32_399 : BitVec 32 := 0#32
  let c16_i32_439 : BitVec 32 := 16#32
  let v613 : BitVec 32 := Scalar.muli c0_i32_399 c16_i32_439
  let c10_i32 : BitVec 32 := 10#32
  let v614 : BitVec 32 := Scalar.addi v613 c10_i32
  let c0_i32_440_r59 : BitVec 32 := 0#32
  ![v614.toNat, 0]
def k1_off139 (i : grid1.Coords) (v577 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v577 c32000_i32_438
  let c99_i32 : BitVec 32 := 99#32
  let v611 : BitVec 32 := Scalar.minsi v610 c99_i32
  let v612 : BitVec 32 := Scalar.addi v20 v611
  let c0_i32_441_r59 : BitVec 32 := 0#32
  ![v612.toNat, 0]
def k1_cond67 (v577 : BitVec 32) : BitVec 1 :=
  let c32000_i32_422 : BitVec 32 := 32000#32
  let v578 : BitVec 1 := Scalar.cmpi .sge v577 c32000_i32_422
  let v579 : BitVec 32 := Scalar.extui v578
  let c0_i32_423 : BitVec 32 := 0#32
  let v580 : BitVec 1 := Scalar.cmpi .ne v579 c0_i32_423
  v580

def k1_chk59 (i : grid1.Coords) (v577 : BitVec 32) : Prop :=
  (∀ (k1_h67 : k1_cond67 v577 = 1#1), ∀ a, (k1_off139 i v577) a + S1x1024.size a ≤ S400x1024.size a)
theorem k1_off139_inb : ∀ (i : grid1.Coords) (v577 : BitVec 32) (k1_hw59 : k1_chk59 i v577), ∀ (k1_h67 : k1_cond67 v577 = 1#1), ∀ a, (k1_off139 i v577) a + S1x1024.size a ≤ S400x1024.size a := fun i v577 k1_hw59 k1_h67 => k1_hw59 k1_h67

def k1_off140 : Fin 2 → Nat :=
  let c0_i32_399 : BitVec 32 := 0#32
  let c16_i32_439 : BitVec 32 := 16#32
  let v613 : BitVec 32 := Scalar.muli c0_i32_399 c16_i32_439
  let c11_i32 : BitVec 32 := 11#32
  let v614 : BitVec 32 := Scalar.addi v613 c11_i32
  let c0_i32_440_r60 : BitVec 32 := 0#32
  ![v614.toNat, 0]
def k1_off141 (i : grid1.Coords) (v582 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v582 c32000_i32_438
  let c99_i32 : BitVec 32 := 99#32
  let v611 : BitVec 32 := Scalar.minsi v610 c99_i32
  let v612 : BitVec 32 := Scalar.addi v20 v611
  let c0_i32_441_r60 : BitVec 32 := 0#32
  ![v612.toNat, 0]
def k1_cond68 (v582 : BitVec 32) : BitVec 1 :=
  let c32000_i32_424 : BitVec 32 := 32000#32
  let v583 : BitVec 1 := Scalar.cmpi .sge v582 c32000_i32_424
  let v584 : BitVec 32 := Scalar.extui v583
  let c0_i32_425 : BitVec 32 := 0#32
  let v585 : BitVec 1 := Scalar.cmpi .ne v584 c0_i32_425
  v585

def k1_chk60 (i : grid1.Coords) (v582 : BitVec 32) : Prop :=
  (∀ (k1_h68 : k1_cond68 v582 = 1#1), ∀ a, (k1_off141 i v582) a + S1x1024.size a ≤ S400x1024.size a)
theorem k1_off141_inb : ∀ (i : grid1.Coords) (v582 : BitVec 32) (k1_hw60 : k1_chk60 i v582), ∀ (k1_h68 : k1_cond68 v582 = 1#1), ∀ a, (k1_off141 i v582) a + S1x1024.size a ≤ S400x1024.size a := fun i v582 k1_hw60 k1_h68 => k1_hw60 k1_h68

def k1_off142 : Fin 2 → Nat :=
  let c0_i32_399 : BitVec 32 := 0#32
  let c16_i32_439 : BitVec 32 := 16#32
  let v613 : BitVec 32 := Scalar.muli c0_i32_399 c16_i32_439
  let c12_i32 : BitVec 32 := 12#32
  let v614 : BitVec 32 := Scalar.addi v613 c12_i32
  let c0_i32_440_r61 : BitVec 32 := 0#32
  ![v614.toNat, 0]
def k1_off143 (i : grid1.Coords) (v587 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v587 c32000_i32_438
  let c99_i32 : BitVec 32 := 99#32
  let v611 : BitVec 32 := Scalar.minsi v610 c99_i32
  let v612 : BitVec 32 := Scalar.addi v20 v611
  let c0_i32_441_r61 : BitVec 32 := 0#32
  ![v612.toNat, 0]
def k1_cond69 (v587 : BitVec 32) : BitVec 1 :=
  let c32000_i32_426 : BitVec 32 := 32000#32
  let v588 : BitVec 1 := Scalar.cmpi .sge v587 c32000_i32_426
  let v589 : BitVec 32 := Scalar.extui v588
  let c0_i32_427 : BitVec 32 := 0#32
  let v590 : BitVec 1 := Scalar.cmpi .ne v589 c0_i32_427
  v590

def k1_chk61 (i : grid1.Coords) (v587 : BitVec 32) : Prop :=
  (∀ (k1_h69 : k1_cond69 v587 = 1#1), ∀ a, (k1_off143 i v587) a + S1x1024.size a ≤ S400x1024.size a)
theorem k1_off143_inb : ∀ (i : grid1.Coords) (v587 : BitVec 32) (k1_hw61 : k1_chk61 i v587), ∀ (k1_h69 : k1_cond69 v587 = 1#1), ∀ a, (k1_off143 i v587) a + S1x1024.size a ≤ S400x1024.size a := fun i v587 k1_hw61 k1_h69 => k1_hw61 k1_h69

def k1_off144 : Fin 2 → Nat :=
  let c0_i32_399 : BitVec 32 := 0#32
  let c16_i32_439 : BitVec 32 := 16#32
  let v613 : BitVec 32 := Scalar.muli c0_i32_399 c16_i32_439
  let c13_i32 : BitVec 32 := 13#32
  let v614 : BitVec 32 := Scalar.addi v613 c13_i32
  let c0_i32_440_r62 : BitVec 32 := 0#32
  ![v614.toNat, 0]
def k1_off145 (i : grid1.Coords) (v592 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v592 c32000_i32_438
  let c99_i32 : BitVec 32 := 99#32
  let v611 : BitVec 32 := Scalar.minsi v610 c99_i32
  let v612 : BitVec 32 := Scalar.addi v20 v611
  let c0_i32_441_r62 : BitVec 32 := 0#32
  ![v612.toNat, 0]
def k1_cond70 (v592 : BitVec 32) : BitVec 1 :=
  let c32000_i32_428 : BitVec 32 := 32000#32
  let v593 : BitVec 1 := Scalar.cmpi .sge v592 c32000_i32_428
  let v594 : BitVec 32 := Scalar.extui v593
  let c0_i32_429 : BitVec 32 := 0#32
  let v595 : BitVec 1 := Scalar.cmpi .ne v594 c0_i32_429
  v595

def k1_chk62 (i : grid1.Coords) (v592 : BitVec 32) : Prop :=
  (∀ (k1_h70 : k1_cond70 v592 = 1#1), ∀ a, (k1_off145 i v592) a + S1x1024.size a ≤ S400x1024.size a)
theorem k1_off145_inb : ∀ (i : grid1.Coords) (v592 : BitVec 32) (k1_hw62 : k1_chk62 i v592), ∀ (k1_h70 : k1_cond70 v592 = 1#1), ∀ a, (k1_off145 i v592) a + S1x1024.size a ≤ S400x1024.size a := fun i v592 k1_hw62 k1_h70 => k1_hw62 k1_h70

def k1_off146 : Fin 2 → Nat :=
  let c0_i32_399 : BitVec 32 := 0#32
  let c16_i32_439 : BitVec 32 := 16#32
  let v613 : BitVec 32 := Scalar.muli c0_i32_399 c16_i32_439
  let c14_i32 : BitVec 32 := 14#32
  let v614 : BitVec 32 := Scalar.addi v613 c14_i32
  let c0_i32_440_r63 : BitVec 32 := 0#32
  ![v614.toNat, 0]
def k1_off147 (i : grid1.Coords) (v597 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v597 c32000_i32_438
  let c99_i32 : BitVec 32 := 99#32
  let v611 : BitVec 32 := Scalar.minsi v610 c99_i32
  let v612 : BitVec 32 := Scalar.addi v20 v611
  let c0_i32_441_r63 : BitVec 32 := 0#32
  ![v612.toNat, 0]
def k1_cond71 (v597 : BitVec 32) : BitVec 1 :=
  let c32000_i32_430 : BitVec 32 := 32000#32
  let v598 : BitVec 1 := Scalar.cmpi .sge v597 c32000_i32_430
  let v599 : BitVec 32 := Scalar.extui v598
  let c0_i32_431 : BitVec 32 := 0#32
  let v600 : BitVec 1 := Scalar.cmpi .ne v599 c0_i32_431
  v600

def k1_chk63 (i : grid1.Coords) (v597 : BitVec 32) : Prop :=
  (∀ (k1_h71 : k1_cond71 v597 = 1#1), ∀ a, (k1_off147 i v597) a + S1x1024.size a ≤ S400x1024.size a)
theorem k1_off147_inb : ∀ (i : grid1.Coords) (v597 : BitVec 32) (k1_hw63 : k1_chk63 i v597), ∀ (k1_h71 : k1_cond71 v597 = 1#1), ∀ a, (k1_off147 i v597) a + S1x1024.size a ≤ S400x1024.size a := fun i v597 k1_hw63 k1_h71 => k1_hw63 k1_h71

def k1_off148 : Fin 2 → Nat :=
  let c0_i32_399 : BitVec 32 := 0#32
  let c16_i32_439 : BitVec 32 := 16#32
  let v613 : BitVec 32 := Scalar.muli c0_i32_399 c16_i32_439
  let c15_i32 : BitVec 32 := 15#32
  let v614 : BitVec 32 := Scalar.addi v613 c15_i32
  let c0_i32_440_r64 : BitVec 32 := 0#32
  ![v614.toNat, 0]
def k1_off149 (i : grid1.Coords) (v602 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c100_i32 : BitVec 32 := 100#32
  let v20 : BitVec 32 := Scalar.muli v19 c100_i32
  let c32000_i32_438 : BitVec 32 := 32000#32
  let v610 : BitVec 32 := Scalar.subi v602 c32000_i32_438
  let c99_i32 : BitVec 32 := 99#32
  let v611 : BitVec 32 := Scalar.minsi v610 c99_i32
  let v612 : BitVec 32 := Scalar.addi v20 v611
  let c0_i32_441_r64 : BitVec 32 := 0#32
  ![v612.toNat, 0]
def k1_cond72 (v602 : BitVec 32) : BitVec 1 :=
  let c32000_i32_432 : BitVec 32 := 32000#32
  let v603 : BitVec 1 := Scalar.cmpi .sge v602 c32000_i32_432
  let v604 : BitVec 32 := Scalar.extui v603
  let c0_i32_433 : BitVec 32 := 0#32
  let v605 : BitVec 1 := Scalar.cmpi .ne v604 c0_i32_433
  v605

def k1_chk64 (i : grid1.Coords) (v602 : BitVec 32) : Prop :=
  (∀ (k1_h72 : k1_cond72 v602 = 1#1), ∀ a, (k1_off149 i v602) a + S1x1024.size a ≤ S400x1024.size a)
theorem k1_off149_inb : ∀ (i : grid1.Coords) (v602 : BitVec 32) (k1_hw64 : k1_chk64 i v602), ∀ (k1_h72 : k1_cond72 v602 = 1#1), ∀ a, (k1_off149 i v602) a + S1x1024.size a ≤ S400x1024.size a := fun i v602 k1_hw64 k1_h72 => k1_hw64 k1_h72

def k1_off150 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89 : BitVec 32 := 0#32
  let c1_i32_91 : BitVec 32 := 1#32
  let arg20 : BitVec 32 := Scf.iv c0_i32_89 c1_i32_91 k1_t2
  let c4_i32_354 : BitVec 32 := 4#32
  let v481 : BitVec 32 := Scalar.muli arg20 c4_i32_354
  let c3_i32 : BitVec 32 := 3#32
  let v482 : BitVec 32 := Scalar.addi v481 c3_i32
  let c16_i32_435 : BitVec 32 := 16#32
  let v606 : BitVec 32 := Scalar.muli v482 c16_i32_435
  let v607 : BitVec 32 := Scalar.addi v2 v606
  let c0_i32_436 : BitVec 32 := 0#32
  ![v607.toNat, 0]
def k1_off151 (i : grid1.Coords) (c448_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v82 : BitVec 32 := Scalar.addi v2 c448_i32
  let c0_i32_93 : BitVec 32 := 0#32
  ![v82.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096 : Shape := ⟨2, ![4, 4096]⟩
abbrev S4 : Shape := ⟨1, ![4]⟩
abbrev S32000x1024 : Shape := ⟨2, ![32000, 1024]⟩
abbrev S100x1024 : Shape := ⟨2, ![100, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩
abbrev S4x1 : Shape := ⟨2, ![4, 1]⟩
abbrev S1x1 : Shape := ⟨2, ![1, 1]⟩
abbrev S4x1024 : Shape := ⟨2, ![4, 1024]⟩
abbrev S4x1x1024 : Shape := ⟨3, ![4, 1, 1024]⟩
abbrev S1x1x1024 : Shape := ⟨3, ![1, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4, .i32⟩
  | .hbm, ⟨2, _⟩ => ⟨S32000x1024, .f32⟩
  | .hbm, ⟨3, _⟩ => ⟨S100x1024, .f32⟩
  | .hbm, ⟨4, _⟩ => ⟨S8x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .i32⟩
  | .hbm, ⟨10, _⟩ => ⟨S4x4096, .i32⟩
  | .hbm, ⟨11, _⟩ => ⟨S4x4096, .i1⟩
  | .hbm, ⟨12, _⟩ => ⟨S_, .i32⟩
  | .hbm, ⟨13, _⟩ => ⟨S_, .i32⟩
  | .hbm, ⟨14, _⟩ => ⟨S4x4096, .i32⟩
  | .hbm, ⟨15, _⟩ => ⟨S4x4096, .i32⟩
  | .hbm, ⟨16, _⟩ => ⟨S_, .i32⟩
  | .hbm, ⟨17, _⟩ => ⟨S4x4096, .i32⟩
  | .hbm, ⟨18, _⟩ => ⟨S4x4096, .i1⟩
  | .hbm, ⟨19, _⟩ => ⟨S_, .i32⟩
  | .hbm, ⟨20, _⟩ => ⟨S4x4096, .i32⟩
  | .hbm, ⟨21, _⟩ => ⟨S4x4096, .i32⟩
  | .hbm, ⟨22, _⟩ => ⟨S4x4096, .i32⟩
  | .hbm, ⟨23, _⟩ => ⟨S4x4096x1, .i32⟩
  | .hbm, ⟨24, _⟩ => ⟨S1, .i32⟩
  | .hbm, ⟨25, _⟩ => ⟨S_, .i32⟩
  | .hbm, ⟨26, _⟩ => ⟨S4x4096x1, .i32⟩
  | .hbm, ⟨27, _⟩ => ⟨S4x4096x1, .i1⟩
  | .hbm, ⟨28, _⟩ => ⟨S1x1x1, .i32⟩
  | .hbm, ⟨29, _⟩ => ⟨S4x4096x1, .i32⟩
  | .hbm, ⟨30, _⟩ => ⟨S4x4096x1, .i1⟩
  | .hbm, ⟨31, _⟩ => ⟨S4x4096x1, .i1⟩
  | .hbm, ⟨32, _⟩ => ⟨S_, .i1⟩
  | .hbm, ⟨33, _⟩ => ⟨S4x4096, .i1⟩
  | .hbm, ⟨34, _⟩ => ⟨S4x4096x1024, .f32⟩
  | .hbm, ⟨35, _⟩ => ⟨S4x4096x1024, .i1⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S_, .i32⟩
  | .hbm, ⟨40, _⟩ => ⟨S4x4096, .i32⟩
  | .hbm, ⟨41, _⟩ => ⟨S4x4096, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S4x4096, .i32⟩
  | .hbm, ⟨46, _⟩ => ⟨S4x4096, .i32⟩
  | .hbm, ⟨47, _⟩ => ⟨S_, .i32⟩
  | .hbm, ⟨48, _⟩ => ⟨S4x4096, .i32⟩
  | .hbm, ⟨49, _⟩ => ⟨S4x4096, .i32⟩
  | .hbm, ⟨50, _⟩ => ⟨S_, .i32⟩
  | .hbm, ⟨51, _⟩ => ⟨S4x4096, .i32⟩
  | .hbm, ⟨52, _⟩ => ⟨S4x4096, .i1⟩
  | .hbm, ⟨53, _⟩ => ⟨S_, .i32⟩
  | .hbm, ⟨54, _⟩ => ⟨S4x4096, .i32⟩
  | .hbm, ⟨55, _⟩ => ⟨S4x4096, .i32⟩
  | .hbm, ⟨56, _⟩ => ⟨S4x4096, .i32⟩
  | .hbm, ⟨57, _⟩ => ⟨S4x4096x1, .i32⟩
  | .hbm, ⟨58, _⟩ => ⟨S1, .i32⟩
  | .hbm, ⟨59, _⟩ => ⟨S_, .i32⟩
  | .hbm, ⟨60, _⟩ => ⟨S4x4096x1, .i32⟩
  | .hbm, ⟨61, _⟩ => ⟨S4x4096x1, .i1⟩
  | .hbm, ⟨62, _⟩ => ⟨S1x1x1, .i32⟩
  | .hbm, ⟨63, _⟩ => ⟨S4x4096x1, .i32⟩
  | .hbm, ⟨64, _⟩ => ⟨S4x4096x1, .i1⟩
  | .hbm, ⟨65, _⟩ => ⟨S4x4096x1, .i1⟩
  | .hbm, ⟨66, _⟩ => ⟨S_, .i1⟩
  | .hbm, ⟨67, _⟩ => ⟨S4x4096, .i1⟩
  | .hbm, ⟨68, _⟩ => ⟨S4x4096x1024, .f32⟩
  | .hbm, ⟨69, _⟩ => ⟨S4x4096x1024, .i1⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S_, .i32⟩
  | .hbm, ⟨74, _⟩ => ⟨S4, .i32⟩
  | .hbm, ⟨75, _⟩ => ⟨S4, .i1⟩
  | .hbm, ⟨76, _⟩ => ⟨S_, .i32⟩
  | .hbm, ⟨77, _⟩ => ⟨S4, .i32⟩
  | .hbm, ⟨78, _⟩ => ⟨S4, .i32⟩
  | .hbm, ⟨79, _⟩ => ⟨S4, .i32⟩
  | .hbm, ⟨80, _⟩ => ⟨S4x1, .i32⟩
  | .hbm, ⟨81, _⟩ => ⟨S1, .i32⟩
  | .hbm, ⟨82, _⟩ => ⟨S_, .i32⟩
  | .hbm, ⟨83, _⟩ => ⟨S4x1, .i32⟩
  | .hbm, ⟨84, _⟩ => ⟨S4x1, .i1⟩
  | .hbm, ⟨85, _⟩ => ⟨S1x1, .i32⟩
  | .hbm, ⟨86, _⟩ => ⟨S4x1, .i32⟩
  | .hbm, ⟨87, _⟩ => ⟨S4x1, .i1⟩
  | .hbm, ⟨88, _⟩ => ⟨S4x1, .i1⟩
  | .hbm, ⟨89, _⟩ => ⟨S_, .i1⟩
  | .hbm, ⟨90, _⟩ => ⟨S4, .i1⟩
  | .hbm, ⟨91, _⟩ => ⟨S4x1024, .f32⟩
  | .hbm, ⟨92, _⟩ => ⟨S4x1024, .i1⟩
  | .hbm, ⟨93, _⟩ => ⟨S_, .f32⟩
  | .hbm, ⟨94, _⟩ => ⟨S4x1024, .f32⟩
  | .hbm, ⟨95, _⟩ => ⟨S4x1024, .f32⟩
  | .hbm, ⟨96, _⟩ => ⟨S4x1x1024, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S1x1x1024, .f32⟩
  | .hbm, ⟨101, _⟩ => ⟨S4x4096x1024, .f32⟩
  | .hbm, ⟨102, _⟩ => ⟨S4x4096x1024, .f32⟩
  | .hbm, ⟨103, _⟩ => ⟨S_, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S1x1x1024, .f32⟩
  | .hbm, ⟨108, _⟩ => ⟨S4x4096x1024, .f32⟩
  | .hbm, ⟨109, _⟩ => ⟨S4x4096x1024, .f32⟩
  | .hbm, ⟨110, _⟩ => ⟨S4x4096x1, .i1⟩
  | .hbm, ⟨111, _⟩ => ⟨S4x4096x1024, .i1⟩
  | .hbm, ⟨112, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v2 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v3 : Ref sig .tc := ⟨.hbm, 38, rfl⟩
abbrev main_c_1 : Ref sig .tc := ⟨.hbm, 39, rfl⟩
abbrev main_v4 : Ref sig .tc := ⟨.hbm, 40, rfl⟩
abbrev main_v5 : Ref sig .tc := ⟨.hbm, 41, rfl⟩
abbrev main_c_2 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v6 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_cst : Ref sig .tc := ⟨.hbm, 70, rfl⟩
abbrev main_call3_v15 : Ref sig .tc := ⟨.hbm, 71, rfl⟩
abbrev main_v7 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_call4_cst : Ref sig .tc := ⟨.hbm, 93, rfl⟩
abbrev main_call4_v15 : Ref sig .tc := ⟨.hbm, 94, rfl⟩
abbrev main_v8 : Ref sig .tc := ⟨.hbm, 95, rfl⟩
abbrev main_v9 : Ref sig .tc := ⟨.hbm, 96, rfl⟩
abbrev main_v10 : Ref sig .tc := ⟨.hbm, 97, rfl⟩
abbrev main_v11 : Ref sig .tc := ⟨.hbm, 98, rfl⟩
abbrev main_v12 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_call5_cst : Ref sig .tc := ⟨.hbm, 103, rfl⟩
abbrev main_call5_v0 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_call6_v0 : Ref sig .tc := ⟨.hbm, 111, rfl⟩
abbrev main_v22 : Ref sig .tc := ⟨.hbm, 112, rfl⟩

abbrev nD : Nat := 1
abbrev τ : Topo := Topo.v7x

variable {F : FTy → Type} [FloatOps F]
-- ==== Proof.Ops.lean ====
/-
  Several indirect gathers in flight on ONE semaphore: each row of each gather is one of a batch's transfers
  (Lib/Batch.lean), all of one size, so that the waits may take one gather's units at a time and the last of them
  gets every row of every gather.
-/
module

public import Idealize.ShloMosaic.Lib.SparseCore.Quiescent
public import Idealize.ShloMosaic.Lib.SparseCore.Ops
public import Idealize.ShloMosaic.Lib.SparseCore.Stream
public import Idealize.ShloMosaic.Lib.Batch

@[expose] public section

noncomputable section

namespace Cert.Proof.Ops

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- A family over the pending members from `b` on is `o` of them and the pending ones after. -/
theorem pending_add {n : ℕ} (Φ : Fin n → sProp 𝕄) : ∀ (o b : ℕ) (h : b + o ≤ n),
    bigSep (pending b) Φ = iprop((bigSep Finset.univ fun j : Fin o => Φ ⟨b + j.val, by omega⟩) ∗ bigSep (pending (b + o)) Φ)
  | 0, b, h => by
    rw [show (Finset.univ : Finset (Fin 0)) = ∅ from rfl, BI.bigSep_empty]
    exact (BI.equiv_iff.mp BI.emp_sep).symm
  | o + 1, b, h => by
    rw [bigSep_pending_step Φ b (by omega), pending_add Φ o (b + 1) (by omega), bigSep_univ_succ]
    have e1 : (bigSep Finset.univ fun j : Fin o => Φ ⟨b + 1 + j.val, by omega⟩)
        = bigSep Finset.univ fun j : Fin o => Φ ⟨b + (Fin.succ j).val, by have := j.isLt; simp; omega⟩ :=
      BI.bigSep_congr fun j _ => congrArg Φ (Fin.ext (by simp; omega))
    rw [e1, show b + 1 + o = b + (o + 1) by omega]
    exact (BI.equiv_iff.mp ⟨BI.sep_assoc, BI.sep_assoc'⟩).symm

section Gather

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What row `j` of a gather delivers: the destination's row written with the source row the list names, the list's
    element and a piece of the source's share back. -/
def rowD (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ ho j} fs))

instance rowD_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) :
    Storable (upEmb : UEmb _ 𝕄) (rowD (Ix := Ix) (Name := Name) (U := U) (Lvl := Lvl) c src dst hg offs hn q qo fs fd fo ho hin j) := by
  unfold rowD; infer_instance

/-- All the rows of a gather delivered: the destination written with the gather's payload, both shares back. -/
theorem rowD_join (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) :
    (bigSep Finset.univ (rowD (Ix := Ix) (Name := Name) (U := U) (Lvl := Lvl) c src dst hg offs hn q qo fs fd fo ho hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  have hrows := pointsTo_rows_write (Ix := Ix) (Name := Name) (U := U) (Lvl := Lvl) c dst.view hg.axis' fd
      (fun j i => src.view.read (Elt F) fs (hg.rowIdx (rows (offs.view.read (Elt F) fo) hn hin j) i))
      (gatherPayload hg (src.view.read (Elt F) fs) (rows (offs.view.read (Elt F) fo) hn hin))
      (fun j i => by unfold gatherPayload; rw [Shape.Gathers.idx_rowRect_emb])
  unfold rowD
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · refine .trans ?_ hrows
    exact .rfl
  isplitl [Hsrc]; · iapply (Entails.of_eq (pointsTo_piecesOf (src.view.set) fs ho q).symm) $$ Hsrc
  iapply (Entails.of_eq (pointsTo_entries c offs.view _ hen qo fo).symm) $$ Hoffs

/-- The next gather of a batch whose transfers are rows: `b` rows issued before it, its own after. -/
theorem wp_gatherBatch [Infinite Name] [EC.LandsIn (upEmb : UEmb _ 𝕄)] {n : ℕ} {D : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (ho : 0 < s.size hg.axis')
    (hN : ∀ j, (dst.slice (s.rowRect hg.axis' j) (s.stride_rowRect hg.axis' j)).view.dmaCredit = N)
    (hin : ∀ x, (offs.view.read (Elt F) fo x).toNat < s₀.size hg.axis) (b : ℕ) (hb : b + s.size hg.axis' ≤ n)
    (hD : ∀ j : Fin (s.size hg.axis'), rowD c src dst hg offs hn q qo fs fd fo ho hin j ⊢ D ⟨b + j.val, by have := j.isLt; omega⟩) :
    iprop((src.view.loc c ↦[src.view.set]{q} fs) ∗ (dst.view.loc c ↦[dst.view.set]{fullShare} fd)
        ∗ (offs.view.loc c ↦[offs.view.set]{qo} fo) ∗ Batch EC c (.dma sem) ι N D b 0)
      ⊢ iprop((Batch EC c (.dma sem) ι N D (b + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  unfold Batch
  iintro ⟨Hs, Hd, Ho, ⟨%γ, %γ₀, %κ, #Hinv, HI, H0, Hcred⟩⟩ Hk
  ihave HI' := (Entails.of_eq (pending_add (fun t => count EC (γ t) 0) (s.size hg.axis') b hb)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd
    (by rw [Finset.sum_congr rfl (fun j _ => hN j), Finset.sum_const, Finset.card_univ, Fintype.card_fin, smul_eq_mul])) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨b + j.val, by have := j.isLt; omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (g := (c, SemLoc.dma sem)) (N := N) (D := D) (γ := γ) (γ₀ := γ₀) (ι := κ) ⟨b + j.val, by have := j.isLt; omega⟩ (hD j)
        rw [← hN j] at hcu
        rw [← hN j]
        iapply hcu
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (b + s.size hg.axis') * N - 0 = (b * N - 0) + s.size hg.axis' * N by rw [Nat.add_mul]; omega, ← tallyAt_add]
    icombine Hcred Hcred' as H
    iexact H

end Gather

end Cert.Proof.Ops

end
-- ==== Proof.Base.lean ====
/-
  What one tile of the SparseCore call computes, and the state of one of its row buffers while the eight column gathers
  that fill it are in flight.
-/
module

public import proofs.«01_k».proof.Defs
public import proofs.«01_k».proof.Proof.Ops
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

abbrev 𝒱₀ : Variants := Variants.none
abbrev UH : Type := URounds (GSem nD τ sig) ℕ
abbrev UP : Type := URounds (GSem nD τ sig) Unit
abbrev UU : Type := UH × (UP × Counters)

local notation "𝕄" => MT nD τ sig (HIx 1) (Elt F) ℕ UU ℕ
local notation "EC" => (countersEmb : UEmb Counters (MT nD τ sig (HIx 1) (Elt F) ℕ UU ℕ))

/-! ## Values -/

/-- Position `(a, b)` of an `n` by `m` array (each wrapped into its extent, so that it is one for all numbers). -/
def ix2 (n m : ℕ) [NeZero n] [NeZero m] (a b : ℕ) : (⟨2, ![n, m]⟩ : Shape).Idx := fun
  | 0 => Fin.ofNat n a
  | 1 => Fin.ofNat m b

theorem ix2_0 (n m : ℕ) [NeZero n] [NeZero m] (a b : ℕ) (h : a < n) : ((ix2 n m a b) 0).val = a := Nat.mod_eq_of_lt h
theorem ix2_1 (n m : ℕ) [NeZero n] [NeZero m] (a b : ℕ) (h : b < m) : ((ix2 n m a b) 1).val = b := Nat.mod_eq_of_lt h

/-- An index of an `n` by `m` array is the position its coordinates name. -/
theorem eq_ix2 (n m : ℕ) [NeZero n] [NeZero m] (x : (⟨2, ![n, m]⟩ : Shape).Idx) (a b : ℕ) (h0 : (x 0).val = a) (h1 : (x 1).val = b) :
    x = ix2 n m a b := by
  funext i
  match i with
  | ⟨0, _⟩ => exact Fin.ext (h0.trans (Nat.mod_eq_of_lt (h0 ▸ (x 0).isLt)).symm)
  | ⟨1, _⟩ => exact Fin.ext (h1.trans (Nat.mod_eq_of_lt (h1 ▸ (x 1).isLt)).symm)

abbrev Ids : Type := S4x4096.Idx → BitVec 32
abbrev Tab (F : FTy → Type) : Type := S32000x1024.Idx → F .f32
abbrev Enc (F : FTy → Type) : Type := S400x1024.Idx → F .f32

/-- The id at flat position `t` of the `4` by `4096` ids. -/
def tok (ids : Ids) (t : ℕ) : BitVec 32 := ids (ix2 4 4096 (t / 4096) (t % 4096))
/-- The row the table is read at: the id itself if it is one of the table's, row 0 if not. -/
def cln (w : BitVec 32) : BitVec 32 := if 32000 ≤ w.toNat then 0#32 else w

theorem cln_lt (w : BitVec 32) : (cln w).toNat < 32000 := by
  unfold cln; split
  · decide
  · omega

/-- The result's row `t`, column `x`. -/
def outRow (ids : Ids) (tab : Tab F) (enc : Enc F) (t x : ℕ) : F .f32 :=
  if 32000 ≤ (tok ids t).toNat then enc (ix2 400 1024 (t / 4096 * 100 + ((tok ids t).toNat - 32000)) x)
  else tab (ix2 32000 1024 (tok ids t).toNat x)
/-- The SparseCore call's result. -/
def outV (ids : Ids) (tab : Tab F) (enc : Enc F) : S16384x1024.Idx → F .f32 := fun x => outRow ids tab enc (x 0).val (x 1).val

/-- The first row of a tile's 512. -/
def base (L : grid1.Coords) : ℕ := 1024 * (L 1).val + 512 * (L 0).val

theorem base_lt (L : grid1.Coords) : base L + 512 ≤ 16384 := by
  have h1 : (L 1).val < 16 := (L 1).isLt
  have h0 : (L 0).val < 2 := (L 0).isLt
  unfold base; omega

/-- The tile's ids, and the rows it reads the table at. -/
def idsV (ids : Ids) (L : grid1.Coords) : S512.Idx → BitVec 32 := fun x => tok ids (base L + (x 0).val)
def clnV (ids : Ids) (L : grid1.Coords) : S512.Idx → BitVec 32 := fun x => cln (tok ids (base L + (x 0).val))
/-- Chunk `g`'s gathered rows; -/
def gathV (ids : Ids) (tab : Tab F) (L : grid1.Coords) (g : ℕ) : S16x1024.Idx → F .f32 :=
  fun x => tab (ix2 32000 1024 (cln (tok ids (base L + 16 * g + (x 0).val))).toNat (x 1).val)
/-- the same with the first `l` rows those of the result. -/
def fixV (ids : Ids) (tab : Tab F) (enc : Enc F) (L : grid1.Coords) (g l : ℕ) : S16x1024.Idx → F .f32 :=
  fun x => if (x 0).val < l then outRow ids tab enc (base L + 16 * g + (x 0).val) (x 1).val else gathV ids tab L g x

theorem fixV_zero (ids : Ids) (tab : Tab F) (enc : Enc F) (L : grid1.Coords) (g : ℕ) : fixV ids tab enc L g 0 = gathV ids tab L g := by
  funext x; simp [fixV]

/-! ## The tile's memrefs -/

abbrev cV (L : grid1.Coords) : Fin τ.nSC := (L 0).castLE hcore1
abbrev jV (L : grid1.Coords) : Fin τ.nSub := (L 1).castLE hsub1

abbrev idsM : Memref sig .scVector .hbm S4x4096 .i32 := Memref.whole main_arg0_scv
abbrev tabM : Memref sig .scVector .hbm S32000x1024 .f32 := Memref.whole main_arg2_scv
abbrev encM : Memref sig .scVector .hbm S400x1024 .f32 := Memref.whole main_v2_scv
abbrev outM : Memref sig .scVector .hbm S16384x1024 .f32 := Memref.whole main_v3_scv
abbrev idvM : Memref sig .scVector .vmem S512 .i32 := Memref.whole cc1_scratch0
abbrev clnM : Memref sig .scVector .vmem S512 .i32 := Memref.whole cc1_scratch1
abbrev Buf16 : Type := Memref sig .scVector .vmem S16x1024 .f32

theorem colT_inb (j : ℕ) (hj : j < 8) : ∀ a, (![0, 128 * j] : Fin 2 → ℕ) a + S32000x128.size a ≤ S32000x1024.size a := by
  intro a
  match a with
  | ⟨0, _⟩ => show 0 + 32000 ≤ 32000; omega
  | ⟨1, _⟩ => show 128 * j + 128 ≤ 1024; omega
theorem colB_inb (j : ℕ) (hj : j < 8) : ∀ a, (![0, 128 * j] : Fin 2 → ℕ) a + S16x128.size a ≤ S16x1024.size a := by
  intro a
  match a with
  | ⟨0, _⟩ => show 0 + 16 ≤ 16; omega
  | ⟨1, _⟩ => show 128 * j + 128 ≤ 1024; omega
theorem lst_inb (g : ℕ) (hg : g < 32) : ∀ a, (![16 * g] : Fin 1 → ℕ) a + S16.size a ≤ S512.size a := by
  intro a
  match a with
  | ⟨0, _⟩ => show 16 * g + 16 ≤ 512; omega

/-- Column block `j` of the table and of a row buffer; chunk `g`'s sixteen entries of the list. -/
abbrev tabCol (j : ℕ) (hj : j < 8) : Memref sig .scVector .hbm S32000x128 .f32 :=
  tabM.slice (Rect.unit (s := S32000x1024) ![0, 128 * j] S32000x128.size (colT_inb j hj)) (fun _ => rfl)
abbrev bufCol (B : Buf16) (j : ℕ) (hj : j < 8) : Memref sig .scVector .vmem S16x128 .f32 :=
  B.slice (Rect.unit (s := S16x1024) ![0, 128 * j] S16x128.size (colB_inb j hj)) (fun _ => rfl)
abbrev lst (g : ℕ) (hg : g < 32) : Memref sig .scVector .vmem S16 .i32 :=
  clnM.slice (Rect.unit (s := S512) ![16 * g] S16.size (lst_inb g hg)) (fun _ => rfl)

/-- One row of a column block: what a transfer of it credits. -/
abbrev rowN (B : Buf16) : ℕ := B.view.ref.dmaCredit (S16x128.rowShape 0) .f32

section State

variable (d : Dev nD) (L : grid1.Coords) (ids : Ids) (tab : Tab F)

/-- What view `M` reads is `g`, held at share `q`. -/
def holds {sp : Space} {s : Shape} {e : EltTy} (M : Memref sig .scVector sp s e) (q : PosShare TreeShare) (g : s.Idx → Elt F e) : sProp 𝕄 :=
  iprop(∃ f : Buf (Elt F) (M.view.loc (V d (cV L) (jV L))), ⌜M.view.read (Elt F) f = g⌝ ∗ (M.view.loc (V d (cV L) (jV L)) ↦[M.view.set]{q} f))

theorem lst_in (g : ℕ) (hg : g < 32) :
    ∀ x, ((lst g hg).view.read (Elt F) (clnV ids L) x).toNat < S32000x128.size gathers_S32000x128_S16x128.axis := fun x => by
  show _ < 32000
  exact cln_lt (tok ids (base L + (((lst g hg).view.emb x : S512.Idx) 0).val))

/-- What row `k` of column block `j` of chunk `g`'s gather delivers. -/
def gD (B : Buf16) (q qo : PosShare TreeShare) (fB : Buf (Elt F) (B.view.loc (V d (cV L) (jV L)))) (g : ℕ) (hg : g < 32) (j k : ℕ) (hj : j < 8) (hk : k < 16) : sProp 𝕄 :=
  rowD (Ix := HIx 1) (Name := ℕ) (U := UU) (Lvl := ℕ) (V d (cV L) (jV L)) (tabCol j hj) (bufCol B j hj) gathers_S32000x128_S16x128 (lst g hg) rfl (pieceOf q 8 (by decide) ⟨j, hj⟩) (pieceOf qo 8 (by decide) ⟨j, hj⟩)
    tab fB (clnV ids L) (by decide) (lst_in L ids g hg) ⟨k, hk⟩

instance gD_storable (B : Buf16) (q qo : PosShare TreeShare) (fB : Buf (Elt F) (B.view.loc (V d (cV L) (jV L)))) (g : ℕ) (hg : g < 32) (j k : ℕ) (hj : j < 8) (hk : k < 16) :
    Storable (upEmb : UEmb _ 𝕄) (gD d L ids tab B q qo fB g hg j k hj hk) := by
  unfold gD; exact rowD_storable _ _ _ _ _ _ _ _ _ _ _ _ _ _

/-- The 128 row transfers of chunk `g`'s gather, in order of issue. -/
def gDs (B : Buf16) (q qo : PosShare TreeShare) (fB : Buf (Elt F) (B.view.loc (V d (cV L) (jV L)))) (g : ℕ) (hg : g < 32) (t : Fin 128) : sProp 𝕄 :=
  gD d L ids tab B q qo fB g hg (t.val / 16) (t.val % 16) (by omega) (by omega)

instance gDs_storable (B : Buf16) (q qo : PosShare TreeShare) (fB : Buf (Elt F) (B.view.loc (V d (cV L) (jV L)))) (g : ℕ) (hg : g < 32) (t : Fin 128) :
    Storable (upEmb : UEmb _ 𝕄) (gDs d L ids tab B q qo fB g hg t) := by unfold gDs; infer_instance

/-- What column block `j`'s gather is issued with. -/
def gPre (B : Buf16) (q qo : PosShare TreeShare) (fB : Buf (Elt F) (B.view.loc (V d (cV L) (jV L)))) (g : ℕ) (hg : g < 32) (j : Fin 8) : sProp 𝕄 :=
  iprop(((tabCol j.val j.isLt).view.loc (V d (cV L) (jV L)) ↦[(tabCol j.val j.isLt).view.set]{pieceOf q 8 (by decide) j} tab)
    ∗ ((bufCol B j.val j.isLt).view.loc (V d (cV L) (jV L)) ↦[(bufCol B j.val j.isLt).view.set]{fullShare} fB)
    ∗ ((lst g hg).view.loc (V d (cV L) (jV L)) ↦[(lst g hg).view.set]{pieceOf qo 8 (by decide) j} clnV ids L))

/-- The rest of the table and of the list at the shares column block `j`'s gather takes. -/
def gKeep (q qo : PosShare TreeShare) (g : ℕ) (hg : g < 32) (j : Fin 8) : sProp 𝕄 :=
  iprop((tabM.view.loc (V d (cV L) (jV L)) ↦[Finset.univ \ (tabCol j.val j.isLt).view.set]{pieceOf q 8 (by decide) j} tab)
    ∗ (clnM.view.loc (V d (cV L) (jV L)) ↦[Finset.univ \ (lst g hg).view.set]{pieceOf qo 8 (by decide) j} clnV ids L))

/-- A row buffer's shares of the table and of the list. -/
def gTok (q qo : PosShare TreeShare) : sProp 𝕄 :=
  iprop((tabM.view.loc (V d (cV L) (jV L)) ↦[Finset.univ]{q} tab) ∗ (clnM.view.loc (V d (cV L) (jV L)) ↦[Finset.univ]{qo} clnV ids L))

/-- The first `j` column gathers of chunk `g` issued into `B`. -/
def gIss (B : Buf16) (sg : DmaSem sig) (q qo : PosShare TreeShare) (g : ℕ) (hg : g < 32) (j : ℕ) : sProp 𝕄 :=
  iprop(∃ fB, Batch EC (V d (cV L) (jV L)) (.dma sg) none (rowN B) (gDs d L ids tab B q qo fB g hg) (16 * j) 0
    ∗ bigSep (pending j) (gPre d L ids tab B q qo fB g hg) ∗ bigSep Finset.univ (gKeep d L ids tab q qo g hg))

/-- All of them issued and `u` of them waited for. -/
def gFly (B : Buf16) (sg : DmaSem sig) (q qo : PosShare TreeShare) (g : ℕ) (hg : g < 32) (u : ℕ) : sProp 𝕄 :=
  iprop(∃ fB, Batch EC (V d (cV L) (jV L)) (.dma sg) none (rowN B) (gDs d L ids tab B q qo fB g hg) 128 (u * (16 * rowN B))
    ∗ bigSep Finset.univ (gKeep d L ids tab q qo g hg))

theorem gFly_of_gIss (B : Buf16) (sg : DmaSem sig) (q qo : PosShare TreeShare) (g : ℕ) (hg : g < 32) :
    gIss d L ids tab B sg q qo g hg 8 ⊢ gFly d L ids tab B sg q qo g hg 0 := by
  unfold gIss gFly
  iintro ⟨%fB, HB, -, HK⟩
  iexists fB
  isplitl [HB]
  · rw [Nat.zero_mul]; iexact HB
  · iexact HK

/-- The column blocks cover a row buffer, apart. -/
theorem bufCol_disj (B : Buf16) (j j' : Fin 8) (h : j ≠ j') :
    Disjoint (bufCol B j.val j.isLt).view.set (bufCol B j'.val j'.isLt).view.set := by
  refine Finset.disjoint_left.mpr fun i hi hi' => h ?_
  simp only [View.set, Finset.mem_map, Finset.mem_univ, true_and] at hi hi'
  obtain ⟨y, rfl⟩ := hi
  obtain ⟨y', hy'⟩ := hi'
  have e := congrArg (fun x : S16x1024.Idx => (x 1).val) (B.view.emb.injective hy')
  have e1 : 128 * j'.val + 1 * (y' 1).val = 128 * j.val + 1 * (y 1).val := e
  have l : (y 1).val < 128 := (y 1).isLt
  have l' : (y' 1).val < 128 := (y' 1).isLt
  exact Fin.ext (by omega)

theorem bufCol_cover (B : Buf16) : (Finset.univ : Finset (Fin 8)).biUnion (fun j => (bufCol B j.val j.isLt).view.set) = B.view.set := by
  ext i
  constructor
  · intro hi
    obtain ⟨j, -, hj⟩ := Finset.mem_biUnion.mp hi
    exact View.set_slice_subset B.view _ hj
  · intro hi
    simp only [View.set, Finset.mem_map, Finset.mem_univ, true_and] at hi
    obtain ⟨x, rfl⟩ := hi
    have hx : (x 1).val < 1024 := (x 1).isLt
    have hx0 : (x 0).val < 16 := (x 0).isLt
    refine Finset.mem_biUnion.mpr ⟨⟨(x 1).val / 128, by omega⟩, Finset.mem_univ _, ?_⟩
    have hxe : x = (Rect.unit (s := S16x1024) ![0, 128 * ((x 1).val / 128)] S16x128.size (colB_inb _ (by omega))).emb (ix2 16 128 (x 0).val ((x 1).val % 128)) := by
      funext a
      match a with
      | ⟨0, _⟩ =>
        refine Fin.ext ?_
        show (x 0).val = 0 + 1 * ((x 0).val % 16)
        omega
      | ⟨1, _⟩ =>
        refine Fin.ext ?_
        show (x 1).val = 128 * ((x 1).val / 128) + 1 * ((x 1).val % 128 % 128)
        omega
    exact Finset.mem_map.mpr ⟨ix2 16 128 (x 0).val ((x 1).val % 128), Finset.mem_univ _, congrArg (fun z => B.view.emb z) hxe.symm⟩

/-- From a row buffer, its shares of the table and of the list, and its semaphore at zero: a gather with nothing issued yet. -/
theorem gIss_start (B : Buf16) (sg : DmaSem sig) (q qo : PosShare TreeShare) (g : ℕ) (hg : g < 32) (v : S16x1024.Idx → F .f32) :
    iprop(holds d L B fullShare v ∗ semVal (V d (cV L) (jV L), .dma sg) 0 ∗ gTok d L ids tab q qo)
      ⊢ |={Set.univ}=> gIss d L ids tab B sg q qo g hg 0 := by
  unfold holds gTok gIss
  iintro ⟨⟨%fB, -, HB⟩, Hs, HT, HL⟩
  imod (batch_alloc' EC (V d (cV L) (jV L)) none (rowN B) (gDs d L ids tab B q qo fB g hg) (E := Set.univ)) $$ Hs with Hb
  imodintro
  iexists fB
  isplitl [Hb]; · iexact Hb
  have eB := pointsTo_biUnion (Ix := HIx 1) (Name := ℕ) (U := UU) (Lvl := ℕ) (ℓ := B.view.loc (V d (cV L) (jV L))) (q := fullShare) (f := fB)
    (Finset.univ : Finset (Fin 8)) (fun j => (bufCol B j.val j.isLt).view.set) (fun j _ j' _ h => bufCol_disj B j j' h)
  rw [bufCol_cover] at eB
  ihave HB' := (Entails.of_eq eB) $$ HB
  ihave HT' := (Entails.of_eq (pointsTo_piecesOf (Finset.univ) tab (by decide : 0 < 8) q)) $$ HT
  ihave HL' := (Entails.of_eq (pointsTo_piecesOf (Finset.univ) (clnV ids L) (by decide : 0 < 8) qo)) $$ HL
  have hT : (bigSep (Finset.univ : Finset (Fin 8)) (fun j => (tabM.view.loc (V d (cV L) (jV L)) ↦[Finset.univ]{pieceOf q 8 (by decide) j} tab : sProp 𝕄)) : sProp 𝕄)
      ⊢ bigSep (Finset.univ : Finset (Fin 8)) (fun j => iprop((tabM.view.loc (V d (cV L) (jV L)) ↦[(tabCol j.val j.isLt).view.set]{pieceOf q 8 (by decide) j} tab)
        ∗ tabM.view.loc (V d (cV L) (jV L)) ↦[Finset.univ \ (tabCol j.val j.isLt).view.set]{pieceOf q 8 (by decide) j} tab)) :=
    BI.bigSep_mono fun j _ => (pointsTo_split_subset (Finset.subset_univ _)).1
  have hL : (bigSep (Finset.univ : Finset (Fin 8)) (fun j => (clnM.view.loc (V d (cV L) (jV L)) ↦[Finset.univ]{pieceOf qo 8 (by decide) j} clnV ids L : sProp 𝕄)) : sProp 𝕄)
      ⊢ bigSep (Finset.univ : Finset (Fin 8)) (fun j => iprop((clnM.view.loc (V d (cV L) (jV L)) ↦[(lst g hg).view.set]{pieceOf qo 8 (by decide) j} clnV ids L)
        ∗ clnM.view.loc (V d (cV L) (jV L)) ↦[Finset.univ \ (lst g hg).view.set]{pieceOf qo 8 (by decide) j} clnV ids L)) :=
    BI.bigSep_mono fun j _ => (pointsTo_split_subset (Finset.subset_univ _)).1
  ihave HT2 := hT $$ HT'
  ihave HL2 := hL $$ HL'
  ihave HT3 := bigSep_sep_out _ _ _ $$ HT2
  ihave HL3 := bigSep_sep_out _ _ _ $$ HL2
  icases HT3 with ⟨HTa, HTb⟩
  icases HL3 with ⟨HLa, HLb⟩
  isplitl [HTa HB' HLa]
  · rw [← bigSep_pending_zero]
    unfold gPre
    iapply bigSep_sep_in _ _ _
    isplitl [HTa]; · iexact HTa
    iapply bigSep_sep_in _ _ _
    isplitl [HB']; · iexact HB'
    iexact HLa
  · unfold gKeep
    iapply bigSep_sep_in _ _ _
    isplitl [HTb]; · iexact HTb
    iexact HLb

/-- What column block `j`'s gather gives back. -/
def gPost (B : Buf16) (q qo : PosShare TreeShare) (fB : Buf (Elt F) (B.view.loc (V d (cV L) (jV L)))) (g : ℕ) (hg : g < 32) (j : Fin 8) : sProp 𝕄 :=
  iprop(((bufCol B j.val j.isLt).view.loc (V d (cV L) (jV L)) ↦[(bufCol B j.val j.isLt).view.set]{fullShare}
      ((bufCol B j.val j.isLt).view.write (Elt F) fB (gatherPayload gathers_S32000x128_S16x128 ((tabCol j.val j.isLt).view.read (Elt F) tab)
        (rows ((lst g hg).view.read (Elt F) (clnV ids L)) rfl (lst_in L ids g hg))) Finset.univ))
    ∗ ((tabCol j.val j.isLt).view.loc (V d (cV L) (jV L)) ↦[(tabCol j.val j.isLt).view.set]{pieceOf q 8 (by decide) j} tab)
    ∗ ((lst g hg).view.loc (V d (cV L) (jV L)) ↦[(lst g hg).view.set]{pieceOf qo 8 (by decide) j} clnV ids L))

theorem gDs_cols (B : Buf16) (q qo : PosShare TreeShare) (fB : Buf (Elt F) (B.view.loc (V d (cV L) (jV L)))) (g : ℕ) (hg : g < 32) :
    ∀ m, m ≤ 8 → (bigSep (pending (16 * (8 - m))) (gDs d L ids tab B q qo fB g hg) : sProp 𝕄)
      ⊢ bigSep (pending (8 - m)) (fun j : Fin 8 => bigSep Finset.univ fun k : Fin 16 => gD d L ids tab B q qo fB g hg j.val k.val j.isLt k.isLt) := by
  intro m
  induction m with
  | zero =>
    intro _
    have e1 : (pending (16 * (8 - 0)) : Finset (Fin 128)) = ∅ := by ext x; simp [pending]
    have e2 : (pending (8 - 0) : Finset (Fin 8)) = ∅ := by ext x; simp [pending]
    rw [e1, e2, BI.bigSep_empty, BI.bigSep_empty]
  | succ m ih =>
    intro hm
    rw [pending_add (gDs d L ids tab B q qo fB g hg) 16 (16 * (8 - (m + 1))) (by omega),
      bigSep_pending_step (n := 8) _ (8 - (m + 1)) (by omega)]
    have e1 : (pending (16 * (8 - (m + 1)) + 16) : Finset (Fin 128)) = pending (16 * (8 - m)) := congrArg pending (by omega)
    have e2 : (pending (8 - (m + 1) + 1) : Finset (Fin 8)) = pending (8 - m) := congrArg pending (by omega)
    rw [e1, e2]
    refine BI.sep_mono (BI.bigSep_mono fun k _ => ?_) (ih (by omega))
    have hk : k.val < 16 := k.isLt
    have cg : ∀ (j k j' k' : ℕ) (hj : j < 8) (hk : k < 16) (hj' : j' < 8) (hk' : k' < 16), j = j' → k = k' →
        gD d L ids tab B q qo fB g hg j k hj hk = gD d L ids tab B q qo fB g hg j' k' hj' hk' := by
      rintro j k _ _ _ _ _ _ rfl rfl; rfl
    exact Entails.of_eq (cg _ _ _ _ _ _ _ _ (by show (16 * (8 - (m + 1)) + k.val) / 16 = 8 - (m + 1); omega) (by show (16 * (8 - (m + 1)) + k.val) % 16 = k.val; omega))

/-- A column block written with its gather's payload reads as those columns of the chunk's rows. -/
theorem payload_eq (B : Buf16) (f g' : Buf (Elt F) (B.view.loc (V d (cV L) (jV L)))) (g : ℕ) (hg : g < 32) (j : Fin 8)
    (h : ∀ i ∈ (bufCol B j.val j.isLt).view.set, g' i = ((bufCol B j.val j.isLt).view.write (Elt F) f (gatherPayload gathers_S32000x128_S16x128 ((tabCol j.val j.isLt).view.read (Elt F) tab)
        (rows ((lst g hg).view.read (Elt F) (clnV ids L)) rfl (lst_in L ids g hg))) Finset.univ) i)
    (x : S16x1024.Idx) (hx : (x 1).val / 128 = j.val) : B.view.read (Elt F) g' x = gathV ids tab L g x := by
  have hx1 : (x 1).val < 1024 := (x 1).isLt
  have hx0 : (x 0).val < 16 := (x 0).isLt
  have e1 := View.read_congr (Val := Elt F) (v := (bufCol B j.val j.isLt).view) h
  rw [View.read_write_univ] at e1
  have hxe : x = (Rect.unit (s := S16x1024) ![0, 128 * j.val] S16x128.size (colB_inb j.val j.isLt)).emb (ix2 16 128 (x 0).val ((x 1).val % 128)) := by
    funext a
    match a with
    | ⟨0, _⟩ =>
      refine Fin.ext ?_
      show (x 0).val = 0 + 1 * ((x 0).val % 16)
      omega
    | ⟨1, _⟩ =>
      refine Fin.ext ?_
      show (x 1).val = 128 * j.val + 1 * ((x 1).val % 128 % 128)
      omega
  have e2 : B.view.read (Elt F) g' x = (bufCol B j.val j.isLt).view.read (Elt F) g' (ix2 16 128 (x 0).val ((x 1).val % 128)) :=
    congrArg (fun z => B.view.read (Elt F) g' z) hxe
  rw [e2, e1]
  set y := ix2 16 128 (x 0).val ((x 1).val % 128) with hy
  have y0 : (y 0).val = (x 0).val := ix2_0 16 128 _ _ hx0
  have y1 : (y 1).val = (x 1).val % 128 := ix2_1 16 128 _ _ (by omega)
  unfold gathV gatherPayload
  refine congrArg tab (eq_ix2 32000 1024 _ _ _ ?_ ?_)
  · have ax := gathers_S32000x128_S16x128.idx_axis (rows ((lst g hg).view.read (Elt F) (clnV ids L)) rfl (lst_in L ids g hg)) y
    have av : (rows ((lst g hg).view.read (Elt F) (clnV ids L)) rfl (lst_in L ids g hg) (y 0)).val = (cln (tok ids (base L + 16 * g + (x 0).val))).toNat := by
      have r0 := Shape.rowMajor_val_one (d := ![16]) (S16.rowMajor.symm ((y 0).cast (rfl : 16 = S16.numel)))
      rw [Equiv.apply_symm_apply] at r0
      have r1 : ((S16.rowMajor.symm ((y 0).cast (rfl : 16 = S16.numel))) 0).val = (x 0).val := r0.symm.trans y0
      show (clnV ids L ((Rect.unit (s := S512) ![16 * g] S16.size (lst_inb g hg)).emb (S16.rowMajor.symm ((y 0).cast (rfl : 16 = S16.numel))))).toNat = _
      have r2 : (((Rect.unit (s := S512) ![16 * g] S16.size (lst_inb g hg)).emb (S16.rowMajor.symm ((y 0).cast (rfl : 16 = S16.numel)))) 0).val = 16 * g + (x 0).val := by
        show 16 * g + 1 * ((S16.rowMajor.symm ((y 0).cast (rfl : 16 = S16.numel))) 0).val = _
        rw [r1]; omega
      unfold clnV
      rw [r2, Nat.add_assoc]
    have := congrArg Fin.val ax
    rw [← av]
    show 0 + 1 * ((gathers_S32000x128_S16x128.idx (rows ((lst g hg).view.read (Elt F) (clnV ids L)) rfl (lst_in L ids g hg)) y) 0).val = _
    rw [Nat.zero_add, Nat.one_mul]
    exact this
  · have nx := gathers_S32000x128_S16x128.idx_of_ne (rows ((lst g hg).view.read (Elt F) (clnV ids L)) rfl (lst_in L ids g hg)) y 1 (by decide)
    show 128 * j.val + 1 * ((gathers_S32000x128_S16x128.idx (rows ((lst g hg).view.read (Elt F) (clnV ids L)) rfl (lst_in L ids g hg)) y) 1).val = _
    have nx' : ((gathers_S32000x128_S16x128.idx (rows ((lst g hg).view.read (Elt F) (clnV ids L)) rfl (lst_in L ids g hg)) y) 1).val = (y 1).val := nx
    rw [nx', y1]; omega

/-- Every row transfer of chunk `g`'s gather delivered: the buffer holds the chunk's rows, its shares are back. -/
theorem gFly_finish (B : Buf16) (q qo : PosShare TreeShare) (fB : Buf (Elt F) (B.view.loc (V d (cV L) (jV L)))) (g : ℕ) (hg : g < 32) :
    iprop(bigSep Finset.univ (gDs d L ids tab B q qo fB g hg) ∗ bigSep Finset.univ (gKeep d L ids tab q qo g hg))
      ⊢ iprop(holds d L B fullShare (gathV ids tab L g) ∗ gTok d L ids tab q qo) := by
  have h1 : (bigSep Finset.univ (gDs d L ids tab B q qo fB g hg) : sProp 𝕄) ⊢ bigSep Finset.univ (gPost d L ids tab B q qo fB g hg) := by
    have := gDs_cols d L ids tab B q qo fB g hg 8 (le_refl 8)
    have e1 : (pending (16 * (8 - 8)) : Finset (Fin 128)) = Finset.univ := by ext x; simp [pending]
    have e2 : (pending (8 - 8) : Finset (Fin 8)) = Finset.univ := by ext x; simp [pending]
    rw [e1, e2] at this
    refine this.trans (BI.bigSep_mono fun j _ => ?_)
    exact rowD_join (Ix := HIx 1) (Name := ℕ) (U := UU) (Lvl := ℕ) (V d (cV L) (jV L)) (tabCol j.val j.isLt) (bufCol B j.val j.isLt) gathers_S32000x128_S16x128 (lst g hg) rfl _ _
      tab fB (clnV ids L) (by decide) (lst_in L ids g hg)
  unfold gTok
  iintro ⟨HD, HK⟩
  ihave HP := h1 $$ HD
  unfold gPost gKeep
  ihave HP1 := bigSep_sep_out _ _ _ $$ HP
  icases HP1 with ⟨HB, HP2⟩
  ihave HP3 := bigSep_sep_out _ _ _ $$ HP2
  icases HP3 with ⟨HTa, HLa⟩
  ihave HK1 := bigSep_sep_out _ _ _ $$ HK
  icases HK1 with ⟨HTb, HLb⟩
  have hT : (bigSep (Finset.univ : Finset (Fin 8)) (fun j => (iprop((tabM.view.loc (V d (cV L) (jV L)) ↦[(tabCol j.val j.isLt).view.set]{pieceOf q 8 (by decide) j} tab)
        ∗ tabM.view.loc (V d (cV L) (jV L)) ↦[Finset.univ \ (tabCol j.val j.isLt).view.set]{pieceOf q 8 (by decide) j} tab) : sProp 𝕄)) : sProp 𝕄)
      ⊢ bigSep (Finset.univ : Finset (Fin 8)) (fun j => (tabM.view.loc (V d (cV L) (jV L)) ↦[Finset.univ]{pieceOf q 8 (by decide) j} tab : sProp 𝕄)) :=
    BI.bigSep_mono fun j _ => (pointsTo_split_subset (Finset.subset_univ _)).2
  have hL : (bigSep (Finset.univ : Finset (Fin 8)) (fun j => (iprop((clnM.view.loc (V d (cV L) (jV L)) ↦[(lst g hg).view.set]{pieceOf qo 8 (by decide) j} clnV ids L)
        ∗ clnM.view.loc (V d (cV L) (jV L)) ↦[Finset.univ \ (lst g hg).view.set]{pieceOf qo 8 (by decide) j} clnV ids L) : sProp 𝕄)) : sProp 𝕄)
      ⊢ bigSep (Finset.univ : Finset (Fin 8)) (fun j => (clnM.view.loc (V d (cV L) (jV L)) ↦[Finset.univ]{pieceOf qo 8 (by decide) j} clnV ids L : sProp 𝕄)) :=
    BI.bigSep_mono fun j _ => (pointsTo_split_subset (Finset.subset_univ _)).2
  ihave HT := bigSep_sep_in _ _ _ $$ [HTa HTb]
  · isplitl [HTa]; · iexact HTa
    iexact HTb
  ihave HL := bigSep_sep_in _ _ _ $$ [HLa HLb]
  · isplitl [HLa]; · iexact HLa
    iexact HLb
  ihave HT1 := hT $$ HT
  ihave HL1 := hL $$ HL
  have h08 : 0 < 8 := by decide
  ihave HT2 := (Entails.of_eq (pointsTo_piecesOf (Finset.univ) tab h08 q).symm) $$ HT1
  ihave HL2 := (Entails.of_eq (pointsTo_piecesOf (Finset.univ) (clnV ids L) h08 qo).symm) $$ HL1
  isplitl [HB]
  · have hj := pointsTo_biUnion_join (Ix := HIx 1) (Name := ℕ) (U := UU) (Lvl := ℕ) (ℓ := B.view.loc (V d (cV L) (jV L))) (q := fullShare)
      (Finset.univ : Finset (Fin 8)) (fun j => (bufCol B j.val j.isLt).view.set)
      (fun j => (bufCol B j.val j.isLt).view.write (Elt F) fB (gatherPayload gathers_S32000x128_S16x128 ((tabCol j.val j.isLt).view.read (Elt F) tab)
        (rows ((lst g hg).view.read (Elt F) (clnV ids L)) rfl (lst_in L ids g hg))) Finset.univ) fB (fun j _ j' _ h => bufCol_disj B j j' h)
    ihave HB1 := hj $$ HB
    icases HB1 with ⟨%g', %hg', HB1⟩
    rw [bufCol_cover]
    unfold holds
    iexists g'
    isplitr
    · ipureintro
      funext x
      have hx : (x 1).val < 1024 := (x 1).isLt
      have h8 : (x 1).val / 128 < 8 := by omega
      exact payload_eq d L ids tab B fB g' g hg ⟨(x 1).val / 128, h8⟩ (hg' ⟨(x 1).val / 128, h8⟩ (Finset.mem_univ _)) x rfl
    · iexact HB1
  · isplitl [HT2]; · iexact HT2
    iexact HL2

end State

end Cert.Proof.Tile

end
-- ==== Proof.Steps.lean ====
/-
  The steps of one tile's program, each over the state of Base.lean: a column gather issued, waited for; a buffer
  scattered to its chunk of the result, the scatter waited for; sixteen ids read; one row of a buffer replaced.
-/
module

public import proofs.«01_k».proof.Proof.Base

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section Steps

variable {α : Type} {defs : Defs nD τ sig (Elt F) Λ₀} (d : Dev nD) (L : grid1.Coords) (ids : Ids) (tab : Tab F) (enc : Enc F)
variable {Q : α → sProp (MT nD τ sig (HIx 1) (Elt F) ℕ UU ℕ)}
variable (O : CellTallies nD τ sig (HIx 1)) (W : Waits sig (HIx 1))

/-- What the tile owes its neighbours, with leave to wait. -/
def OW : sProp 𝕄 :=
  iprop(MayWaits (V d (cV L) (jV L)) (none : HIx 1) O ∗ ∃ W', ⌜∀ p ∈ W', p ∈ W ∨ p.2 = none⌝ ∗ owes (V d (cV L) (jV L)) O W')

theorem step_issue (B : Buf16) (sg : DmaSem sig) (q qo : PosShare TreeShare) (g : ℕ) (hg : g < 32) (j : ℕ) (hj : j < 8)
    (o : Fin 1 → ℕ) (ho : o = ![16 * g]) (hob : ∀ a, o a + S16.size a ≤ S512.size a)
    {hp : ((V d (cV L) (jV L)).2.kind) = Kind.scVector} {hn : S16.numel = S16x128.size gathers_S32000x128_S16x128.axis'}
    {hsrc : (tabCol j hj).view.WordExact} {he hsp hr}
    {k : PUnit → Prog (TpuEff nD τ sig (Elt F) Λ₀ (V d (cV L) (jV L)).2) α} :
    gIss d L ids tab B sg q qo g hg j
      ⊢ iprop((gIss d L ids tab B sg q qo g hg (j + 1) -∗ wp frame (wpE defs 𝒱₀ (V d (cV L) (jV L)) none) Set.univ (k ⟨⟩) Q)
          -∗ wp frame (wpE defs 𝒱₀ (V d (cV L) (jV L)) none) Set.univ
              (SparseCore.enqueueIndirectGather hp (tabCol j hj) (bufCol B j hj) gathers_S32000x128_S16x128
                (clnM.slice (Rect.unit (s := S512) o S16.size hob) (fun _ => rfl)) hn sg hsrc he hsp hr >>= k) Q) := by
  subst ho
  unfold gIss
  iintro ⟨%fB, HB, HP, HK⟩ Hk
  ihave HP1 := (Entails.of_eq (bigSep_pending_step (n := 8) (gPre d L ids tab B q qo fB g hg) j hj)) $$ HP
  unfold gPre
  icases HP1 with ⟨⟨HT, HBc, HL⟩, HP⟩
  have h16 : S16x128.size gathers_S32000x128_S16x128.axis' = 16 := rfl
  have cg : ∀ (j k j' k' : ℕ) (hj : j < 8) (hk : k < 16) (hj' : j' < 8) (hk' : k' < 16), j = j' → k = k' →
      gD d L ids tab B q qo fB g hg j k hj hk = gD d L ids tab B q qo fB g hg j' k' hj' hk' := by
    rintro j k _ _ _ _ _ _ rfl rfl; rfl
  iapply (wp_gatherBatch EC 𝒱₀ (V d (cV L) (jV L)) none (none : HIx 1) (rowN B) (by decide) (fun _ => rfl) (lst_in L ids g hg) (16 * j)
      (D := gDs d L ids tab B q qo fB g hg) (src := tabCol j hj) (dst := bufCol B j hj) (hg := gathers_S32000x128_S16x128) (offs := lst g hg) (fs := tab) (fd := fB) (fo := clnV ids L) (q := pieceOf q 8 (by decide) ⟨j, hj⟩) (qo := pieceOf qo 8 (by decide) ⟨j, hj⟩)
      (by rw [h16]; omega)
      (fun k => Entails.of_eq (cg j k.val ((16 * j + k.val) / 16) ((16 * j + k.val) % 16) hj k.isLt _ _
        (by have hk : k.val < 16 := k.isLt
            omega) (by have hk : k.val < 16 := k.isLt
                       omega)))) $$ [HT HBc HL HB]
  · isplitl [HT]; · iexact HT
    isplitl [HBc]; · iexact HBc
    isplitl [HL]; · iexact HL
    iexact HB
  iintro HB
  iapply Hk
  iexists fB
  isplitl [HB]; · iexact HB
  isplitl [HP]; · iexact HP
  iexact HK

/-- A wait consumed at the tile's own index keeps what it owes as it was. -/
theorem wait_ins (W' : Waits sig (HIx 1)) (sm : SemLoc sig) (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

theorem step_gwait (B : Buf16) (sg : DmaSem sig) (q qo : PosShare TreeShare) (g : ℕ) (hg : g < 32) (u : ℕ) (hu : u < 7) (j : ℕ) (hj : j < 8)
    {h1 : (tabCol j hj).view.WordExact} {h2 : (bufCol B j hj).view.WordExact}
    {k : PUnit → Prog (TpuEff nD τ sig (Elt F) Λ₀ (V d (cV L) (jV L)).2) α} :
    iprop(gFly d L ids tab B sg q qo g hg u ∗ OW d L O W)
      ⊢ iprop((iprop(gFly d L ids tab B sg q qo g hg (u + 1) ∗ OW d L O W) -∗ wp frame (wpE defs 𝒱₀ (V d (cV L) (jV L)) none) Set.univ (k ⟨⟩) Q)
          -∗ wp frame (wpE defs 𝒱₀ (V d (cV L) (jV L)) none) Set.univ
              (SparseCore.waitIndirectGather sg (tabCol j hj) (bufCol B j hj) h1 h2 >>= k) Q) := by
  unfold gFly OW
  iintro ⟨⟨%fB, HB, HK⟩, #Hmw, %W', %hW', HO⟩ Hk
  ihave Hm := MayWaits.elim (SemLoc.dma sg) $$ Hmw
  iapply (wp_waitBatchMulO EC 𝒱₀ (V d (cV L) (jV L)) none (none : HIx 1) (N := rowN B) 16 (dstw := bufCol B j hj) (srcw := tabCol j hj) rfl
    (D := gDs d L ids tab B q qo fB g hg) (j := 128) (u := u * (16 * rowN B)) (by
      rw [show rowN B * 128 = 8 * (16 * rowN B) by ring, show u * (16 * rowN B) + 16 * rowN B = (u + 1) * (16 * rowN B) by ring]
      exact Nat.mul_le_mul_right _ (by omega))) $$ [HB HO Hm]
  · isplitl [HB]; · iexact HB
    isplitl [HO]; · iexact HO
    iexact Hm
  iintro ⟨HB, HO⟩
  iapply Hk
  isplitl [HB HK]
  · iexists fB
    isplitl [HB]
    · rw [show (u + 1) * (16 * rowN B) = u * (16 * rowN B) + 16 * rowN B by ring]; iexact HB
    iexact HK
  isplitr; · iexact Hmw
  iexists (insert (SemLoc.dma sg, (none : HIx 1)) W')
  isplitr
  · ipureintro; exact wait_ins W W' _ hW'
  iexact HO

theorem step_glast (B : Buf16) (sg : DmaSem sig) (q qo : PosShare TreeShare) (g : ℕ) (hg : g < 32) (j : ℕ) (hj : j < 8) (hN : 0 < rowN B)
    {h1 : (tabCol j hj).view.WordExact} {h2 : (bufCol B j hj).view.WordExact}
    {k : PUnit → Prog (TpuEff nD τ sig (Elt F) Λ₀ (V d (cV L) (jV L)).2) α} :
    iprop(gFly d L ids tab B sg q qo g hg 7 ∗ OW d L O W)
      ⊢ iprop((iprop(holds d L B fullShare (gathV ids tab L g) ∗ gTok d L ids tab q qo ∗ semVal (V d (cV L) (jV L), .dma sg) 0 ∗ OW d L O W)
            -∗ wp frame (wpE defs 𝒱₀ (V d (cV L) (jV L)) none) Set.univ (k ⟨⟩) Q)
          -∗ wp frame (wpE defs 𝒱₀ (V d (cV L) (jV L)) none) Set.univ
              (SparseCore.waitIndirectGather sg (tabCol j hj) (bufCol B j hj) h1 h2 >>= k) Q) := by
  unfold gFly OW
  iintro ⟨⟨%fB, HB, HK⟩, #Hmw, %W', %hW', HO⟩ Hk
  ihave Hm := MayWaits.elim (SemLoc.dma sg) $$ Hmw
  iapply (wp_waitBatchAllO EC 𝒱₀ (V d (cV L) (jV L)) none (none : HIx 1) (N := rowN B) (J := 16 * rowN B) (dstw := bufCol B j hj) (srcw := tabCol j hj) rfl hN
    (D := gDs d L ids tab B q qo fB g hg) (u := 7 * (16 * rowN B)) (by ring)) $$ [HB HO Hm]
  · isplitl [HB]; · iexact HB
    isplitl [HO]; · iexact HO
    iexact Hm
  iintro ⟨HD, Hs, HO⟩
  iapply Hk
  ihave HF := (gFly_finish d L ids tab B q qo fB g hg) $$ [HD HK]
  · isplitl [HD]; · iexact HD
    iexact HK
  icases HF with ⟨HB, HT⟩
  isplitl [HB]; · iexact HB
  isplitl [HT]; · iexact HT
  isplitl [Hs]; · iexact Hs
  isplitr; · iexact Hmw
  iexists (insert (SemLoc.dma sg, (none : HIx 1)) W')
  isplitr
  · ipureintro; exact wait_ins W W' _ hW'
  iexact HO

/-! ## The scatter -/

theorem out_inb (g : ℕ) (hg : g < 32) : ∀ a, (![base L + 16 * g, 0] : Fin 2 → ℕ) a + S16x1024.size a ≤ S16384x1024.size a := by
  have := base_lt L
  intro a
  match a with
  | ⟨0, _⟩ => show base L + 16 * g + 16 ≤ 16384; omega
  | ⟨1, _⟩ => show 0 + 1024 ≤ 1024; omega

/-- Chunk `g`'s rows of the result. -/
abbrev outSl (g : ℕ) (hg : g < 32) : Memref sig .scVector .hbm S16x1024 .f32 :=
  outM.slice (Rect.unit (s := S16384x1024) ![base L + 16 * g, 0] S16x1024.size (out_inb L g hg)) (fun _ => rfl)

/-- Chunk `g` of the result, whatever it holds; -/
def outNew (g : ℕ) (hg : g < 32) : sProp 𝕄 :=
  iprop(∃ f : Buf (Elt F) (outM.view.loc (V d (cV L) (jV L))), outM.view.loc (V d (cV L) (jV L)) ↦[(outSl L g hg).view.set]{fullShare} f)
/-- and done. -/
def outDone (g : ℕ) (hg : g < 32) : sProp 𝕄 :=
  (outM.view.loc (V d (cV L) (jV L)) ↦[(outSl L g hg).view.set]{fullShare} outV ids tab enc : sProp 𝕄)

/-- A buffer on its way to chunk `g` of the result. -/
def SFly (B : Buf16) (ss : DmaSem sig) (g : ℕ) (hg : g < 32) : sProp 𝕄 :=
  Flight EC (V d (cV L) (jV L)) (.dma ss) none (outSl L g hg).view.dmaCredit
    iprop(outDone d L ids tab enc g hg ∗ ∃ v : S16x1024.Idx → F .f32, holds d L B fullShare v)

theorem step_scatter (B : Buf16) (ss : DmaSem sig) (g : ℕ) (hg : g < 32)
    (o : Fin 2 → ℕ) (ho : o = ![base L + 16 * g, 0]) (hob : ∀ a, o a + S16x1024.size a ≤ S16384x1024.size a)
    {h1 h2 h3} {k : PUnit → Prog (TpuEff nD τ sig (Elt F) Λ₀ (V d (cV L) (jV L)).2) α} :
    iprop(holds d L B fullShare (fixV ids tab enc L g 16) ∗ outNew (F := F) d L g hg ∗ semVal (V d (cV L) (jV L), .dma ss) 0)
      ⊢ iprop((SFly d L ids tab enc B ss g hg -∗ wp frame (wpE defs 𝒱₀ (V d (cV L) (jV L)) none) Set.univ (k ⟨⟩) Q)
          -∗ wp frame (wpE defs 𝒱₀ (V d (cV L) (jV L)) none) Set.univ
              (Prog.lift (.enqueueDma B (.here (outM.slice (Rect.unit (s := S16384x1024) o S16x1024.size hob) (fun _ => rfl))) (.dma ss) h1 h2 h3) >>= k) Q) := by
  subst ho
  unfold outNew holds SFly
  iintro ⟨⟨%fB, %hfB, HB⟩, ⟨%fo, Ho⟩, Hs⟩ Hk
  have hw : (outM.view.loc (V d (cV L) (jV L)) ↦[(outSl L g hg).view.set]{fullShare} ((outSl L g hg).view.write (Elt F) fo (B.view.read (Elt F) fB) Finset.univ) : sProp 𝕄)
      = outDone d L ids tab enc g hg := by
    unfold outDone
    refine pointsTo_congr fun i hi => ?_
    obtain ⟨y, -, rfl⟩ := Finset.mem_map.mp hi
    have hy : (y 0).val < 16 := (y 0).isLt
    rw [View.write_emb_of_mem _ _ (Finset.mem_univ _), hfB]
    show fixV ids tab enc L g 16 y = outV ids tab enc ((Rect.unit (s := S16384x1024) ![base L + 16 * g, 0] S16x1024.size (out_inb L g hg)).emb y)
    have e0 : ((Rect.unit (s := S16384x1024) ![base L + 16 * g, 0] S16x1024.size (out_inb L g hg)).emb y 0).val = base L + 16 * g + (y 0).val := by
      show base L + 16 * g + 1 * (y 0).val = _; omega
    have e1 : ((Rect.unit (s := S16384x1024) ![base L + 16 * g, 0] S16x1024.size (out_inb L g hg)).emb y 1).val = (y 1).val := by
      show 0 + 1 * (y 1).val = _; omega
    unfold outV fixV
    rw [e0, e1, if_pos hy]
  iapply (wp_dmaLocal EC 𝒱₀ (V d (cV L) (jV L)) none (none : HIx 1) (outSl L g hg).view.dmaCredit rfl (by show 0 < Ref.dmaCredit main_v3_scv S16x1024 .f32; decide) (Finset.Subset.refl _)
    (src := B) (dst := outSl L g hg) (via := .same) (sm := .dma ss) (fs := fB) (fd := fo) (q := fullShare)) $$ [HB Ho Hs]
  · isplitl [HB]; · iexact HB
    isplitl [Ho]; · iexact Ho
    iexact Hs
  iintro HF
  iapply Hk
  have hm : iprop((outM.view.loc (V d (cV L) (jV L)) ↦[(outSl L g hg).view.set]{fullShare} ((outSl L g hg).view.write (Elt F) fo (B.view.read (Elt F) fB) Finset.univ))
        ∗ (B.view.loc (V d (cV L) (jV L)) ↦[B.view.set]{fullShare} fB))
      ⊢ (iprop(outDone d L ids tab enc g hg ∗ ∃ v : S16x1024.Idx → F .f32, holds d L B fullShare v) : sProp 𝕄) := by
    rw [hw]
    iintro ⟨HO, HB⟩
    isplitl [HO]; · iexact HO
    iexists (fixV ids tab enc L g 16)
    unfold holds
    iexists fB
    isplitr; · ipureintro; exact hfB
    iexact HB
  iapply (Flight_mono EC (V d (cV L) (jV L)) hm) $$ HF

theorem step_swait (B : Buf16) (ss : DmaSem sig) (g : ℕ) (hg : g < 32)
    (o : Fin 2 → ℕ) (hob : ∀ a, o a + S16x1024.size a ≤ S16384x1024.size a)
    {h1 h2} {k : PUnit → Prog (TpuEff nD τ sig (Elt F) Λ₀ (V d (cV L) (jV L)).2) α} :
    iprop(SFly d L ids tab enc B ss g hg ∗ OW d L O W)
      ⊢ iprop((iprop(outDone d L ids tab enc g hg ∗ (∃ v : S16x1024.Idx → F .f32, holds d L B fullShare v) ∗ semVal (V d (cV L) (jV L), .dma ss) 0 ∗ OW d L O W)
            -∗ wp frame (wpE defs 𝒱₀ (V d (cV L) (jV L)) none) Set.univ (k ⟨⟩) Q)
          -∗ wp frame (wpE defs 𝒱₀ (V d (cV L) (jV L)) none) Set.univ
              (Prog.lift (.waitDma2 ss B (outM.slice (Rect.unit (s := S16384x1024) o S16x1024.size hob) (fun _ => rfl)) h1 h2) >>= k) Q) := by
  unfold SFly OW
  iintro ⟨HF, #Hmw, %W', %hW', HO⟩ Hk
  ihave Hm := MayWaits.elim (SemLoc.dma ss) $$ Hmw
  iapply (wp_waitLocalO EC 𝒱₀ (V d (cV L) (jV L)) none (none : HIx 1) (N := (outSl L g hg).view.dmaCredit) (srcw := B)
    (dstw := outM.slice (Rect.unit (s := S16384x1024) o S16x1024.size hob) (fun _ => rfl)) rfl) $$ [HF HO Hm]
  · isplitl [HF]; · iexact HF
    isplitl [HO]; · iexact HO
    iexact Hm
  iintro ⟨⟨Ho, HB⟩, Hs, HO⟩
  iapply Hk
  isplitl [Ho]; · iexact Ho
  isplitl [HB]; · iexact HB
  isplitl [Hs]; · iexact Hs
  isplitr; · iexact Hmw
  iexists (insert (SemLoc.dma ss, (none : HIx 1)) W')
  isplitr
  · ipureintro; exact wait_ins W W' _ hW'
  iexact HO

/-! ## Sixteen ids, and the row fix-up -/

/-- Chunk `g`'s sixteen ids. -/
def idsC (g : ℕ) : S16.Idx → BitVec 32 := fun x => tok ids (base L + 16 * g + (x 0).val)

/-- The tile's ids, read whole. -/
def idsTok : sProp 𝕄 := (idvM.view.loc (V d (cV L) (jV L)) ↦[Finset.univ]{fullShare} (idsV ids L) : sProp 𝕄)

theorem step_ids (g : ℕ) (o : Fin 1 → ℕ) (ho : o = ![16 * g]) (hob : ∀ a, o a + S16.size a ≤ S512.size a)
    {hl} {k : (S16.Idx → BitVec 32) → Prog (TpuEff nD τ sig (Elt F) Λ₀ (V d (cV L) (jV L)).2) α} :
    idsTok (F := F) d L ids
      ⊢ iprop((idsTok (F := F) d L ids -∗ wp frame (wpE defs 𝒱₀ (V d (cV L) (jV L)) none) Set.univ (k (idsC L ids g)) Q)
          -∗ wp frame (wpE defs 𝒱₀ (V d (cV L) (jV L)) none) Set.univ
              (Prog.lift (.load idvM (Rect.unit (s := S512) o S16.size hob).toLoadRect hl) >>= k) Q) := by
  subst ho
  unfold idsTok
  have hv : idvM.view.readAt (Elt F) (Rect.unit (s := S512) ![16 * g] S16.size hob).toLoadRect (idsV ids L) = idsC L ids g := by
    funext x
    show tok ids (base L + (16 * g + 1 * (x 0).val)) = tok ids (base L + 16 * g + (x 0).val)
    congr 1; omega
  iintro H Hk
  iapply (wp_load (defs := defs) 𝒱₀ (V d (cV L) (jV L)) none Set.univ (m := idvM) (r := (Rect.unit (s := S512) ![16 * g] S16.size hob).toLoadRect) (f := idsV ids L) (S := Finset.univ) (Finset.subset_univ _)) $$ H
  iintro H
  rw [hv]
  iapply Hk
  iexact H

theorem step_assume {P : Prop} {dec : Decidable P} (h : P) {k : PLift P → Prog (TpuEff nD τ sig (Elt F) Λ₀ (V d (cV L) (jV L)).2) α} :
    wp frame (wpE defs 𝒱₀ (V d (cV L) (jV L)) none) Set.univ (k ⟨h⟩) Q
      ⊢ wp frame (wpE defs 𝒱₀ (V d (cV L) (jV L)) none) Set.univ (Prog.lift (.assume P dec) >>= k) Q :=
  Entails.of_eq (wp_assume_of (defs := defs) 𝒱₀ (V d (cV L) (jV L)) none Set.univ h).symm

theorem step_pos {C : Prop} [Decidable C] (h : C) {A : C → Prog (TpuEff nD τ sig (Elt F) Λ₀ (V d (cV L) (jV L)).2) α} {B : ¬ C → Prog (TpuEff nD τ sig (Elt F) Λ₀ (V d (cV L) (jV L)).2) α} :
    wp frame (wpE defs 𝒱₀ (V d (cV L) (jV L)) none) Set.univ (A h) Q ⊢ wp frame (wpE defs 𝒱₀ (V d (cV L) (jV L)) none) Set.univ (dite C A B) Q := by
  rw [dif_pos h]

theorem step_neg {C : Prop} [Decidable C] (h : ¬ C) {A : C → Prog (TpuEff nD τ sig (Elt F) Λ₀ (V d (cV L) (jV L)).2) α} {B : ¬ C → Prog (TpuEff nD τ sig (Elt F) Λ₀ (V d (cV L) (jV L)).2) α} :
    wp frame (wpE defs 𝒱₀ (V d (cV L) (jV L)) none) Set.univ (B h) Q ⊢ wp frame (wpE defs 𝒱₀ (V d (cV L) (jV L)) none) Set.univ (dite C A B) Q := by
  rw [dif_neg h]

theorem step_pure {β : Type} (r : β) {Φ : β → sProp (MT nD τ sig (HIx 1) (Elt F) ℕ UU ℕ)} :
    Φ r ⊢ wp frame (wpE defs 𝒱₀ (V d (cV L) (jV L)) none) Set.univ (pure r) Φ :=
  le_wp_ret _ _ _ r Φ

theorem row_inb (l : ℕ) (hl : l < 16) : ∀ a, (![l, 0] : Fin 2 → ℕ) a + S1x1024.size a ≤ S16x1024.size a := by
  intro a
  match a with
  | ⟨0, _⟩ => show l + 1 ≤ 16; omega
  | ⟨1, _⟩ => show 0 + 1024 ≤ 1024; omega

/-- Row `l` of a buffer, as a vector; a row of the encoded prompts, as a vector. -/
abbrev bufRow (B : Buf16) (o : Fin 2 → ℕ) (h : ∀ a, o a + S1x1024.size a ≤ S16x1024.size a) : Memref sig .scVector .vmem S1024 .f32 :=
  (B.slice (Rect.unit (s := S16x1024) o S1x1024.size h) (fun _ => rfl)).squeeze S1024 squeezes_S1x1024_S1024
abbrev encRow (o : Fin 2 → ℕ) (h : ∀ a, o a + S1x1024.size a ≤ S400x1024.size a) : Memref sig .scVector .hbm S1024 .f32 :=
  (encM.slice (Rect.unit (s := S400x1024) o S1x1024.size h) (fun _ => rfl)).squeeze S1024 squeezes_S1x1024_S1024

/-- The tile's share of the encoded prompts. -/
def encTok (qe : PosShare TreeShare) : sProp 𝕄 := (encM.view.loc (V d (cV L) (jV L)) ↦[Finset.univ]{qe} enc : sProp 𝕄)

theorem squeeze_ix (h : S1024.numel = S1x1024.numel) (z : S1024.Idx) : (Shape.reshapeEquiv h z : S1x1024.Idx) = ix2 1 1024 0 (z 0).val := by
  rw [Shape.reshapeEquiv_cons_one h z]
  exact eq_ix2 1 1024 _ _ _ rfl rfl

/-- A buffer's row `l` written with an encoded row: read back, the row is that one and the others are as they were. -/
theorem row_write (B : Buf16) (l : ℕ) (hl : l < 16) (g : ℕ) (e : ℕ) (he : e < 400)
    (hoE : ∀ a, (![e, 0] : Fin 2 → ℕ) a + S1x1024.size a ≤ S400x1024.size a)
    (fB : Buf (Elt F) (B.view.loc (V d (cV L) (jV L)))) (hf : B.view.read (Elt F) fB = fixV ids tab enc L g l)
    (ht : 32000 ≤ (tok ids (base L + 16 * g + l)).toNat)
    (hee : e = (base L + 16 * g + l) / 4096 * 100 + ((tok ids (base L + 16 * g + l)).toNat - 32000)) :
    B.view.read (Elt F) ((bufRow B ![l, 0] (row_inb l hl)).view.write (Elt F) fB ((encRow ![e, 0] hoE).view.read (Elt F) enc) Finset.univ)
      = fixV ids tab enc L g (l + 1) := by
  funext x
  have hx0 : (x 0).val < 16 := (x 0).isLt
  have hx1 : (x 1).val < 1024 := (x 1).isLt
  by_cases hx : (x 0).val = l
  · let z : S1024.Idx := fun a => ⟨(x 1).val, by rw [Subsingleton.elim a 0]; exact hx1⟩
    have hz : x = (Rect.unit (s := S16x1024) ![l, 0] S1x1024.size (row_inb l hl)).emb (Shape.reshapeEquiv squeezes_S1x1024_S1024.numel_eq z) := by
      rw [squeeze_ix]
      funext a
      match a with
      | ⟨0, _⟩ =>
        refine Fin.ext ?_
        show (x 0).val = l + 1 * (0 % 1)
        omega
      | ⟨1, _⟩ =>
        refine Fin.ext ?_
        show (x 1).val = 0 + 1 * ((x 1).val % 1024)
        omega
    have e1 : ∀ f' : Buf (Elt F) (B.view.loc (V d (cV L) (jV L))), B.view.read (Elt F) f' x = (bufRow B ![l, 0] (row_inb l hl)).view.read (Elt F) f' z :=
      fun f' => congrArg (fun z => B.view.read (Elt F) f' z) hz
    rw [e1, View.read_write_univ]
    unfold fixV outRow
    rw [if_pos (by omega), hx, if_pos ht]
    have hE : (encRow ![e, 0] hoE).view.read (Elt F) enc z = enc ((Rect.unit (s := S400x1024) ![e, 0] S1x1024.size hoE).emb (Shape.reshapeEquiv squeezes_S1x1024_S1024.numel_eq z)) := rfl
    rw [hE, squeeze_ix]
    refine congrArg enc (eq_ix2 400 1024 _ _ _ ?_ ?_)
    · show e + 1 * (0 % 1) = _; omega
    · show 0 + 1 * ((x 1).val % 1024) = _; omega
  · have hn : B.view.emb x ∉ (bufRow B ![l, 0] (row_inb l hl)).view.set := by
      intro hi
      obtain ⟨z, -, hz⟩ := Finset.mem_map.mp hi
      have e := congrArg (fun x : S16x1024.Idx => (x 0).val) (B.view.emb.injective hz)
      have e' : l + 1 * ((Shape.reshapeEquiv squeezes_S1x1024_S1024.numel_eq z : S1x1024.Idx) 0).val = (x 0).val := e
      have h0 : ((Shape.reshapeEquiv squeezes_S1x1024_S1024.numel_eq z : S1x1024.Idx) 0).val < 1 := ((Shape.reshapeEquiv squeezes_S1x1024_S1024.numel_eq z : S1x1024.Idx) 0).isLt
      omega
    have hw : (bufRow B ![l, 0] (row_inb l hl)).view.write (Elt F) fB ((encRow ![e, 0] hoE).view.read (Elt F) enc) Finset.univ (B.view.emb x) = fB (B.view.emb x) :=
      View.write_of_not_mem fB _ Finset.univ hn
    rw [show B.view.read (Elt F) ((bufRow B ![l, 0] (row_inb l hl)).view.write (Elt F) fB ((encRow ![e, 0] hoE).view.read (Elt F) enc) Finset.univ) x = B.view.read (Elt F) fB x from
      View.read_congr_at (v := B.view) x hw, hf]
    unfold fixV
    by_cases h : (x 0).val < l
    · rw [if_pos h, if_pos (by omega)]
    · rw [if_neg h, if_neg (by omega)]

theorem step_fix (B : Buf16) (g : ℕ) (hg : g < 32) (l : ℕ) (hl : l < 16) (sf : DmaSem sig) (qe : PosShare TreeShare)
    (hid : ∀ x, (ids x).toNat < 32100) (hN : 0 < B.view.ref.dmaCredit S1024 .f32)
    (v : BitVec 32) (hv : v = tok ids (base L + 16 * g + l)) (C : BitVec 1) (hC : C = 1#1 ↔ 32000 ≤ v.toNat)
    (oB : Fin 2 → ℕ) (hoB : oB = ![l, 0]) (hBi : ∀ a, oB a + S1x1024.size a ≤ S16x1024.size a)
    (oE : Fin 2 → ℕ) (hoE : 32000 ≤ v.toNat → v.toNat < 32100 → oE = ![base L / 4096 * 100 + (v.toNat - 32000), 0]) (hEi : C = 1#1 → ∀ a, oE a + S1x1024.size a ≤ S400x1024.size a)
    {h1 : (h : C = 1#1) → (encRow oE (hEi h)).view.WordExact} {h2 : (DmaTarget.here (bufRow B oB hBi) : DmaTarget nD τ sig (V d (cV L) (jV L)).2 _ _ _).view.WordExact} {h3}
    {h4 : (h : C = 1#1) → (encRow oE (hEi h)).view.WordExact} {h5 : (bufRow B oB hBi).view.WordExact}
    {K : Prog (TpuEff nD τ sig (Elt F) Λ₀ (V d (cV L) (jV L)).2) α} :
    iprop(holds d L B fullShare (fixV ids tab enc L g l) ∗ encTok d L enc qe ∗ semVal (V d (cV L) (jV L), .dma sf) 0 ∗ OW d L O W)
      ⊢ iprop((iprop(holds d L B fullShare (fixV ids tab enc L g (l + 1)) ∗ encTok d L enc qe ∗ semVal (V d (cV L) (jV L), .dma sf) 0 ∗ OW d L O W)
            -∗ wp frame (wpE defs 𝒱₀ (V d (cV L) (jV L)) none) Set.univ K Q)
          -∗ wp frame (wpE defs 𝒱₀ (V d (cV L) (jV L)) none) Set.univ
              (if h : C = 1#1 then
                (Prog.lift (.enqueueDma (encRow oE (hEi h)) (.here (bufRow B oB hBi)) (.dma sf) (h1 h) h2 h3) >>= fun _ =>
                  Prog.lift (.waitDma2 sf (encRow oE (hEi h)) (bufRow B oB hBi) (h4 h) h5) >>= fun _ => K)
               else K) Q) := by
  subst hoB
  have hb := base_lt L
  have hdiv : (base L + 16 * g + l) / 4096 = base L / 4096 := by
    unfold base; omega
  have hvl : v.toNat < 32100 := by rw [hv]; exact hid _
  by_cases h : C = 1#1
  · rw [dif_pos h]
    have h32 := hC.mp h
    obtain rfl := hoE h32 hvl
    unfold encTok holds OW
    iintro ⟨⟨%fB, %hfB, HB⟩, HE, Hs, #Hmw, %W', %hW', HO⟩ Hk
    have hsub : (bufRow B ![l, 0] hBi).view.set ⊆ B.view.set := by
      exact (subset_of_eq (View.set_reshape (B.view.slice (Rect.unit (s := S16x1024) ![l, 0] S1x1024.size hBi)) squeezes_S1x1024_S1024.numel_eq)).trans (View.set_slice_subset _ _)
    have hE1 : (encM.view.loc (V d (cV L) (jV L)) ↦[Finset.univ]{qe} enc : sProp 𝕄) ⊢ iprop((encM.view.loc (V d (cV L) (jV L)) ↦[(encRow _ (hEi h)).view.set]{qe} enc)
        ∗ encM.view.loc (V d (cV L) (jV L)) ↦[Finset.univ \ (encRow _ (hEi h)).view.set]{qe} enc) := (pointsTo_split_subset (Finset.subset_univ _)).1
    have hE2 : iprop((encM.view.loc (V d (cV L) (jV L)) ↦[(encRow _ (hEi h)).view.set]{qe} enc)
        ∗ encM.view.loc (V d (cV L) (jV L)) ↦[Finset.univ \ (encRow _ (hEi h)).view.set]{qe} enc) ⊢ (encM.view.loc (V d (cV L) (jV L)) ↦[Finset.univ]{qe} enc : sProp 𝕄) :=
      (pointsTo_split_subset (Finset.subset_univ _)).2
    ihave HE1 := hE1 $$ HE
    icases HE1 with ⟨HEa, HEb⟩
    iapply (wp_dmaLocal EC 𝒱₀ (V d (cV L) (jV L)) none (none : HIx 1) (bufRow B ![l, 0] hBi).view.dmaCredit rfl hN hsub
      (src := encRow _ (hEi h)) (dst := bufRow B ![l, 0] hBi) (via := .same) (sm := .dma sf) (fs := enc) (fd := fB) (q := qe)) $$ [HEa HB Hs]
    · isplitl [HEa]; · iexact HEa
      isplitl [HB]; · iexact HB
      iexact Hs
    iintro HF
    ihave Hm := MayWaits.elim (SemLoc.dma sf) $$ Hmw
    iapply (wp_waitLocalO EC 𝒱₀ (V d (cV L) (jV L)) none (none : HIx 1) (N := (bufRow B ![l, 0] hBi).view.dmaCredit) (srcw := encRow _ (hEi h))
      (dstw := bufRow B ![l, 0] hBi) rfl) $$ [HF HO Hm]
    · isplitl [HF]; · iexact HF
      isplitl [HO]; · iexact HO
      iexact Hm
    iintro ⟨⟨HB, HEa⟩, Hs, HO⟩
    iapply Hk
    isplitl [HB]
    · iexists _
      isplitr [HB]
      · ipureintro
        have he : base L / 4096 * 100 + (v.toNat - 32000) < 400 := by omega
        exact row_write d L ids tab enc B l hl g _ he (hEi h) fB hfB (hv ▸ h32) (by rw [hdiv, hv])
      · iexact HB
    isplitl [HEa HEb]
    · iapply hE2
      isplitl [HEa]; · iexact HEa
      iexact HEb
    isplitl [Hs]; · iexact Hs
    isplitr; · iexact Hmw
    iexists (insert (SemLoc.dma sf, (none : HIx 1)) W')
    isplitr
    · ipureintro; exact wait_ins W W' _ hW'
    iexact HO
  · rw [dif_neg h]
    have h32 : ¬ 32000 ≤ v.toNat := fun h' => h (hC.mpr h')
    have hfix : fixV ids tab enc L g l = fixV ids tab enc L g (l + 1) := by
      funext x
      unfold fixV
      by_cases hx : (x 0).val < l
      · rw [if_pos hx, if_pos (by omega)]
      · rw [if_neg hx]
        by_cases hx' : (x 0).val = l
        · rw [if_pos (by omega)]
          unfold gathV outRow cln
          rw [hx', ← hv, if_neg h32, if_neg h32]
        · rw [if_neg (by omega)]
    rw [hfix]
    iintro H Hk
    iapply Hk
    iexact H

end Steps

end Cert.Proof.Tile

end
-- ==== Proof.Walk.lean ====
/-
  What a walk through one tile's program is made of: rules that carry a frame along, the words the program tests, the
  row buffers between one chunk and the next, and the chunks of the result.
-/
module

public import proofs.«01_k».proof.Proof.Steps
public import Idealize.ShloMosaic.Lib.WordArith

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-! ## The words the program tests -/

theorem cond_iff (v : BitVec 32) (hv : v.toNat < 32100) : k1_cond3 v = 1#1 ↔ 32000 ≤ v.toNat := by
  have h2 : (32000#32 : BitVec 32).toNat = 32000 := by decide
  have e : k1_cond3 v = if 32000 ≤ v.toNat then 1#1 else 0#1 := by
    unfold k1_cond3
    simp only [Scalar.cmpi, IntOp.cmpi, Scalar.extui]
    have hs : (32000#32 : BitVec 32).sle v = decide (32000 ≤ v.toNat) := by
      rw [BitVec.sle_eq_decide, BitVec.toInt_eq_toNat_of_lt (by omega), BitVec.toInt_eq_toNat_of_lt (by omega), h2]
      simp
    rw [hs]
    by_cases h : 32000 ≤ v.toNat
    · rw [if_pos h, decide_eq_true h]; decide
    · rw [if_neg h, decide_eq_false h]; decide
  rw [e]
  by_cases h : 32000 ≤ v.toNat <;> simp [h]

/-- The row of the encoded prompts that an id past the table names. -/
theorem off8_eq (L : grid1.Coords) (v : BitVec 32) (h : 32000 ≤ v.toNat) (hv : v.toNat < 32100) :
    k1_off8 L v = ![base L / 4096 * 100 + (v.toNat - 32000), 0] := by
  obtain ⟨X, hX⟩ : ∃ X : BitVec 32, ∀ v, k1_off8 L v = ![(Scalar.addi X (Scalar.minsi (Scalar.subi v 32000#32) 99#32)).toNat, 0] := ⟨_, fun _ => rfl⟩
  have h0 : ∀ L : grid1.Coords, k1_off8 L 32000#32 0 = (1024 * (L 1).val + 512 * (L 0).val) / 4096 * 100 := by decide +kernel
  have h1 := h0 L
  rw [hX] at h1
  have hm : Scalar.minsi (Scalar.subi 32000#32 32000#32) (99#32 : BitVec 32) = 0#32 := by decide
  rw [hm] at h1
  have hX' : X.toNat = base L / 4096 * 100 := by
    have : (Scalar.addi X 0#32).toNat = base L / 4096 * 100 := h1
    simpa [Scalar.addi, IntOp.addi] using this
  have hsub : (Scalar.subi v 32000#32).toNat = v.toNat - 32000 := by
    show (v - 32000#32).toNat = _
    rw [BitVec.toNat_sub_of_le (by rw [BitVec.le_def]; exact h)]
    rfl
  have hmin : (Scalar.minsi (Scalar.subi v 32000#32) 99#32).toNat = v.toNat - 32000 := by
    have := WordArith.toNat_minsi_of_lt (Scalar.subi v 32000#32) 99#32 (by rw [hsub]; omega) (by decide)
    refine (show _ = _ from this).trans ?_
    rw [hsub]
    have h99 : (99#32 : BitVec 32).toNat = 99 := by decide
    rw [h99]; omega
  have hb := base_lt L
  have hadd : (Scalar.addi X (Scalar.minsi (Scalar.subi v 32000#32) 99#32)).toNat = base L / 4096 * 100 + (v.toNat - 32000) := by
    show (X + Scalar.minsi (Scalar.subi v 32000#32) 99#32).toNat = _
    rw [BitVec.toNat_add, hX', hmin]
    omega
  rw [hX, hadd]

theorem chk_of (L : grid1.Coords) (v : BitVec 32) (hv : v.toNat < 32100) : k1_chk1 L v := by
  intro h a
  have h32 := (cond_iff v hv).mp h
  rw [off8_eq L v h32 hv]
  have hb := base_lt L
  match a with
  | ⟨0, _⟩ => show base L / 4096 * 100 + (v.toNat - 32000) + 1 ≤ 400; omega
  | ⟨1, _⟩ => show 0 + 1024 ≤ 1024; omega

theorem trips2 : k1_t2_loop.trips = 8 := by decide
theorem trips1 : k1_t1_loop.trips = 32 := by decide
theorem cond1_t : ∀ t : Fin k1_t2_loop.trips, k1_cond1 t = 1#1 := by decide +kernel
theorem cond2_t : ∀ t : Fin k1_t2_loop.trips, k1_cond2 t = 1#1 ↔ 1 ≤ t.val := by decide +kernel
theorem cond19_t : ∀ t : Fin k1_t2_loop.trips, k1_cond19 t = 1#1 := by decide +kernel
theorem cond20_t : ∀ t : Fin k1_t2_loop.trips, k1_cond20 t = 1#1 ↔ 1 ≤ t.val := by decide +kernel
theorem cond37_t : ∀ t : Fin k1_t2_loop.trips, k1_cond37 t = 1#1 ↔ t.val < 7 := by decide +kernel
theorem cond38_t : ∀ t : Fin k1_t2_loop.trips, k1_cond38 t = 1#1 := by decide +kernel
theorem cond55_t : ∀ t : Fin k1_t2_loop.trips, k1_cond55 t = 1#1 ↔ t.val < 7 := by decide +kernel
theorem cond56_t : ∀ t : Fin k1_t2_loop.trips, k1_cond56 t = 1#1 := by decide +kernel

/-! ## Rules with a frame -/

section Rules

variable {α β : Type} {defs : Defs nD τ sig (Elt F) Λ₀} (d : Dev nD) (L : grid1.Coords) (ids : Ids) (tab : Tab F) (enc : Enc F)
variable {Q : α → sProp (MT nD τ sig (HIx 1) (Elt F) ℕ UU ℕ)}
variable (O : CellTallies nD τ sig (HIx 1)) (W : Waits sig (HIx 1))
variable {R X Y A B : sProp (MT nD τ sig (HIx 1) (Elt F) ℕ UU ℕ)}

theorem seq (h : X ⊢ iprop((Y -∗ A) -∗ B)) (hk : iprop(R ∗ Y) ⊢ A) : iprop(R ∗ X) ⊢ B := by
  iintro ⟨HR, HX⟩
  iapply h $$ HX
  iintro HY
  iapply hk
  isplitl [HR]; · iexact HR
  iexact HY

theorem mono (h : X ⊢ Y) (hk : Y ⊢ A) : X ⊢ A := h.trans hk

theorem inBind {p : Prog (TpuEff nD τ sig (Elt F) Λ₀ (V d (cV L) (jV L)).2) β} {k : β → Prog (TpuEff nD τ sig (Elt F) Λ₀ (V d (cV L) (jV L)).2) α}
    (h : X ⊢ wp frame (wpE defs 𝒱₀ (V d (cV L) (jV L)) none) Set.univ p fun r => wp frame (wpE defs 𝒱₀ (V d (cV L) (jV L)) none) Set.univ (k r) Q) :
    X ⊢ wp frame (wpE defs 𝒱₀ (V d (cV L) (jV L)) none) Set.univ (p >>= k) Q := by
  rw [wp_bind]; exact h

theorem atPure {r : α} (h : X ⊢ Q r) : X ⊢ wp frame (wpE defs 𝒱₀ (V d (cV L) (jV L)) none) Set.univ (pure r) Q :=
  h.trans (step_pure d L r)

theorem atAssume {P : Prop} {dec : Decidable P} (hP : P) {k : PLift P → Prog (TpuEff nD τ sig (Elt F) Λ₀ (V d (cV L) (jV L)).2) α}
    (h : X ⊢ wp frame (wpE defs 𝒱₀ (V d (cV L) (jV L)) none) Set.univ (k ⟨hP⟩) Q) :
    X ⊢ wp frame (wpE defs 𝒱₀ (V d (cV L) (jV L)) none) Set.univ (Prog.lift (.assume P dec) >>= k) Q :=
  h.trans (step_assume d L hP)

theorem atPos {C : Prop} {dc : Decidable C} (hC : C) {p : C → Prog (TpuEff nD τ sig (Elt F) Λ₀ (V d (cV L) (jV L)).2) α} {n : ¬ C → Prog (TpuEff nD τ sig (Elt F) Λ₀ (V d (cV L) (jV L)).2) α}
    (h : X ⊢ wp frame (wpE defs 𝒱₀ (V d (cV L) (jV L)) none) Set.univ (p hC) Q) :
    X ⊢ wp frame (wpE defs 𝒱₀ (V d (cV L) (jV L)) none) Set.univ (dite C p n) Q := h.trans (step_pos d L hC)

/-- A conditional before `K`: its branch does what the absent one need not. -/
theorem atIf {C : Prop} {dc : Decidable C} {p : C → Prog (TpuEff nD τ sig (Elt F) Λ₀ (V d (cV L) (jV L)).2) α} {K : Prog (TpuEff nD τ sig (Elt F) Λ₀ (V d (cV L) (jV L)).2) α}
    (Y : sProp (MT nD τ sig (HIx 1) (Elt F) ℕ UU ℕ))
    (h1 : ∀ h : C, (Y ⊢ wp frame (wpE defs 𝒱₀ (V d (cV L) (jV L)) none) Set.univ K Q) → (X ⊢ wp frame (wpE defs 𝒱₀ (V d (cV L) (jV L)) none) Set.univ (p h) Q))
    (h2 : ¬ C → X ⊢ Y) (hK : Y ⊢ wp frame (wpE defs 𝒱₀ (V d (cV L) (jV L)) none) Set.univ K Q) :
    X ⊢ wp frame (wpE defs 𝒱₀ (V d (cV L) (jV L)) none) Set.univ (dite C p fun _ => K) Q := by
  by_cases h : C
  · rw [dif_pos h]; exact h1 h hK
  · rw [dif_neg h]; exact (h2 h).trans hK

/-! ## The rows of a chunk, one by one -/

/-- The semaphores of the 64 row fix-ups. -/
def semF (n : ℕ) (h : n < 64) : DmaSem sig := ⟨17 + n, by show 17 + n < 81; omega⟩
def fixS : sProp 𝕄 := bigSep Finset.univ fun n : Fin 64 => semVal (V d (cV L) (jV L), .dma (semF n.val n.isLt)) 0

theorem fixS_take (n : ℕ) (h : n < 64) :
    fixS (F := F) d L ⊢ iprop(semVal (V d (cV L) (jV L), .dma (semF n h)) 0 ∗ (semVal (V d (cV L) (jV L), .dma (semF n h)) 0 -∗ fixS (F := F) d L)) := by
  unfold fixS
  rw [SparseCore.bigSep_erase' (Finset.mem_univ (⟨n, h⟩ : Fin 64))]
  iintro ⟨H, HR⟩
  isplitl [H]; · iexact H
  iintro H
  isplitl [H]; · iexact H
  iexact HR

/-- A chunk in its buffer with the first `l` rows done. -/
def Ln (B : Buf16) (qe : PosShare TreeShare) (g l : ℕ) : sProp 𝕄 :=
  iprop(holds d L B fullShare (fixV ids tab enc L g l) ∗ encTok d L enc qe ∗ fixS (F := F) d L ∗ OW d L O W)

theorem enc_inb (v : BitVec 32) (hv : v.toNat < 32100) (h : k1_cond3 v = 1#1) : ∀ a, (k1_off8 L v) a + S1x1024.size a ≤ S400x1024.size a :=
  chk_of L v hv h

theorem tok_lt (hid : ∀ x, (ids x).toNat < 32100) {v : BitVec 32} {t : ℕ} (hv : v = tok ids t) : v.toNat < 32100 := hv ▸ hid _

theorem lane_lt {p l : ℕ} (hp : p < 4) (hl : l < 16) : 16 * p + l < 64 := by omega

/-- Row `l`: replaced where its id is past the table. -/
theorem atFix (p : ℕ) (hp : p < 4) {B : Buf16} {qe : PosShare TreeShare} {g : ℕ} (hg : g < 32) {l : ℕ} (hl : l < 16)
    (hid : ∀ x, (ids x).toNat < 32100) (hN : 0 < B.view.ref.dmaCredit S1024 .f32)
    {v : BitVec 32} (hv : v = tok ids (base L + 16 * g + l))
    {oB : Fin 2 → ℕ} (hoB : oB = ![l, 0]) {hBi : ∀ a, oB a + S1x1024.size a ≤ S16x1024.size a}
    {h1 : (h : k1_cond3 v = 1#1) → (encRow (k1_off8 L v) (enc_inb L v (tok_lt ids hid hv) h)).view.WordExact}
    {h2 : (DmaTarget.here (bufRow B oB hBi) : DmaTarget nD τ sig (V d (cV L) (jV L)).2 _ _ _).view.WordExact} {h3}
    {h4 : (h : k1_cond3 v = 1#1) → (encRow (k1_off8 L v) (enc_inb L v (tok_lt ids hid hv) h)).view.WordExact} {h5 : (bufRow B oB hBi).view.WordExact}
    {K : Prog (TpuEff nD τ sig (Elt F) Λ₀ (V d (cV L) (jV L)).2) α}
    (hK : iprop(R ∗ Ln d L ids tab enc O W B qe g (l + 1)) ⊢ wp frame (wpE defs 𝒱₀ (V d (cV L) (jV L)) none) Set.univ K Q) :
    iprop(R ∗ Ln d L ids tab enc O W B qe g l) ⊢ wp frame (wpE defs 𝒱₀ (V d (cV L) (jV L)) none) Set.univ
        (if h : k1_cond3 v = 1#1 then
          (Prog.lift (.enqueueDma (encRow (k1_off8 L v) (enc_inb L v (tok_lt ids hid hv) h)) (.here (bufRow B oB hBi)) (.dma (semF (16 * p + l) (lane_lt hp hl))) (h1 h) h2 h3) >>= fun _ =>
            Prog.lift (.waitDma2 (semF (16 * p + l) (lane_lt hp hl)) (encRow (k1_off8 L v) (enc_inb L v (tok_lt ids hid hv) h)) (bufRow B oB hBi) (h4 h) h5) >>= fun _ => K)
         else K) Q := by
  have hvl := tok_lt ids hid hv
  unfold Ln at hK ⊢
  iintro ⟨HR, HB, HE, HF, HO⟩
  ihave HF1 := fixS_take d L (16 * p + l) (lane_lt hp hl) $$ HF
  icases HF1 with ⟨Hs, HF⟩
  iapply (step_fix d L ids tab enc O W B g hg l hl (semF (16 * p + l) (lane_lt hp hl)) qe hid hN v hv (k1_cond3 v) (cond_iff v hvl) oB hoB hBi
    (k1_off8 L v) (fun h h' => off8_eq L v h h') (enc_inb L v hvl)) $$ [HB HE Hs HO]
  · isplitl [HB]; · iexact HB
    isplitl [HE]; · iexact HE
    isplitl [Hs]; · iexact Hs
    iexact HO
  iintro ⟨HB, HE, Hs, HO⟩
  ihave HF := HF $$ Hs
  iapply hK
  isplitl [HR]; · iexact HR
  isplitl [HB]; · iexact HB
  isplitl [HE]; · iexact HE
  isplitl [HF]; · iexact HF
  iexact HO

/-! ## A row buffer between chunks -/

def Idle (B : Buf16) (sg ss : DmaSem sig) (q qo : PosShare TreeShare) : sProp 𝕄 :=
  iprop((∃ v : S16x1024.Idx → F .f32, holds d L B fullShare v) ∗ semVal (V d (cV L) (jV L), .dma sg) 0 ∗ semVal (V d (cV L) (jV L), .dma ss) 0 ∗ gTok d L ids tab q qo)

/-- Before chunk `g`'s gather: chunk `g - 4` on its way out, if there was one; -/
def slotB (B : Buf16) (sg ss : DmaSem sig) (q qo : PosShare TreeShare) (g : ℕ) : sProp 𝕄 :=
  if h : 4 ≤ g ∧ g - 4 < 32 then iprop(SFly d L ids tab enc B ss (g - 4) h.2 ∗ semVal (V d (cV L) (jV L), .dma sg) 0 ∗ gTok d L ids tab q qo)
  else Idle d L ids tab B sg ss q qo
/-- chunk `g` on its way in, if there is one. -/
def slotA (B : Buf16) (sg ss : DmaSem sig) (q qo : PosShare TreeShare) (g : ℕ) : sProp 𝕄 :=
  if h : g < 32 then iprop(gFly d L ids tab B sg q qo g h 0 ∗ semVal (V d (cV L) (jV L), .dma ss) 0)
  else slotB d L ids tab enc B sg ss q qo g

theorem slotA_pos (B : Buf16) (sg ss : DmaSem sig) (q qo : PosShare TreeShare) (g : ℕ) (h : g < 32) :
    slotA d L ids tab enc B sg ss q qo g = iprop(gFly d L ids tab B sg q qo g h 0 ∗ semVal (V d (cV L) (jV L), .dma ss) 0) := dif_pos h
theorem slotA_neg (B : Buf16) (sg ss : DmaSem sig) (q qo : PosShare TreeShare) (g : ℕ) (h : ¬ g < 32) :
    slotA d L ids tab enc B sg ss q qo g = slotB d L ids tab enc B sg ss q qo g := dif_neg h
theorem slotB_idle (B : Buf16) (sg ss : DmaSem sig) (q qo : PosShare TreeShare) (g : ℕ) (h : g < 4) :
    slotB d L ids tab enc B sg ss q qo g = Idle d L ids tab B sg ss q qo := dif_neg (by omega)
theorem slotB_fly (B : Buf16) (sg ss : DmaSem sig) (q qo : PosShare TreeShare) (g : ℕ) (h : g < 32) (g' : ℕ) (hg' : g' = g + 4) :
    slotB d L ids tab enc B sg ss q qo g' = iprop(SFly d L ids tab enc B ss g h ∗ semVal (V d (cV L) (jV L), .dma sg) 0 ∗ gTok d L ids tab q qo) := by
  subst hg'
  have e : g + 4 - 4 = g := by omega
  unfold slotB
  rw [dif_pos ⟨by omega, by omega⟩]
  congr 1

theorem start (B : Buf16) (sg : DmaSem sig) (q qo : PosShare TreeShare) (g : ℕ) (hg : g < 32)
    {p : Prog (TpuEff nD τ sig (Elt F) Λ₀ (V d (cV L) (jV L)).2) α}
    (h : iprop(R ∗ gIss d L ids tab B sg q qo g hg 0) ⊢ wp frame (wpE defs 𝒱₀ (V d (cV L) (jV L)) none) Set.univ p Q) :
    iprop(R ∗ (∃ v : S16x1024.Idx → F .f32, holds d L B fullShare v) ∗ semVal (V d (cV L) (jV L), .dma sg) 0 ∗ gTok d L ids tab q qo)
      ⊢ wp frame (wpE defs 𝒱₀ (V d (cV L) (jV L)) none) Set.univ p Q := by
  refine BIBase.Entails.trans ?_ (fupd_wp (p := p) (Q := Q) frame (wpE defs 𝒱₀ (V d (cV L) (jV L)) none) (E := Set.univ))
  iintro ⟨HR, ⟨%v, HB⟩, Hs, HT⟩
  imod (gIss_start d L ids tab B sg q qo g hg v) $$ [HB Hs HT] with HI
  · isplitl [HB]; · iexact HB
    isplitl [Hs]; · iexact Hs
    iexact HT
  imodintro
  iapply h
  isplitl [HR]; · iexact HR
  iexact HI

/-! ## The chunks of the result -/

def poolAt (a c : ℕ) (g : Fin 32) : sProp 𝕄 :=
  if g.val < a then outDone d L ids tab enc g.val g.isLt else if g.val < c then iprop(emp) else outNew (F := F) d L g.val g.isLt
/-- The first `a` chunks done, those from `c` on not begun. -/
def Pool (a c : ℕ) : sProp 𝕄 := bigSep Finset.univ (poolAt d L ids tab enc a c)

theorem Pool_take (a c : ℕ) (hac : a ≤ c) (hc : c < 32) :
    Pool d L ids tab enc a c ⊢ iprop(outNew (F := F) d L c hc ∗ Pool d L ids tab enc a (c + 1)) := by
  unfold Pool
  rw [SparseCore.bigSep_erase' (Finset.mem_univ (⟨c, hc⟩ : Fin 32)), SparseCore.bigSep_erase' (Φ := poolAt d L ids tab enc a (c + 1)) (Finset.mem_univ (⟨c, hc⟩ : Fin 32))]
  have e1 : poolAt d L ids tab enc a c ⟨c, hc⟩ = outNew (F := F) d L c hc := by
    unfold poolAt; rw [if_neg (by show ¬ c < a; omega), if_neg (by show ¬ c < c; omega)]
  have e2 : poolAt d L ids tab enc a (c + 1) ⟨c, hc⟩ = iprop(emp) := by
    unfold poolAt; rw [if_neg (by show ¬ c < a; omega), if_pos (by show c < c + 1; omega)]
  have e3 : bigSep (Finset.univ.erase (⟨c, hc⟩ : Fin 32)) (poolAt d L ids tab enc a c) = bigSep (Finset.univ.erase (⟨c, hc⟩ : Fin 32)) (poolAt d L ids tab enc a (c + 1)) := by
    refine BI.bigSep_congr fun g hg => ?_
    have hne : g.val ≠ c := fun h => (Finset.mem_erase.mp hg).1 (Fin.ext h)
    unfold poolAt
    by_cases h1 : g.val < a
    · rw [if_pos h1, if_pos h1]
    · rw [if_neg h1, if_neg h1]
      by_cases h2 : g.val < c
      · rw [if_pos h2, if_pos (by omega)]
      · rw [if_neg h2, if_neg (by omega)]
  rw [e1, e2, e3]
  iintro ⟨H1, H2⟩
  isplitl [H1]; · iexact H1
  have e4 := BI.equiv_iff.mp (BI.emp_sep (P := bigSep (Finset.univ.erase (⟨c, hc⟩ : Fin 32)) (poolAt d L ids tab enc a (c + 1))))
  iapply (Entails.of_eq e4.symm) $$ H2

theorem Pool_put (a c : ℕ) (hac : a < c) (ha : a < 32) :
    iprop(outDone d L ids tab enc a ha ∗ Pool d L ids tab enc a c) ⊢ Pool d L ids tab enc (a + 1) c := by
  unfold Pool
  rw [SparseCore.bigSep_erase' (Finset.mem_univ (⟨a, ha⟩ : Fin 32)), SparseCore.bigSep_erase' (Φ := poolAt d L ids tab enc (a + 1) c) (Finset.mem_univ (⟨a, ha⟩ : Fin 32))]
  have e1 : poolAt d L ids tab enc (a + 1) c ⟨a, ha⟩ = outDone d L ids tab enc a ha := by
    unfold poolAt; rw [if_pos (by show a < a + 1; omega)]
  have e3 : bigSep (Finset.univ.erase (⟨a, ha⟩ : Fin 32)) (poolAt d L ids tab enc (a + 1) c) = bigSep (Finset.univ.erase (⟨a, ha⟩ : Fin 32)) (poolAt d L ids tab enc a c) := by
    refine BI.bigSep_congr fun g hg => ?_
    have hne : g.val ≠ a := fun h => (Finset.mem_erase.mp hg).1 (Fin.ext h)
    unfold poolAt
    by_cases h1 : g.val < a
    · rw [if_pos h1, if_pos (by omega)]
    · rw [if_neg h1, if_neg (by omega)]
  rw [e1, e3]
  iintro ⟨H1, -, H2⟩
  isplitl [H1]; · iexact H1
  iexact H2

end Rules

end Cert.Proof.Tile

end
-- ==== Proof.Phase.lean ====
/-
  One chunk's phase of the pipeline, between its steps: how the state is put for each. The current chunk's buffer is
  `s0`; its neighbours' are `s1`, `s2`, `s3` in the order of their chunks.
-/
module

public import proofs.«01_k».proof.Proof.Walk
public import Idealize.SL.Sem.ProofMode

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-- A row buffer, its two semaphores and its shares of the table and of the list. -/
structure Slot where
  B : Buf16
  sg : DmaSem sig
  ss : DmaSem sig
  q : PosShare TreeShare
  qo : PosShare TreeShare

section Phase

variable (d : Dev nD) (L : grid1.Coords) (ids : Ids) (tab : Tab F) (enc : Enc F)
variable (O : CellTallies nD τ sig (HIx 1)) (W : Waits sig (HIx 1)) (qe : PosShare TreeShare)
variable (s0 s1 s2 s3 : Slot) (g : ℕ)

/-- A slot's semaphore at rest, and its shares. -/
def sv (sm : DmaSem sig) : sProp 𝕄 := (semVal (V d (cV L) (jV L), .dma sm) 0 : sProp 𝕄)
def tk (s : Slot) : sProp 𝕄 := gTok d L ids tab s.q s.qo
def sA (s : Slot) (g : ℕ) : sProp 𝕄 := slotA d L ids tab enc s.B s.sg s.ss s.q s.qo g
def sB (s : Slot) (g : ℕ) : sProp 𝕄 := slotB d L ids tab enc s.B s.sg s.ss s.q s.qo g
/-- The chunks of the result before chunk `g`'s phase: done, in flight and not begun. -/
def pl (g c : ℕ) : sProp 𝕄 := Pool d L ids tab enc (min (g - 2) 28) c

/-- Before chunk `g`'s phase. -/
def Ph : sProp 𝕄 :=
  iprop(sA d L ids tab enc s0 g ∗ sA d L ids tab enc s1 (g + 1) ∗ sB d L ids tab enc s2 (g + 2) ∗ sB d L ids tab enc s3 (g + 3)
    ∗ pl d L ids tab enc g g ∗ idsTok (F := F) d L ids ∗ encTok d L enc qe ∗ fixS (F := F) d L ∗ OW d L O W)

/-- What the waits for chunk `g`'s gather leave alone. -/
def RWait : sProp 𝕄 :=
  iprop(sA d L ids tab enc s1 (g + 1) ∗ sB d L ids tab enc s2 (g + 2) ∗ sB d L ids tab enc s3 (g + 3)
    ∗ pl d L ids tab enc g g ∗ idsTok (F := F) d L ids ∗ encTok d L enc qe ∗ fixS (F := F) d L ∗ sv (F := F) d L s0.ss)

theorem to_wait (hg : g < 32) :
    Ph d L ids tab enc O W qe s0 s1 s2 s3 g
      ⊢ iprop(RWait d L ids tab enc qe s0 s1 s2 s3 g ∗ gFly d L ids tab s0.B s0.sg s0.q s0.qo g hg 0 ∗ OW d L O W) := by
  unfold Ph RWait sv
  rw [show sA d L ids tab enc s0 g = _ from slotA_pos d L ids tab enc s0.B s0.sg s0.ss s0.q s0.qo g hg]
  iintro ⟨⟨H1, H2⟩, H3, H4, H5, H6, H7, H8, H9, H10⟩
  iframe H1 H2 H3 H4 H5 H6 H7 H8 H9 H10

/-- What the next gather's buffer is made ready beside. -/
def RMid : sProp 𝕄 :=
  iprop(sA d L ids tab enc s1 (g + 1) ∗ sB d L ids tab enc s3 (g + 3) ∗ idsTok (F := F) d L ids ∗ encTok d L enc qe ∗ fixS (F := F) d L ∗ sv (F := F) d L s0.ss
    ∗ holds d L s0.B fullShare (gathV ids tab L g) ∗ tk d L ids tab s0 ∗ sv (F := F) d L s0.sg)
/-- Chunk `g` in, its buffer's next-but-one neighbour as it was; -/
def Mid : sProp 𝕄 :=
  iprop(RMid d L ids tab enc qe s0 s1 s3 g ∗ sB d L ids tab enc s2 (g + 2) ∗ pl d L ids tab enc g g ∗ OW d L O W)

theorem to_mid :
    iprop(RWait d L ids tab enc qe s0 s1 s2 s3 g ∗ holds d L s0.B fullShare (gathV ids tab L g) ∗ gTok d L ids tab s0.q s0.qo ∗ semVal (V d (cV L) (jV L), .dma s0.sg) 0 ∗ OW d L O W)
      ⊢ Mid d L ids tab enc O W qe s0 s1 s2 s3 g := by
  unfold Mid RMid RWait tk sv
  iintro ⟨⟨H1, H2, H3, H4, H5, H6, H7, H8⟩, H9, H10, H11, H12⟩
  iframe H1 H2 H3 H4 H5 H6 H7 H8 H9 H10 H11 H12

/-- the neighbour's chunk `g - 2` on its way out, to be waited for; -/
def RScat : sProp 𝕄 :=
  iprop(RMid d L ids tab enc qe s0 s1 s3 g ∗ sv (F := F) d L s2.sg ∗ tk d L ids tab s2 ∗ pl d L ids tab enc g g)

theorem to_scat (h2 : 2 ≤ g) (hg : g - 2 < 32) :
    Mid d L ids tab enc O W qe s0 s1 s2 s3 g
      ⊢ iprop(RScat d L ids tab enc qe s0 s1 s2 s3 g ∗ SFly d L ids tab enc s2.B s2.ss (g - 2) hg ∗ OW d L O W) := by
  unfold Mid RScat tk sv
  rw [show sB d L ids tab enc s2 (g + 2) = _ from slotB_fly d L ids tab enc s2.B s2.sg s2.ss s2.q s2.qo (g - 2) hg (g + 2) (by omega)]
  iintro ⟨H1, ⟨H2, H3, H4⟩, H5, H6⟩
  iframe H1 H2 H3 H4 H5 H6

/-- the neighbour free, to be gathered into; -/
def RFree : sProp 𝕄 :=
  iprop(RMid d L ids tab enc qe s0 s1 s3 g ∗ sv (F := F) d L s2.ss ∗ pl d L ids tab enc (g + 1) g ∗ OW d L O W)
def Free : sProp 𝕄 :=
  iprop(RFree d L ids tab enc O W qe s0 s1 s2 s3 g ∗ (∃ v : S16x1024.Idx → F .f32, holds d L s2.B fullShare v) ∗ semVal (V d (cV L) (jV L), .dma s2.sg) 0 ∗ gTok d L ids tab s2.q s2.qo)

theorem scat_free (h2 : 2 ≤ g) (hg : g < 30) (hg' : g - 2 < 32) :
    iprop(RScat d L ids tab enc qe s0 s1 s2 s3 g ∗ outDone d L ids tab enc (g - 2) hg' ∗ (∃ v : S16x1024.Idx → F .f32, holds d L s2.B fullShare v)
        ∗ semVal (V d (cV L) (jV L), .dma s2.ss) 0 ∗ OW d L O W)
      ⊢ Free d L ids tab enc O W qe s0 s1 s2 s3 g := by
  have hp := Pool_put d L ids tab enc (g - 2) g (by omega) hg'
  unfold RScat Free RFree tk sv pl
  rw [show min (g - 2) 28 = g - 2 by omega, show min (g + 1 - 2) 28 = g - 2 + 1 by omega]
  iintro ⟨⟨H1, H2, H3, H4⟩, H5, H6, H7, H8⟩
  ihave H4 := hp $$ [H4 H5]
  · iframe H4 H5
  iframe H1 H2 H3 H4 H6 H7 H8

theorem mid_free (h2 : g < 2) :
    Mid d L ids tab enc O W qe s0 s1 s2 s3 g ⊢ Free d L ids tab enc O W qe s0 s1 s2 s3 g := by
  unfold Mid Free RFree sv pl
  rw [show sB d L ids tab enc s2 (g + 2) = _ from slotB_idle d L ids tab enc s2.B s2.sg s2.ss s2.q s2.qo (g + 2) (by omega)]
  rw [show min (g - 2) 28 = 0 by omega, show min (g + 1 - 2) 28 = 0 by omega]
  unfold Idle
  iintro ⟨H1, ⟨H2, H3, H4, H5⟩, H6, H7⟩
  iframe H1 H2 H3 H4 H5 H6 H7

/-- chunk `g` to be put right row by row. -/
def RLn : sProp 𝕄 :=
  iprop(sA d L ids tab enc s1 (g + 1) ∗ sB d L ids tab enc s3 (g + 3) ∗ sA d L ids tab enc s2 (g + 2) ∗ pl d L ids tab enc (g + 1) g
    ∗ sv (F := F) d L s0.ss ∗ tk d L ids tab s0 ∗ sv (F := F) d L s0.sg)
def AtLn (l : ℕ) : sProp 𝕄 :=
  iprop((RLn d L ids tab enc s0 s1 s2 s3 g ∗ idsTok (F := F) d L ids) ∗ Ln d L ids tab enc O W s0.B qe g l)

theorem free_ln (hg : g + 2 < 32) :
    iprop(RFree d L ids tab enc O W qe s0 s1 s2 s3 g ∗ gIss d L ids tab s2.B s2.sg s2.q s2.qo (g + 2) hg 8)
      ⊢ AtLn d L ids tab enc O W qe s0 s1 s2 s3 g 0 := by
  have hf := gFly_of_gIss d L ids tab s2.B s2.sg s2.q s2.qo (g + 2) hg
  unfold RFree AtLn RLn RMid Ln sv
  rw [show sA d L ids tab enc s2 (g + 2) = _ from slotA_pos d L ids tab enc s2.B s2.sg s2.ss s2.q s2.qo (g + 2) hg, fixV_zero]
  iintro ⟨⟨⟨H1, H2, H3, H4, H5, H6, H7, H8, H9⟩, H10, H11, H12⟩, H13⟩
  ihave H13 := hf $$ H13
  iframe H1 H2 H3 H4 H5 H6 H7 H8 H9 H10 H11 H12 H13

theorem mid_ln (hg : 30 ≤ g) :
    Mid d L ids tab enc O W qe s0 s1 s2 s3 g ⊢ AtLn d L ids tab enc O W qe s0 s1 s2 s3 g 0 := by
  unfold Mid AtLn RLn RMid Ln sv pl
  rw [show sA d L ids tab enc s2 (g + 2) = _ from slotA_neg d L ids tab enc s2.B s2.sg s2.ss s2.q s2.qo (g + 2) (by omega), fixV_zero]
  rw [show min (g - 2) 28 = 28 by omega, show min (g + 1 - 2) 28 = 28 by omega]
  iintro ⟨⟨H1, H2, H3, H4, H5, H6, H7, H8, H9⟩, H10, H11, H12⟩
  unfold sB
  iframe H1 H2 H3 H4 H5 H6 H7 H8 H9 H10 H11 H12

/-- Chunk `g` done, to be sent out. -/
def ROut : sProp 𝕄 :=
  iprop(sA d L ids tab enc s1 (g + 1) ∗ sB d L ids tab enc s3 (g + 3) ∗ sA d L ids tab enc s2 (g + 2) ∗ pl d L ids tab enc (g + 1) (g + 1)
    ∗ tk d L ids tab s0 ∗ sv (F := F) d L s0.sg ∗ idsTok (F := F) d L ids ∗ encTok d L enc qe ∗ fixS (F := F) d L ∗ OW d L O W)

theorem ln_out (hg : g < 32) :
    AtLn d L ids tab enc O W qe s0 s1 s2 s3 g 16
      ⊢ iprop(ROut d L ids tab enc O W qe s0 s1 s2 s3 g ∗ holds d L s0.B fullShare (fixV ids tab enc L g 16) ∗ outNew (F := F) d L g hg ∗ semVal (V d (cV L) (jV L), .dma s0.ss) 0) := by
  have hp := Pool_take d L ids tab enc (min (g + 1 - 2) 28) g (by omega) hg
  unfold AtLn ROut RLn Ln sv pl
  iintro ⟨⟨⟨H1, H2, H3, H4, H5, H6, H7⟩, H8⟩, H9, H10, H11, H12⟩
  ihave H4 := hp $$ H4
  icases H4 with ⟨H4, H13⟩
  iframe H1 H2 H3 H4 H5 H6 H7 H8 H9 H10 H11 H12 H13

theorem out_next (hg : g < 32) :
    iprop(ROut d L ids tab enc O W qe s0 s1 s2 s3 g ∗ SFly d L ids tab enc s0.B s0.ss g hg)
      ⊢ Ph d L ids tab enc O W qe s1 s2 s3 s0 (g + 1) := by
  unfold ROut Ph tk sv
  rw [show sB d L ids tab enc s0 (g + 1 + 3) = _ from slotB_fly d L ids tab enc s0.B s0.sg s0.ss s0.q s0.qo g hg (g + 1 + 3) (by omega)]
  iintro ⟨⟨H1, H2, H3, H4, H5, H6, H7, H8, H9, H10⟩, H11⟩
  iframe H1 H2 H3 H4 H5 H6 H7 H8 H9 H10 H11

end Phase

end Cert.Proof.Tile

end
-- ==== Proof.Body.lean ====
/-
  The pipeline's loop: one trip takes four chunks through the four row buffers.
-/
module

public import proofs.«01_k».proof.Proof.Phase
public import Idealize.ShloMosaic.Lib.Scf

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-- The four row buffers. -/
def slot0 (q p : Fin 4 → PosShare TreeShare) : Slot := ⟨Memref.whole cc1_scratch2, cc1_scratch6.sem, cc1_scratch10.sem, q 0, p 0⟩
def slot1 (q p : Fin 4 → PosShare TreeShare) : Slot := ⟨Memref.whole cc1_scratch3, cc1_scratch7.sem, cc1_scratch11.sem, q 1, p 1⟩
def slot2 (q p : Fin 4 → PosShare TreeShare) : Slot := ⟨Memref.whole cc1_scratch4, cc1_scratch8.sem, cc1_scratch12.sem, q 2, p 2⟩
def slot3 (q p : Fin 4 → PosShare TreeShare) : Slot := ⟨Memref.whole cc1_scratch5, cc1_scratch9.sem, cc1_scratch13.sem, q 3, p 3⟩

theorem off_out (L : grid1.Coords) (a g : ℕ) (h : a = 16 * g) : (![1024 * (L 1).val + 512 * (L 0).val + a, 0] : Fin 2 → ℕ) = ![base L + 16 * g, 0] := by
  rw [h]; rfl

section Body

variable [FloatOps F] {defs : Defs nD τ sig (Elt F) Λ₀} (d : Dev nD) (L : grid1.Coords) (ids : Ids) (tab : Tab F) (enc : Enc F)
variable (O : CellTallies nD τ sig (HIx 1)) (W : Waits sig (HIx 1)) (qe : PosShare TreeShare) (q p : Fin 4 → PosShare TreeShare)

theorem row_pos (B : Buf16) : 0 < B.view.ref.dmaCredit S1024 .f32 := sig.dmaCredit_pos _ _ _ _ _ (by decide)
theorem rowN_pos (B : Buf16) : 0 < rowN B := sig.dmaCredit_pos _ _ _ _ _ (by decide)

/-- The load of a chunk's ids. -/
theorem atIds {α : Type} {R X : sProp 𝕄} {Q : α → sProp 𝕄} (g : ℕ) {o : Fin 1 → ℕ} (ho : o = ![16 * g]) {hob : ∀ a, o a + S16.size a ≤ S512.size a}
    {hl} {k : (S16.Idx → BitVec 32) → Prog (TpuEff nD τ sig (Elt F) Λ₀ (V d (cV L) (jV L)).2) α}
    (hk : iprop((R ∗ idsTok (F := F) d L ids) ∗ X) ⊢ wp frame (wpE defs 𝒱₀ (V d (cV L) (jV L)) none) Set.univ (k (idsC L ids g)) Q) :
    iprop((R ∗ idsTok (F := F) d L ids) ∗ X) ⊢ wp frame (wpE defs 𝒱₀ (V d (cV L) (jV L)) none) Set.univ
      (Prog.lift (.load idvM (Rect.unit (s := S512) o S16.size hob).toLoadRect hl) >>= k) Q := by
  iintro ⟨⟨HR, HI⟩, HX⟩
  iapply (step_ids d L ids g o ho hob) $$ HI
  iintro HI
  iapply hk
  iframe HR HI HX

/-- The waits of a gather, in order. -/
theorem step_gw {α : Type} {Q : α → sProp 𝕄} {B : Buf16} {sg : DmaSem sig} {q qo : PosShare TreeShare} {g : ℕ} {hg : g < 32} {u : ℕ} (hu : u < 7) (hj : u < 8)
    {h1 : (tabCol u hj).view.WordExact} {h2 : (bufCol B u hj).view.WordExact}
    {k : PUnit → Prog (TpuEff nD τ sig (Elt F) Λ₀ (V d (cV L) (jV L)).2) α} :
    iprop(gFly d L ids tab B sg q qo g hg u ∗ OW d L O W)
      ⊢ iprop((iprop(gFly d L ids tab B sg q qo g hg (u + 1) ∗ OW d L O W) -∗ wp frame (wpE defs 𝒱₀ (V d (cV L) (jV L)) none) Set.univ (k ⟨⟩) Q)
          -∗ wp frame (wpE defs 𝒱₀ (V d (cV L) (jV L)) none) Set.univ
              (SparseCore.waitIndirectGather sg (tabCol u hj) (bufCol B u hj) h1 h2 >>= k) Q) :=
  step_gwait d L ids tab O W B sg q qo g hg u hu u hj

/-- The free buffer's gather begins. -/
theorem atFree {α : Type} {Q : α → sProp 𝕄} (s0 s1 s2 s3 : Slot) (g : ℕ) (hg : g + 2 < 32) {p : Prog (TpuEff nD τ sig (Elt F) Λ₀ (V d (cV L) (jV L)).2) α}
    (h : iprop(RFree d L ids tab enc O W qe s0 s1 s2 s3 g ∗ gIss d L ids tab s2.B s2.sg s2.q s2.qo (g + 2) hg 0)
      ⊢ wp frame (wpE defs 𝒱₀ (V d (cV L) (jV L)) none) Set.univ p Q) :
    Free d L ids tab enc O W qe s0 s1 s2 s3 g ⊢ wp frame (wpE defs 𝒱₀ (V d (cV L) (jV L)) none) Set.univ p Q :=
  start d L ids tab s2.B s2.sg s2.q s2.qo (g + 2) hg h

/-- The rows of chunk `g` begin, its ids loaded. -/
theorem atRows {α : Type} {Q : α → sProp 𝕄} (s0 s1 s2 s3 : Slot) (g : ℕ) {o : Fin 1 → ℕ} (ho : o = ![16 * g]) {hob : ∀ a, o a + S16.size a ≤ S512.size a}
    {hl} {k : (S16.Idx → BitVec 32) → Prog (TpuEff nD τ sig (Elt F) Λ₀ (V d (cV L) (jV L)).2) α}
    (hk : iprop((RLn d L ids tab enc s0 s1 s2 s3 g ∗ idsTok (F := F) d L ids) ∗ Ln d L ids tab enc O W s0.B qe g 0)
      ⊢ wp frame (wpE defs 𝒱₀ (V d (cV L) (jV L)) none) Set.univ (k (idsC L ids g)) Q) :
    AtLn d L ids tab enc O W qe s0 s1 s2 s3 g 0 ⊢ wp frame (wpE defs 𝒱₀ (V d (cV L) (jV L)) none) Set.univ
      (Prog.lift (.load idvM (Rect.unit (s := S512) o S16.size hob).toLoadRect hl) >>= k) Q :=
  atIds d L ids g ho hk

set_option maxHeartbeats 2000000 in
/-- One trip: four chunks. -/
theorem t2_step (hid : ∀ x, (ids x).toNat < 32100) (v2 v20 : BitVec 32) (t : Fin k1_t2_loop.trips) :
    Ph d L ids tab enc O W qe (slot0 q p) (slot1 q p) (slot2 q p) (slot3 q p) (4 * t.val)
      ⊢ wp frame (wpE defs 𝒱₀ (V d (cV L) (jV L)) none) Set.univ
        (k1_t2_body L idsM (Memref.isWhole_whole _) tabM (Memref.isWhole_whole _) encM (Memref.isWhole_whole _) outM (Memref.isWhole_whole _) idvM (Memref.isWhole_whole _) clnM (Memref.isWhole_whole _)
        (Memref.whole cc1_scratch2) (Memref.isWhole_whole _) (Memref.whole cc1_scratch3) (Memref.isWhole_whole _) (Memref.whole cc1_scratch4) (Memref.isWhole_whole _) (Memref.whole cc1_scratch5) (Memref.isWhole_whole _)
        cc1_scratch6 cc1_scratch7 cc1_scratch8 cc1_scratch9 cc1_scratch10 cc1_scratch11 cc1_scratch12 cc1_scratch13
        cc1_scoped0 cc1_scoped1 cc1_scoped2 cc1_scoped3 cc1_scoped4 cc1_scoped5 cc1_scoped6 cc1_scoped7 cc1_scoped8 cc1_scoped9 cc1_scoped10 cc1_scoped11 cc1_scoped12
        cc1_scoped13 cc1_scoped14 cc1_scoped15 cc1_scoped16 cc1_scoped17 cc1_scoped18 cc1_scoped19 cc1_scoped20 cc1_scoped21 cc1_scoped22 cc1_scoped23 cc1_scoped24 cc1_scoped25
        cc1_scoped26 cc1_scoped27 cc1_scoped28 cc1_scoped29 cc1_scoped30 cc1_scoped31 cc1_scoped32 cc1_scoped33 cc1_scoped34 cc1_scoped35 cc1_scoped36 cc1_scoped37 cc1_scoped38
        cc1_scoped39 cc1_scoped40 cc1_scoped41 cc1_scoped42 cc1_scoped43 cc1_scoped44 cc1_scoped45 cc1_scoped46 cc1_scoped47 cc1_scoped48 cc1_scoped49 cc1_scoped50 cc1_scoped51
        cc1_scoped52 cc1_scoped53 cc1_scoped54 cc1_scoped55 cc1_scoped56 cc1_scoped57 cc1_scoped58 cc1_scoped59 cc1_scoped60 cc1_scoped61 cc1_scoped62 cc1_scoped63 cc1_scoped64 v2 v20 t ⟨⟩)
        fun _ => Ph d L ids tab enc O W qe (slot0 q p) (slot1 q p) (slot2 q p) (slot3 q p) (4 * (t.val + 1)) := by
  have ht : t.val < 8 := t.isLt
  unfold k1_t2_body
  -- chunk 4t
  with_reducible_and_instances refine mono (to_wait d L ids tab enc O W qe (slot0 q p) (slot1 q p) (slot2 q p) (slot3 q p) (4 * t.val) (by omega)) ?_
  with_reducible_and_instances refine inBind d L ?_
  rw [k1_part5_eq_skeleton]; unfold k1_part5_skel
  iterate 5 refine seq (step_gw d L ids tab O W (by omega) (by omega)) ?_
  with_reducible_and_instances refine atPure d L ?_
  dsimp only
  with_reducible_and_instances refine inBind d L ?_
  rw [k1_part6_eq_skeleton]; unfold k1_part6_skel
  iterate 2 refine seq (step_gw d L ids tab O W (by omega) (by omega)) ?_
  refine seq (step_glast d L ids tab O W _ _ _ _ _ _ 7 (by omega) (rowN_pos _)) ?_
  with_reducible_and_instances refine mono (to_mid d L ids tab enc O W qe (slot0 q p) (slot1 q p) (slot2 q p) (slot3 q p) (4 * t.val)) ?_
  with_reducible_and_instances refine atPos d L (cond1_t t) ?_
  with_reducible_and_instances refine inBind d L ?_
  rw [k1_part1_eq_skeleton]; unfold k1_part1_skel
  with_reducible_and_instances refine atIf d L (Free d L ids tab enc O W qe (slot0 q p) (slot1 q p) (slot2 q p) (slot3 q p) (4 * t.val)) (fun h hK => ?_) (fun h => ?_) ?_
  · have h2 := (cond2_t t).mp h
    with_reducible_and_instances refine mono (to_scat d L ids tab enc O W qe (slot0 q p) (slot1 q p) (slot2 q p) (slot3 q p) (4 * t.val) (by omega) (by omega)) ?_
    refine seq (step_swait d L ids tab enc O W _ _ _ _ _ _) ?_
    exact mono (scat_free d L ids tab enc O W qe (slot0 q p) (slot1 q p) (slot2 q p) (slot3 q p) (4 * t.val) (by omega) (by omega) _) hK
  · exact mid_free d L ids tab enc O W qe (slot0 q p) (slot1 q p) (slot2 q p) (slot3 q p) (4 * t.val) (by have := mt (cond2_t t).mpr h; omega)
  with_reducible_and_instances refine atFree d L ids tab enc O W qe (slot0 q p) (slot1 q p) (slot2 q p) (slot3 q p) (4 * t.val) (by omega) ?_
  iterate 5 refine seq (step_issue d L ids tab _ _ _ _ _ _ _ (by omega) _ ((k1_off5_eq t).trans (by congr 1; omega)) _) ?_
  with_reducible_and_instances refine atPure d L ?_
  dsimp only
  iterate 3 refine seq (step_issue d L ids tab _ _ _ _ _ _ _ (by omega) _ ((k1_off5_eq t).trans (by congr 1; omega)) _) ?_
  with_reducible_and_instances refine mono (free_ln d L ids tab enc O W qe (slot0 q p) (slot1 q p) (slot2 q p) (slot3 q p) (4 * t.val) (by omega)) ?_
  refine atRows d L ids tab enc O W qe (slot0 q p) (slot1 q p) (slot2 q p) (slot3 q p) (4 * t.val) ((k1_off6_eq t).trans (by congr 1; omega)) ?_
  iterate 1
    refine atAssume d L (chk_of L _ (by exact hid _)) ?_
    refine atFix d L ids tab enc O W 0 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part7_eq_skeleton]; unfold k1_part7_skel
  refine atFix d L ids tab enc O W 0 (by omega) (by omega) (by omega) hid (row_pos _) rfl (by decide +kernel) ?_
  iterate 6
    refine atAssume d L (chk_of L _ (by exact hid _)) ?_
    refine atFix d L ids tab enc O W 0 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part8_eq_skeleton]; unfold k1_part8_skel
  refine atFix d L ids tab enc O W 0 (by omega) (by omega) (by omega) hid (row_pos _) rfl (by decide +kernel) ?_
  iterate 6
    refine atAssume d L (chk_of L _ (by exact hid _)) ?_
    refine atFix d L ids tab enc O W 0 (by omega) (by omega) (by omega) hid (row_pos _) rfl (by decide +kernel) ?_
  with_reducible_and_instances refine atPure d L ?_
  dsimp only
  with_reducible_and_instances refine inBind d L ?_
  rw [k1_part9_eq_skeleton]; unfold k1_part9_skel
  iterate 1
    refine atAssume d L (chk_of L _ (by exact hid _)) ?_
    refine atFix d L ids tab enc O W 0 (by omega) (by omega) (by omega) hid (row_pos _) rfl (by decide +kernel) ?_
  with_reducible_and_instances refine mono (ln_out d L ids tab enc O W qe (slot0 q p) (slot1 q p) (slot2 q p) (slot3 q p) (4 * t.val) (by omega)) ?_
  refine seq (step_scatter d L ids tab enc _ _ _ _ _ ((k1_off39_eq L t).trans (off_out L _ _ (by omega))) _) ?_
  with_reducible_and_instances refine mono (out_next d L ids tab enc O W qe (slot0 q p) (slot1 q p) (slot2 q p) (slot3 q p) (4 * t.val) (by omega)) ?_
  -- chunk 4t + 1
  with_reducible_and_instances refine mono (to_wait d L ids tab enc O W qe (slot1 q p) (slot2 q p) (slot3 q p) (slot0 q p) (4 * t.val + 1) (by omega)) ?_
  iterate 3 refine seq (step_gw d L ids tab O W (by omega) (by omega)) ?_
  with_reducible_and_instances refine atPure d L ?_
  dsimp only
  with_reducible_and_instances refine inBind d L ?_
  rw [k1_part10_eq_skeleton]; unfold k1_part10_skel
  iterate 4 refine seq (step_gw d L ids tab O W (by omega) (by omega)) ?_
  refine seq (step_glast d L ids tab O W _ _ _ _ _ _ 7 (by omega) (rowN_pos _)) ?_
  with_reducible_and_instances refine mono (to_mid d L ids tab enc O W qe (slot1 q p) (slot2 q p) (slot3 q p) (slot0 q p) (4 * t.val + 1)) ?_
  with_reducible_and_instances refine atPos d L (cond19_t t) ?_
  with_reducible_and_instances refine inBind d L ?_
  rw [k1_part2_eq_skeleton]; unfold k1_part2_skel
  with_reducible_and_instances refine atIf d L (Free d L ids tab enc O W qe (slot1 q p) (slot2 q p) (slot3 q p) (slot0 q p) (4 * t.val + 1)) (fun h hK => ?_) (fun h => ?_) ?_
  · have h2 := (cond20_t t).mp h
    with_reducible_and_instances refine mono (to_scat d L ids tab enc O W qe (slot1 q p) (slot2 q p) (slot3 q p) (slot0 q p) (4 * t.val + 1) (by omega) (by omega)) ?_
    refine seq (step_swait d L ids tab enc O W _ _ _ _ _ _) ?_
    exact mono (scat_free d L ids tab enc O W qe (slot1 q p) (slot2 q p) (slot3 q p) (slot0 q p) (4 * t.val + 1) (by omega) (by omega) _) hK
  · exact mid_free d L ids tab enc O W qe (slot1 q p) (slot2 q p) (slot3 q p) (slot0 q p) (4 * t.val + 1) (by have := mt (cond20_t t).mpr h; omega)
  with_reducible_and_instances refine atFree d L ids tab enc O W qe (slot1 q p) (slot2 q p) (slot3 q p) (slot0 q p) (4 * t.val + 1) (by omega) ?_
  iterate 5 refine seq (step_issue d L ids tab _ _ _ _ _ _ _ (by omega) _ ((k1_off42_eq t).trans (by congr 1; omega)) _) ?_
  with_reducible_and_instances refine atPure d L ?_
  dsimp only
  iterate 3 refine seq (step_issue d L ids tab _ _ _ _ _ _ _ (by omega) _ ((k1_off42_eq t).trans (by congr 1; omega)) _) ?_
  with_reducible_and_instances refine mono (free_ln d L ids tab enc O W qe (slot1 q p) (slot2 q p) (slot3 q p) (slot0 q p) (4 * t.val + 1) (by omega)) ?_
  refine atRows d L ids tab enc O W qe (slot1 q p) (slot2 q p) (slot3 q p) (slot0 q p) (4 * t.val + 1) ((k1_off43_eq t).trans (by congr 1; omega)) ?_
  with_reducible_and_instances refine atPure d L ?_
  dsimp only
  with_reducible_and_instances refine inBind d L ?_
  rw [k1_part11_eq_skeleton]; unfold k1_part11_skel
  iterate 6
    refine atAssume d L (chk_of L _ (by exact hid _)) ?_
    refine atFix d L ids tab enc O W 1 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part12_eq_skeleton]; unfold k1_part12_skel
  refine atFix d L ids tab enc O W 1 (by omega) (by omega) (by omega) hid (row_pos _) rfl (by decide +kernel) ?_
  iterate 6
    refine atAssume d L (chk_of L _ (by exact hid _)) ?_
    refine atFix d L ids tab enc O W 1 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part13_eq_skeleton]; unfold k1_part13_skel
  refine atFix d L ids tab enc O W 1 (by omega) (by omega) (by omega) hid (row_pos _) rfl (by decide +kernel) ?_
  iterate 2
    refine atAssume d L (chk_of L _ (by exact hid _)) ?_
    refine atFix d L ids tab enc O W 1 (by omega) (by omega) (by omega) hid (row_pos _) rfl (by decide +kernel) ?_
  with_reducible_and_instances refine mono (ln_out d L ids tab enc O W qe (slot1 q p) (slot2 q p) (slot3 q p) (slot0 q p) (4 * t.val + 1) (by omega)) ?_
  refine seq (step_scatter d L ids tab enc _ _ _ _ _ ((k1_off76_eq L t).trans (by rw [Nat.add_assoc]; exact off_out L _ _ (by omega))) _) ?_
  with_reducible_and_instances refine mono (out_next d L ids tab enc O W qe (slot1 q p) (slot2 q p) (slot3 q p) (slot0 q p) (4 * t.val + 1) (by omega)) ?_
  -- chunk 4t + 2
  with_reducible_and_instances refine mono (to_wait d L ids tab enc O W qe (slot2 q p) (slot3 q p) (slot0 q p) (slot1 q p) (4 * t.val + 2) (by omega)) ?_
  iterate 2 refine seq (step_gw d L ids tab O W (by omega) (by omega)) ?_
  with_reducible_and_instances refine atPure d L ?_
  dsimp only
  with_reducible_and_instances refine inBind d L ?_
  rw [k1_part14_eq_skeleton]; unfold k1_part14_skel
  iterate 5 refine seq (step_gw d L ids tab O W (by omega) (by omega)) ?_
  refine seq (step_glast d L ids tab O W _ _ _ _ _ _ 7 (by omega) (rowN_pos _)) ?_
  with_reducible_and_instances refine mono (to_mid d L ids tab enc O W qe (slot2 q p) (slot3 q p) (slot0 q p) (slot1 q p) (4 * t.val + 2)) ?_
  with_reducible_and_instances refine atPure d L ?_
  dsimp only
  with_reducible_and_instances refine inBind d L ?_
  rw [k1_part15_eq_skeleton]; unfold k1_part15_skel
  with_reducible_and_instances refine atIf d L (AtLn d L ids tab enc O W qe (slot2 q p) (slot3 q p) (slot0 q p) (slot1 q p) (4 * t.val + 2) 0) (fun h hK => ?_) (fun h => ?_) ?_
  · have ht7 := (cond37_t t).mp h
    with_reducible_and_instances refine inBind d L ?_
    rw [k1_part3_eq_skeleton]; unfold k1_part3_skel
    with_reducible_and_instances refine atPos d L (cond38_t t) ?_
    with_reducible_and_instances refine mono (to_scat d L ids tab enc O W qe (slot2 q p) (slot3 q p) (slot0 q p) (slot1 q p) (4 * t.val + 2) (by omega) (by omega)) ?_
    refine seq (step_swait d L ids tab enc O W _ _ _ _ _ _) ?_
    with_reducible_and_instances refine mono (scat_free d L ids tab enc O W qe (slot2 q p) (slot3 q p) (slot0 q p) (slot1 q p) (4 * t.val + 2) (by omega) (by omega) (by omega)) ?_
    with_reducible_and_instances refine atFree d L ids tab enc O W qe (slot2 q p) (slot3 q p) (slot0 q p) (slot1 q p) (4 * t.val + 2) (by omega) ?_
    iterate 5 refine seq (step_issue d L ids tab _ _ _ _ _ _ _ (by omega) _ ((k1_off79_eq t).trans (by congr 1; omega)) _) ?_
    with_reducible_and_instances refine atPure d L ?_
    dsimp only
    iterate 3 refine seq (step_issue d L ids tab _ _ _ _ _ _ _ (by omega) _ ((k1_off79_eq t).trans (by congr 1; omega)) _) ?_
    exact mono (free_ln d L ids tab enc O W qe (slot2 q p) (slot3 q p) (slot0 q p) (slot1 q p) (4 * t.val + 2) (by omega)) hK
  · exact mid_ln d L ids tab enc O W qe (slot2 q p) (slot3 q p) (slot0 q p) (slot1 q p) (4 * t.val + 2) (by have := mt (cond37_t t).mpr h; omega)
  refine atRows d L ids tab enc O W qe (slot2 q p) (slot3 q p) (slot0 q p) (slot1 q p) (4 * t.val + 2) ((k1_off80_eq t).trans (by congr 1; omega)) ?_
  iterate 4
    refine atAssume d L (chk_of L _ (by exact hid _)) ?_
    refine atFix d L ids tab enc O W 2 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part16_eq_skeleton]; unfold k1_part16_skel
  refine atFix d L ids tab enc O W 2 (by omega) (by omega) (by omega) hid (row_pos _) rfl (by decide +kernel) ?_
  iterate 6
    refine atAssume d L (chk_of L _ (by exact hid _)) ?_
    refine atFix d L ids tab enc O W 2 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part17_eq_skeleton]; unfold k1_part17_skel
  refine atFix d L ids tab enc O W 2 (by omega) (by omega) (by omega) hid (row_pos _) rfl (by decide +kernel) ?_
  iterate 4
    refine atAssume d L (chk_of L _ (by exact hid _)) ?_
    refine atFix d L ids tab enc O W 2 (by omega) (by omega) (by omega) hid (row_pos _) rfl (by decide +kernel) ?_
  with_reducible_and_instances refine mono (ln_out d L ids tab enc O W qe (slot2 q p) (slot3 q p) (slot0 q p) (slot1 q p) (4 * t.val + 2) (by omega)) ?_
  refine seq (step_scatter d L ids tab enc _ _ _ _ _ ((k1_off113_eq L t).trans (by rw [Nat.add_assoc]; exact off_out L _ _ (by omega))) _) ?_
  with_reducible_and_instances refine mono (out_next d L ids tab enc O W qe (slot2 q p) (slot3 q p) (slot0 q p) (slot1 q p) (4 * t.val + 2) (by omega)) ?_
  with_reducible_and_instances refine atPure d L ?_
  dsimp only
  -- chunk 4t + 3
  with_reducible_and_instances refine mono (to_wait d L ids tab enc O W qe (slot3 q p) (slot0 q p) (slot1 q p) (slot2 q p) (4 * t.val + 3) (by omega)) ?_
  with_reducible_and_instances refine inBind d L ?_
  rw [k1_part18_eq_skeleton]; unfold k1_part18_skel
  iterate 6 refine seq (step_gw d L ids tab O W (by omega) (by omega)) ?_
  with_reducible_and_instances refine atPure d L ?_
  dsimp only
  with_reducible_and_instances refine inBind d L ?_
  rw [k1_part19_eq_skeleton]; unfold k1_part19_skel
  refine seq (step_gw d L ids tab O W (by omega) (by omega)) ?_
  refine seq (step_glast d L ids tab O W _ _ _ _ _ _ 7 (by omega) (rowN_pos _)) ?_
  with_reducible_and_instances refine mono (to_mid d L ids tab enc O W qe (slot3 q p) (slot0 q p) (slot1 q p) (slot2 q p) (4 * t.val + 3)) ?_
  with_reducible_and_instances refine atIf d L (AtLn d L ids tab enc O W qe (slot3 q p) (slot0 q p) (slot1 q p) (slot2 q p) (4 * t.val + 3) 0) (fun h hK => ?_) (fun h => ?_) ?_
  · have ht7 := (cond55_t t).mp h
    with_reducible_and_instances refine inBind d L ?_
    rw [k1_part4_eq_skeleton]; unfold k1_part4_skel
    with_reducible_and_instances refine atPos d L (cond56_t t) ?_
    with_reducible_and_instances refine mono (to_scat d L ids tab enc O W qe (slot3 q p) (slot0 q p) (slot1 q p) (slot2 q p) (4 * t.val + 3) (by omega) (by omega)) ?_
    refine seq (step_swait d L ids tab enc O W _ _ _ _ _ _) ?_
    with_reducible_and_instances refine mono (scat_free d L ids tab enc O W qe (slot3 q p) (slot0 q p) (slot1 q p) (slot2 q p) (4 * t.val + 3) (by omega) (by omega) (by omega)) ?_
    with_reducible_and_instances refine atFree d L ids tab enc O W qe (slot3 q p) (slot0 q p) (slot1 q p) (slot2 q p) (4 * t.val + 3) (by omega) ?_
    iterate 5 refine seq (step_issue d L ids tab _ _ _ _ _ _ _ (by omega) _ ((k1_off116_eq t).trans (by congr 1; omega)) _) ?_
    with_reducible_and_instances refine atPure d L ?_
    dsimp only
    iterate 3 refine seq (step_issue d L ids tab _ _ _ _ _ _ _ (by omega) _ ((k1_off116_eq t).trans (by congr 1; omega)) _) ?_
    exact mono (free_ln d L ids tab enc O W qe (slot3 q p) (slot0 q p) (slot1 q p) (slot2 q p) (4 * t.val + 3) (by omega)) hK
  · exact mid_ln d L ids tab enc O W qe (slot3 q p) (slot0 q p) (slot1 q p) (slot2 q p) (4 * t.val + 3) (by have := mt (cond55_t t).mpr h; omega)
  refine atRows d L ids tab enc O W qe (slot3 q p) (slot0 q p) (slot1 q p) (slot2 q p) (4 * t.val + 3) ((k1_off117_eq t).trans (by congr 1; omega)) ?_
  iterate 3
    refine atAssume d L (chk_of L _ (by exact hid _)) ?_
    refine atFix d L ids tab enc O W 3 (by omega) (by omega) (by omega) hid (row_pos _) rfl (by decide +kernel) ?_
  with_reducible_and_instances refine atPure d L ?_
  dsimp only
  with_reducible_and_instances refine inBind d L ?_
  rw [k1_part20_eq_skeleton]; unfold k1_part20_skel
  iterate 6
    refine atAssume d L (chk_of L _ (by exact hid _)) ?_
    refine atFix d L ids tab enc O W 3 (by omega) (by omega) (by omega) hid (row_pos _) rfl (by decide +kernel) ?_
  refine atAssume d L (chk_of L _ (by exact hid _)) ?_
  with_reducible_and_instances refine atPure d L ?_
  dsimp only
  with_reducible_and_instances refine inBind d L ?_
  rw [k1_part21_eq_skeleton]; unfold k1_part21_skel
  refine atFix d L ids tab enc O W 3 (by omega) (by omega) (by omega) hid (row_pos _) rfl (by decide +kernel) ?_
  iterate 6
    refine atAssume d L (chk_of L _ (by exact hid _)) ?_
    refine atFix d L ids tab enc O W 3 (by omega) (by omega) (by omega) hid (row_pos _) rfl (by decide +kernel) ?_
  with_reducible_and_instances refine atPure d L ?_
  dsimp only
  with_reducible_and_instances refine mono (ln_out d L ids tab enc O W qe (slot3 q p) (slot0 q p) (slot1 q p) (slot2 q p) (4 * t.val + 3) (by omega)) ?_
  refine seq (step_scatter d L ids tab enc _ _ _ _ _ ((k1_off150_eq L t).trans (by rw [Nat.add_assoc]; exact off_out L _ _ (by omega))) _) ?_
  with_reducible_and_instances refine mono (out_next d L ids tab enc O W qe (slot3 q p) (slot0 q p) (slot1 q p) (slot2 q p) (4 * t.val + 3) (by omega)) ?_
  with_reducible_and_instances refine atPure d L ?_
  exact Entails.of_eq (by rw [show 4 * (t.val + 1) = 4 * t.val + 3 + 1 by omega])

end Body

end Cert.Proof.Tile

end
-- ==== Proof.Fetch.lean ====
/-
  A tile's beginning: its ids are fetched, and the list of table rows is made from them.
-/
module

public import proofs.«01_k».proof.Proof.Walk
public import Idealize.SL.Sem.ProofMode
public import Idealize.ShloMosaic.Lib.Pipeline.Value

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

theorem off1_rc : ∀ L : grid1.Coords, k1_off1 L = ![(1024 * (L 1).val + 512 * (L 0).val) / 4096, (1024 * (L 1).val + 512 * (L 0).val) % 4096] := by
  decide +kernel

theorem pay69_at (v : Vec F S16 .i32) (x : S16.Idx) (hv : (v x : BitVec 32).toNat < 32100) : k1_pay69 (F := F) v x = cln (v x) := by
  have h2 : (32000#32 : BitVec 32).toNat = 32000 := by decide
  have e : k1_pay69 (F := F) v x = Scalar.select (Scalar.cmpi .sge (v x : BitVec 32) 32000#32) 0#32 (v x) := by
    unfold k1_pay69
    simp only [shapeCast_self]
    rfl
  have hs : (32000#32 : BitVec 32).sle (v x) = decide (32000 ≤ (v x : BitVec 32).toNat) := by
    rw [BitVec.sle_eq_decide, BitVec.toInt_eq_toNat_of_lt (by omega), BitVec.toInt_eq_toNat_of_lt (by omega), h2]
    simp
  rw [e]
  have hc : Scalar.cmpi .sge (v x : BitVec 32) 32000#32 = BitVec.ofBool (decide (32000 ≤ (v x : BitVec 32).toNat)) := by
    show BitVec.ofBool ((32000#32 : BitVec 32).sle (v x)) = _
    rw [hs]
  rw [hc]
  unfold cln
  by_cases h : 32000 ≤ (v x : BitVec 32).toNat
  · rw [if_pos h, decide_eq_true h]; rfl
  · rw [if_neg h, decide_eq_false h]; rfl

section Fetch

variable [FloatOps F] {α : Type} {defs : Defs nD τ sig (Elt F) Λ₀} (d : Dev nD) (L : grid1.Coords) (ids : Ids)
variable {Q : α → sProp (MT nD τ sig (HIx 1) (Elt F) ℕ UU ℕ)}
variable (O : CellTallies nD τ sig (HIx 1)) (W : Waits sig (HIx 1)) (qi : PosShare TreeShare)

/-- The tile's share of the ids. -/
def idsAll : sProp 𝕄 := (idsM.view.loc (V d (cV L) (jV L)) ↦[Finset.univ]{qi} ids : sProp 𝕄)
/-- The tile's 512 of them. -/
abbrev idsSl (L : grid1.Coords) : Memref sig .scVector .hbm S512 .i32 :=
  (idsM.slice (Rect.unit (s := S4x4096) (k1_off1 L) S1x512.size (k1_off1_inb L)) (fun _ => rfl)).squeeze S512 squeezes_S1x512_S512

theorem squeeze_ids (h : S512.numel = S1x512.numel) (z : S512.Idx) : (Shape.reshapeEquiv h z : S1x512.Idx) = ix2 1 512 0 (z 0).val := by
  rw [Shape.reshapeEquiv_cons_one h z]
  exact eq_ix2 1 512 _ _ _ rfl rfl

theorem idsSl_read : (idsSl L).view.read (Elt F) ids = idsV ids L := by
  funext x
  have hx : (x 0).val < 512 := (x 0).isLt
  have hb := base_lt L
  have h0 : (k1_off1 L) 0 = base L / 4096 := congrFun (off1_rc L) 0
  have h1 : (k1_off1 L) 1 = base L % 4096 := congrFun (off1_rc L) 1
  have hm : base L % 4096 + 512 ≤ 4096 := by unfold base; omega
  show ids ((Rect.unit (s := S4x4096) (k1_off1 L) S1x512.size (k1_off1_inb L)).emb (Shape.reshapeEquiv squeezes_S1x512_S512.numel_eq x)) = _
  rw [squeeze_ids]
  unfold idsV tok
  refine congrArg ids (eq_ix2 4 4096 _ _ _ ?_ ?_)
  · show (k1_off1 L) 0 + 1 * (0 % 1) = _
    rw [h0]; omega
  · show (k1_off1 L) 1 + 1 * ((x 0).val % 512) = _
    rw [h1]; omega

/-- The ids on their way. -/
def IFly (sm : DmaSem sig) : sProp 𝕄 :=
  iprop(Flight EC (V d (cV L) (jV L)) (.dma sm) none idvM.view.dmaCredit
      iprop(idsTok (F := F) d L ids ∗ idsM.view.loc (V d (cV L) (jV L)) ↦[(idsSl L).view.set]{qi} ids)
    ∗ idsM.view.loc (V d (cV L) (jV L)) ↦[Finset.univ \ (idsSl L).view.set]{qi} ids)

theorem step_fetch (sm : DmaSem sig) {h1 h2 h3} {k : PUnit → Prog (TpuEff nD τ sig (Elt F) Λ₀ (V d (cV L) (jV L)).2) α} :
    iprop(idsAll (F := F) d L ids qi ∗ (∃ f : Buf (Elt F) (idvM.view.loc (V d (cV L) (jV L))), idvM.view.loc (V d (cV L) (jV L)) ↦[Finset.univ]{fullShare} f)
        ∗ semVal (V d (cV L) (jV L), .dma sm) 0)
      ⊢ iprop((IFly (F := F) d L ids qi sm -∗ wp frame (wpE defs 𝒱₀ (V d (cV L) (jV L)) none) Set.univ (k ⟨⟩) Q)
          -∗ wp frame (wpE defs 𝒱₀ (V d (cV L) (jV L)) none) Set.univ
              (Prog.lift (.enqueueDma (idsSl L) (.here idvM) (.dma sm) h1 h2 h3) >>= k) Q) := by
  unfold idsAll IFly
  have hw : ∀ f : Buf (Elt F) (idvM.view.loc (V d (cV L) (jV L))), idvM.view.write (Elt F) f ((idsSl L).view.read (Elt F) ids) Finset.univ = idsV ids L := by
    intro f
    rw [idsSl_read]
    exact View.read_write_univ (v := idvM.view) (Val := Elt F) f (idsV ids L)
  have hE1 : (idsM.view.loc (V d (cV L) (jV L)) ↦[Finset.univ]{qi} ids : sProp 𝕄) ⊢ iprop((idsM.view.loc (V d (cV L) (jV L)) ↦[(idsSl L).view.set]{qi} ids)
      ∗ idsM.view.loc (V d (cV L) (jV L)) ↦[Finset.univ \ (idsSl L).view.set]{qi} ids) := (pointsTo_split_subset (Finset.subset_univ _)).1
  iintro ⟨HI, ⟨%f, Hf⟩, Hs⟩ Hk
  ihave HI := hE1 $$ HI
  icases HI with ⟨HI, HR⟩
  iapply (wp_dmaLocal EC 𝒱₀ (V d (cV L) (jV L)) none (none : HIx 1) idvM.view.dmaCredit rfl (sig.dmaCredit_pos _ _ _ _ _ (by decide)) (Finset.subset_univ _)
    (src := idsSl L) (dst := idvM) (via := .same) (sm := .dma sm) (fs := ids) (fd := f) (q := qi)) $$ [HI Hf Hs]
  · iframe HI Hf Hs
  iintro HF
  iapply Hk
  rw [hw f]
  unfold idsTok
  iframe HF HR

theorem step_fwait (sm : DmaSem sig) {h1 h2} {k : PUnit → Prog (TpuEff nD τ sig (Elt F) Λ₀ (V d (cV L) (jV L)).2) α} :
    iprop(IFly (F := F) d L ids qi sm ∗ OW d L O W)
      ⊢ iprop((iprop(idsAll (F := F) d L ids qi ∗ idsTok (F := F) d L ids ∗ semVal (V d (cV L) (jV L), .dma sm) 0 ∗ OW d L O W)
            -∗ wp frame (wpE defs 𝒱₀ (V d (cV L) (jV L)) none) Set.univ (k ⟨⟩) Q)
          -∗ wp frame (wpE defs 𝒱₀ (V d (cV L) (jV L)) none) Set.univ
              (Prog.lift (.waitDma2 sm (idsSl L) idvM h1 h2) >>= k) Q) := by
  unfold IFly OW idsAll
  have hE2 : iprop((idsM.view.loc (V d (cV L) (jV L)) ↦[(idsSl L).view.set]{qi} ids)
      ∗ idsM.view.loc (V d (cV L) (jV L)) ↦[Finset.univ \ (idsSl L).view.set]{qi} ids) ⊢ (idsM.view.loc (V d (cV L) (jV L)) ↦[Finset.univ]{qi} ids : sProp 𝕄) := (pointsTo_split_subset (Finset.subset_univ _)).2
  iintro ⟨⟨HF, HR⟩, #Hmw, %W', %hW', HO⟩ Hk
  ihave Hm := MayWaits.elim (SemLoc.dma sm) $$ Hmw
  iapply (wp_waitLocalO EC 𝒱₀ (V d (cV L) (jV L)) none (none : HIx 1) (N := idvM.view.dmaCredit) (srcw := idsSl L)
    (dstw := idvM) rfl) $$ [HF HO Hm]
  · iframe HF HO Hm
  iintro ⟨⟨HT, HI⟩, Hs, HO⟩
  iapply Hk
  isplitl [HI HR]
  · iapply hE2
    iframe HI HR
  isplitl [HT]; · iexact HT
  isplitl [Hs]; · iexact Hs
  isplitr; · iexact Hmw
  iexists (insert (SemLoc.dma sm, (none : HIx 1)) W')
  isplitr
  · ipureintro; exact wait_ins W W' _ hW'
  iexact HO

/-- The list's first `n` entries made. -/
def Lst (n : ℕ) : sProp 𝕄 :=
  iprop(idsTok (F := F) d L ids ∗ ∃ f : S512.Idx → BitVec 32, ⌜∀ x, (x 0).val < n → f x = clnV ids L x⌝ ∗ clnM.view.loc (V d (cV L) (jV L)) ↦[Finset.univ]{fullShare} f)

theorem step_lst (hid : ∀ x, (ids x).toNat < 32100) (t : ℕ) (o : Fin 1 → ℕ) (ho : o = ![16 * t]) (hob : ∀ a, o a + S16.size a ≤ S512.size a)
    {h1 h2 h3 h4} {k : PUnit → Prog (TpuEff nD τ sig (Elt F) Λ₀ (V d (cV L) (jV L)).2) α} :
    Lst (F := F) d L ids (16 * t)
      ⊢ iprop((Lst (F := F) d L ids (16 * (t + 1)) -∗ wp frame (wpE defs 𝒱₀ (V d (cV L) (jV L)) none) Set.univ (k ⟨⟩) Q)
          -∗ wp frame (wpE defs 𝒱₀ (V d (cV L) (jV L)) none) Set.univ
              (Prog.lift (.load idvM (Rect.unit (s := S512) o S16.size hob).toLoadRect h1) >>= fun v =>
                Prog.lift (.load clnM (Rect.unit (s := S512) o S16.size hob).toLoadRect h2) >>= fun _ =>
                Prog.lift (.store clnM (Rect.unit (s := S512) o S16.size hob) (k1_pay69 (F := F) v) Finset.univ h3 h4) >>= k) Q) := by
  unfold Lst
  iintro ⟨HI, %f, %hf, Hf⟩ Hk
  iapply (step_ids d L ids t o ho hob) $$ HI
  iintro HI
  iapply (wp_load (defs := defs) 𝒱₀ (V d (cV L) (jV L)) none Set.univ (m := clnM) (r := (Rect.unit (s := S512) o S16.size hob).toLoadRect) (f := f) (S := Finset.univ) (Finset.subset_univ _)) $$ Hf
  iintro Hf
  iapply (wp_store (defs := defs) 𝒱₀ (V d (cV L) (jV L)) none Set.univ (m := clnM) (r := Rect.unit (s := S512) o S16.size hob) (w := k1_pay69 (F := F) (idsC L ids t)) (Mk := Finset.univ) (f := f) (S := Finset.univ) (Finset.subset_univ _)) $$ Hf
  iintro Hf
  iapply Hk
  isplitl [HI]; · iexact HI
  iexists _
  isplitr [Hf]
  rotate_left
  · iexact Hf
  ipureintro
  subst ho
  intro x hx
  by_cases h : 16 * t ≤ (x 0).val
  · let y : S16.Idx := fun a => ⟨(x 0).val - 16 * t, by rw [Subsingleton.elim a 0]; show _ < 16; omega⟩
    have hy : x = (clnM.access (Rect.unit (s := S512) ![16 * t] S16.size hob)).emb y := by
      funext a
      rw [Subsingleton.elim a 0]
      refine Fin.ext ?_
      show (x 0).val = 16 * t + 1 * ((x 0).val - 16 * t)
      omega
    have hw : (clnM.access (Rect.unit (s := S512) ![16 * t] S16.size hob)).write (Elt F) f (k1_pay69 (F := F) (idsC L ids t)) Finset.univ
        ((clnM.access (Rect.unit (s := S512) ![16 * t] S16.size hob)).emb y) = k1_pay69 (F := F) (idsC L ids t) y :=
      View.write_emb_of_mem (Val := Elt F) (v := clnM.access (Rect.unit (s := S512) ![16 * t] S16.size hob)) f _ (Finset.mem_univ y)
    rw [← hy] at hw
    refine hw.trans ?_
    rw [pay69_at (idsC L ids t) y (by unfold idsC tok; exact hid _)]
    unfold idsC clnV
    congr 2
    show base L + 16 * t + ((x 0).val - 16 * t) = base L + (x 0).val
    omega
  · have hn : x ∉ (clnM.access (Rect.unit (s := S512) ![16 * t] S16.size hob)).setOn Finset.univ := by
      intro hi
      obtain ⟨z, -, hz⟩ := Finset.mem_map.mp hi
      have e : 16 * t + 1 * (z 0).val = (x 0).val := congrArg (fun x : S512.Idx => (x 0).val) hz
      omega
    refine (View.write_of_not_mem (Val := Elt F) (v := clnM.access (Rect.unit (s := S512) ![16 * t] S16.size hob)) f _ Finset.univ hn).trans ?_
    exact hf x (by omega)

end Fetch

end Cert.Proof.Tile

end
-- ==== Proof.Tile.lean ====
/-
  One tile's whole program: the ids fetched, the list made, the first two chunks' gathers issued, the pipeline's loop,
  and the last four chunks waited for.
-/
module

public import proofs.«01_k».proof.Proof.Body
public import proofs.«01_k».proof.Proof.Fetch

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section Run

variable [FloatOps F] {defs : Defs nD τ sig (Elt F) Λ₀} (d : Dev nD) (L : grid1.Coords) (ids : Ids) (tab : Tab F) (enc : Enc F)
variable (O : CellTallies nD τ sig (HIx 1)) (W : Waits sig (HIx 1)) (qi qt qe : PosShare TreeShare)

/-- The four buffers' shares of the table and of the list. -/
def qT (qt : PosShare TreeShare) (i : Fin 4) : PosShare TreeShare := pieceOf qt 4 (by decide) i
def qL (i : Fin 4) : PosShare TreeShare := pieceOf fullShare 4 (by decide) i

abbrev s0 (qt : PosShare TreeShare) : Slot := slot0 (qT qt) qL
abbrev s1 (qt : PosShare TreeShare) : Slot := slot1 (qT qt) qL
abbrev s2 (qt : PosShare TreeShare) : Slot := slot2 (qT qt) qL
abbrev s3 (qt : PosShare TreeShare) : Slot := slot3 (qT qt) qL

/-- A row buffer, whatever it holds. -/
def hb (B : Buf16) : sProp 𝕄 := iprop(∃ v : S16x1024.Idx → F .f32, holds d L B fullShare v)
/-- The tile's share of the table; the list, whatever it holds; and the list made. -/
def tabAll : sProp 𝕄 := (tabM.view.loc (V d (cV L) (jV L)) ↦[Finset.univ]{qt} tab : sProp 𝕄)
def lstAny : sProp 𝕄 := iprop(∃ f : Buf (Elt F) (clnM.view.loc (V d (cV L) (jV L))), clnM.view.loc (V d (cV L) (jV L)) ↦[Finset.univ]{fullShare} f)
def idvAny : sProp 𝕄 := iprop(∃ f : Buf (Elt F) (idvM.view.loc (V d (cV L) (jV L))), idvM.view.loc (V d (cV L) (jV L)) ↦[Finset.univ]{fullShare} f)
/-- The gathers' semaphores, and the scatters', at rest. -/
def svG : sProp 𝕄 := iprop(sv (F := F) d L (s0 qt).sg ∗ sv (F := F) d L (s1 qt).sg ∗ sv (F := F) d L (s2 qt).sg ∗ sv (F := F) d L (s3 qt).sg)
def svS : sProp 𝕄 := iprop(sv (F := F) d L (s0 qt).ss ∗ sv (F := F) d L (s1 qt).ss ∗ sv (F := F) d L (s2 qt).ss ∗ sv (F := F) d L (s3 qt).ss)

/-- Before and after the tile's program, `a` of its chunks done. -/
def TS (a : ℕ) : sProp 𝕄 :=
  iprop(idsAll (F := F) d L ids qi ∗ tabAll d L tab qt ∗ encTok d L enc qe ∗ Pool d L ids tab enc a a
    ∗ idvAny (F := F) d L ∗ lstAny (F := F) d L
    ∗ (hb (F := F) d L (s0 qt).B ∗ hb (F := F) d L (s1 qt).B ∗ hb (F := F) d L (s2 qt).B ∗ hb (F := F) d L (s3 qt).B)
    ∗ svG (F := F) d L qt ∗ svS (F := F) d L qt ∗ sv (F := F) d L cc1_scoped0.sem ∗ fixS (F := F) d L ∗ OW d L O W)

theorem four (Φ : Fin 4 → sProp 𝕄) : bigSep Finset.univ Φ = iprop(Φ 0 ∗ Φ 1 ∗ Φ 2 ∗ Φ 3) := by
  have e : (Finset.univ : Finset (Fin 4)) = {0, 1, 2, 3} := by decide
  rw [e, bigSep_insert (by decide), bigSep_insert (by decide), bigSep_insert (by decide), bigSep_singleton]
  rfl

theorem tab_four : tabAll d L tab qt = iprop((tabM.view.loc (V d (cV L) (jV L)) ↦[Finset.univ]{qT qt 0} tab) ∗ (tabM.view.loc (V d (cV L) (jV L)) ↦[Finset.univ]{qT qt 1} tab)
    ∗ (tabM.view.loc (V d (cV L) (jV L)) ↦[Finset.univ]{qT qt 2} tab) ∗ tabM.view.loc (V d (cV L) (jV L)) ↦[Finset.univ]{qT qt 3} tab) :=
  (pointsTo_piecesOf (Ix := HIx 1) (Val := Elt F) (Name := ℕ) (U := UU) (Lvl := ℕ) (ℓ := tabM.view.loc (V d (cV L) (jV L))) Finset.univ tab (o := 4) (by decide) qt).trans (four _)
theorem lst_four : (clnM.view.loc (V d (cV L) (jV L)) ↦[Finset.univ]{fullShare} clnV ids L : sProp 𝕄) = iprop((clnM.view.loc (V d (cV L) (jV L)) ↦[Finset.univ]{qL 0} clnV ids L) ∗ (clnM.view.loc (V d (cV L) (jV L)) ↦[Finset.univ]{qL 1} clnV ids L)
    ∗ (clnM.view.loc (V d (cV L) (jV L)) ↦[Finset.univ]{qL 2} clnV ids L) ∗ clnM.view.loc (V d (cV L) (jV L)) ↦[Finset.univ]{qL 3} clnV ids L) :=
  (pointsTo_piecesOf (Ix := HIx 1) (Val := Elt F) (Name := ℕ) (U := UU) (Lvl := ℕ) (ℓ := clnM.view.loc (V d (cV L) (jV L))) Finset.univ (clnV ids L) (o := 4) (by decide) fullShare).trans (four _)

/-- The table's share and the list, dealt to the four buffers; -/
theorem toks_split :
    iprop(tabAll d L tab qt ∗ clnM.view.loc (V d (cV L) (jV L)) ↦[Finset.univ]{fullShare} clnV ids L)
      ⊢ (iprop(tk d L ids tab (s0 qt) ∗ tk d L ids tab (s1 qt) ∗ tk d L ids tab (s2 qt) ∗ tk d L ids tab (s3 qt)) : sProp 𝕄) := by
  rw [tab_four, lst_four]
  unfold tk gTok
  iintro ⟨⟨H0, H1, H2, H3⟩, G0, G1, G2, G3⟩
  isplitl [H0 G0]; · iframe H0 G0
  isplitl [H1 G1]; · iframe H1 G1
  isplitl [H2 G2]; · iframe H2 G2
  iframe H3 G3
/-- and gathered in again. -/
theorem toks_join :
    (iprop(tk d L ids tab (s0 qt) ∗ tk d L ids tab (s1 qt) ∗ tk d L ids tab (s2 qt) ∗ tk d L ids tab (s3 qt)) : sProp 𝕄)
      ⊢ iprop(tabAll d L tab qt ∗ lstAny (F := F) d L) := by
  rw [tab_four]
  unfold lstAny
  unfold tk gTok
  iintro ⟨⟨H0, G0⟩, ⟨H1, G1⟩, ⟨H2, G2⟩, H3, G3⟩
  isplitl [H0 H1 H2 H3]
  · isplitl [H0]; · iexact H0
    isplitl [H1]; · iexact H1
    isplitl [H2]; · iexact H2
    iexact H3
  iexists (clnV ids L)
  iapply (Entails.of_eq (lst_four d L ids).symm)
  isplitl [G0]; · iexact G0
  isplitl [G1]; · iexact G1
  isplitl [G2]; · iexact G2
  iexact G3

/-! ## What each stretch leaves alone -/

def R1 : sProp 𝕄 :=
  iprop(tabAll d L tab qt ∗ encTok d L enc qe ∗ Pool d L ids tab enc 0 0 ∗ lstAny (F := F) d L
    ∗ (hb (F := F) d L (s0 qt).B ∗ hb (F := F) d L (s1 qt).B ∗ hb (F := F) d L (s2 qt).B ∗ hb (F := F) d L (s3 qt).B)
    ∗ svG (F := F) d L qt ∗ svS (F := F) d L qt ∗ fixS (F := F) d L)

theorem to_fetch :
    TS d L ids tab enc O W qi qt qe 0
      ⊢ iprop((R1 d L ids tab enc qt qe ∗ OW d L O W) ∗ (idsAll (F := F) d L ids qi ∗ (∃ f : Buf (Elt F) (idvM.view.loc (V d (cV L) (jV L))), idvM.view.loc (V d (cV L) (jV L)) ↦[Finset.univ]{fullShare} f)
        ∗ semVal (V d (cV L) (jV L), .dma cc1_scoped0.sem) 0)) := by
  unfold TS R1 sv idvAny
  iintro ⟨H1, H2, H3, H4, H5, H6, H7, H8, H9, H10, H11, H12⟩
  iframe H1 H2 H3 H4 H5 H6 H7 H8 H9 H10 H11 H12

theorem to_fwait :
    iprop((R1 d L ids tab enc qt qe ∗ OW d L O W) ∗ IFly (F := F) d L ids qi cc1_scoped0.sem)
      ⊢ iprop(R1 d L ids tab enc qt qe ∗ (IFly (F := F) d L ids qi cc1_scoped0.sem ∗ OW d L O W)) := by
  iintro ⟨⟨H1, H2⟩, H3⟩
  iframe H1 H2 H3

/-- The ids whole again, their semaphore at rest: what only the end asks for. -/
def Z0 : sProp 𝕄 := iprop(idsAll (F := F) d L ids qi ∗ sv (F := F) d L cc1_scoped0.sem)
def R2 : sProp 𝕄 :=
  iprop(Z0 (F := F) d L ids qi ∗ tabAll d L tab qt ∗ encTok d L enc qe ∗ Pool d L ids tab enc 0 0
    ∗ (hb (F := F) d L (s0 qt).B ∗ hb (F := F) d L (s1 qt).B ∗ hb (F := F) d L (s2 qt).B ∗ hb (F := F) d L (s3 qt).B)
    ∗ svG (F := F) d L qt ∗ svS (F := F) d L qt ∗ fixS (F := F) d L ∗ OW d L O W)

theorem to_list :
    iprop(R1 d L ids tab enc qt qe ∗ (idsAll (F := F) d L ids qi ∗ idsTok (F := F) d L ids ∗ semVal (V d (cV L) (jV L), .dma cc1_scoped0.sem) 0 ∗ OW d L O W))
      ⊢ iprop(R2 d L ids tab enc O W qi qt qe ∗ Lst (F := F) d L ids (16 * 0)) := by
  unfold R1 R2 Z0 Lst lstAny sv
  iintro ⟨⟨H1, H2, H3, ⟨%f, H4⟩, H5, H6, H7, H8⟩, H9, H10, H11, H12⟩
  iframe H1 H2 H3 H5 H6 H7 H8 H9 H10 H11 H12
  iexists f
  isplitr
  · ipureintro; intro x hx; omega
  iexact H4

/-- The list made: `step_lst` 32 times. -/
theorem step_build {α : Type} {Q : α → sProp 𝕄} (hid : ∀ x, (ids x).toNat < 32100)
    (body : Fin k1_t1_loop.trips → Unit → Prog (TpuEff nD τ sig (Elt F) Λ₀ (V d (cV L) (jV L)).2) Unit)
    (hb : ∀ t, Lst (F := F) d L ids (16 * t.val) ⊢ wp frame (wpE defs 𝒱₀ (V d (cV L) (jV L)) none) Set.univ (body t ⟨⟩) fun _ => Lst (F := F) d L ids (16 * (t.val + 1)))
    {k : Unit → Prog (TpuEff nD τ sig (Elt F) Λ₀ (V d (cV L) (jV L)).2) α} :
    Lst (F := F) d L ids (16 * 0)
      ⊢ iprop((Lst (F := F) d L ids 512 -∗ wp frame (wpE defs 𝒱₀ (V d (cV L) (jV L)) none) Set.univ (k ⟨⟩) Q)
        -∗ wp frame (wpE defs 𝒱₀ (V d (cV L) (jV L)) none) Set.univ (Scf.Loop.for k1_t1_loop k1_t1_ok ⟨⟩ body >>= k) Q) := by
  iintro H Hk
  iapply (Scf.wp_for_bind frame (wpE defs 𝒱₀ (V d (cV L) (jV L)) none) Set.univ _ _ _ k1_t1_ok ⟨⟩ body (fun n _ => Lst (F := F) d L ids (16 * n)) (fun t _ => hb t)) $$ H
  iintro %_ H
  iapply Hk
  iexact H

/-- The pipeline's eight trips. -/
theorem step_pipe {α : Type} {Q : α → sProp 𝕄}
    (body : Fin k1_t2_loop.trips → Unit → Prog (TpuEff nD τ sig (Elt F) Λ₀ (V d (cV L) (jV L)).2) Unit)
    (hb : ∀ t, Ph d L ids tab enc O W qe (s0 qt) (s1 qt) (s2 qt) (s3 qt) (4 * t.val)
      ⊢ wp frame (wpE defs 𝒱₀ (V d (cV L) (jV L)) none) Set.univ (body t ⟨⟩) fun _ => Ph d L ids tab enc O W qe (s0 qt) (s1 qt) (s2 qt) (s3 qt) (4 * (t.val + 1)))
    {k : Unit → Prog (TpuEff nD τ sig (Elt F) Λ₀ (V d (cV L) (jV L)).2) α} :
    Ph d L ids tab enc O W qe (s0 qt) (s1 qt) (s2 qt) (s3 qt) (4 * 0)
      ⊢ iprop((Ph d L ids tab enc O W qe (s0 qt) (s1 qt) (s2 qt) (s3 qt) 32 -∗ wp frame (wpE defs 𝒱₀ (V d (cV L) (jV L)) none) Set.univ (k ⟨⟩) Q)
        -∗ wp frame (wpE defs 𝒱₀ (V d (cV L) (jV L)) none) Set.univ (Scf.Loop.for k1_t2_loop k1_t2_ok ⟨⟩ body >>= k) Q) := by
  iintro H Hk
  iapply (Scf.wp_for_bind frame (wpE defs 𝒱₀ (V d (cV L) (jV L)) none) Set.univ _ _ _ k1_t2_ok ⟨⟩ body
    (fun n _ => Ph d L ids tab enc O W qe (s0 qt) (s1 qt) (s2 qt) (s3 qt) (4 * n)) (fun t _ => hb t)) $$ H
  iintro %_ H
  iapply Hk
  iexact H

def R3 : sProp 𝕄 :=
  iprop(Z0 (F := F) d L ids qi ∗ encTok d L enc qe ∗ Pool d L ids tab enc 0 0 ∗ idsTok (F := F) d L ids
    ∗ (hb (F := F) d L (s1 qt).B ∗ hb (F := F) d L (s2 qt).B ∗ hb (F := F) d L (s3 qt).B)
    ∗ (sv (F := F) d L (s1 qt).sg ∗ sv (F := F) d L (s2 qt).sg ∗ sv (F := F) d L (s3 qt).sg) ∗ svS (F := F) d L qt
    ∗ (tk d L ids tab (s1 qt) ∗ tk d L ids tab (s2 qt) ∗ tk d L ids tab (s3 qt)) ∗ fixS (F := F) d L ∗ OW d L O W)

theorem to_first :
    iprop(R2 d L ids tab enc O W qi qt qe ∗ Lst (F := F) d L ids 512)
      ⊢ iprop(R3 d L ids tab enc O W qi qt qe ∗ (∃ v : S16x1024.Idx → F .f32, holds d L (s0 qt).B fullShare v)
        ∗ semVal (V d (cV L) (jV L), .dma (s0 qt).sg) 0 ∗ gTok d L ids tab (s0 qt).q (s0 qt).qo) := by
  have hs := toks_split d L ids tab qt
  unfold tk at hs
  unfold R2 R3 Lst svG hb sv tk
  iintro ⟨⟨H1, H2, H3, H4, ⟨H5, H6⟩, ⟨H7, H8⟩, H9, H10, H11⟩, H12, %f, %hf, H13⟩
  obtain rfl : f = clnV ids L := funext fun x => hf x (x 0).isLt
  ihave H := hs $$ [H2 H13]
  · iframe H2 H13
  icases H with ⟨H13, H14⟩
  iframe H1 H3 H4 H5 H6 H7 H8 H9 H10 H11 H12 H13 H14

def R4 : sProp 𝕄 :=
  iprop(Z0 (F := F) d L ids qi ∗ encTok d L enc qe ∗ Pool d L ids tab enc 0 0 ∗ idsTok (F := F) d L ids
    ∗ (hb (F := F) d L (s2 qt).B ∗ hb (F := F) d L (s3 qt).B)
    ∗ (sv (F := F) d L (s2 qt).sg ∗ sv (F := F) d L (s3 qt).sg) ∗ svS (F := F) d L qt
    ∗ (tk d L ids tab (s2 qt) ∗ tk d L ids tab (s3 qt)) ∗ fixS (F := F) d L ∗ OW d L O W
    ∗ gIss d L ids tab (s0 qt).B (s0 qt).sg (s0 qt).q (s0 qt).qo 0 (by decide) 8)

theorem to_second :
    iprop(R3 d L ids tab enc O W qi qt qe ∗ gIss d L ids tab (s0 qt).B (s0 qt).sg (s0 qt).q (s0 qt).qo 0 (by decide) 8)
      ⊢ iprop(R4 d L ids tab enc O W qi qt qe ∗ (∃ v : S16x1024.Idx → F .f32, holds d L (s1 qt).B fullShare v)
        ∗ semVal (V d (cV L) (jV L), .dma (s1 qt).sg) 0 ∗ gTok d L ids tab (s1 qt).q (s1 qt).qo) := by
  unfold R3 R4 hb sv tk
  iintro ⟨⟨H1, H2, H3, H4, ⟨H5, H6⟩, ⟨H7, H8⟩, H9, ⟨H10, H11⟩, H12, H13⟩, H14⟩
  iframe H1 H2 H3 H4 H5 H6 H7 H8 H9 H10 H11 H12 H13 H14

theorem to_pipe :
    iprop(R4 d L ids tab enc O W qi qt qe ∗ gIss d L ids tab (s1 qt).B (s1 qt).sg (s1 qt).q (s1 qt).qo 1 (by decide) 8)
      ⊢ iprop(Z0 (F := F) d L ids qi ∗ Ph d L ids tab enc O W qe (s0 qt) (s1 qt) (s2 qt) (s3 qt) (4 * 0)) := by
  have h0 := gFly_of_gIss d L ids tab (s0 qt).B (s0 qt).sg (s0 qt).q (s0 qt).qo 0 (by decide)
  have h1 := gFly_of_gIss d L ids tab (s1 qt).B (s1 qt).sg (s1 qt).q (s1 qt).qo 1 (by decide)
  unfold R4 Ph
  rw [show sA d L ids tab enc (s0 qt) (4 * 0) = _ from slotA_pos d L ids tab enc (s0 qt).B (s0 qt).sg (s0 qt).ss (s0 qt).q (s0 qt).qo 0 (by decide),
    show sA d L ids tab enc (s1 qt) (4 * 0 + 1) = _ from slotA_pos d L ids tab enc (s1 qt).B (s1 qt).sg (s1 qt).ss (s1 qt).q (s1 qt).qo 1 (by decide),
    show sB d L ids tab enc (s2 qt) (4 * 0 + 2) = _ from slotB_idle d L ids tab enc (s2 qt).B (s2 qt).sg (s2 qt).ss (s2 qt).q (s2 qt).qo 2 (by decide),
    show sB d L ids tab enc (s3 qt) (4 * 0 + 3) = _ from slotB_idle d L ids tab enc (s3 qt).B (s3 qt).sg (s3 qt).ss (s3 qt).q (s3 qt).qo 3 (by decide),
    show pl d L ids tab enc (4 * 0) (4 * 0) = Pool d L ids tab enc 0 0 from rfl]
  unfold svS hb sv tk Idle
  iintro ⟨⟨H1, H2, H3, H4, ⟨H5, H6⟩, ⟨H7, H8⟩, ⟨H9, H10, H11, H12⟩, ⟨H13, H14⟩, H15, H16, H17⟩, H18⟩
  ihave H17 := h0 $$ H17
  ihave H18 := h1 $$ H18
  iframe H1 H2 H3 H4 H5 H6 H7 H8 H9 H10 H11 H12 H13 H14 H15 H16 H17 H18

/-! ## The end -/

/-- What the last waits leave alone throughout. -/
def Z1 : sProp 𝕄 :=
  iprop(Z0 (F := F) d L ids qi ∗ idsTok (F := F) d L ids ∗ encTok d L enc qe ∗ fixS (F := F) d L ∗ svG (F := F) d L qt
    ∗ (tk d L ids tab (s0 qt) ∗ tk d L ids tab (s1 qt) ∗ tk d L ids tab (s2 qt) ∗ tk d L ids tab (s3 qt)))
/-- Slot `s` waited for. -/
def Got (s : Slot) : sProp 𝕄 := iprop(hb (F := F) d L s.B ∗ sv (F := F) d L s.ss)
/-- Slot `s` sending chunk `g`. -/
def Snd (s : Slot) (g : ℕ) (hg : g < 32) : sProp 𝕄 := SFly d L ids tab enc s.B s.ss g hg

def X0 : sProp 𝕄 := iprop(Z1 d L ids tab enc qi qt qe ∗ Pool d L ids tab enc 28 32 ∗ Snd d L ids tab enc (s1 qt) 29 (by decide) ∗ Snd d L ids tab enc (s2 qt) 30 (by decide) ∗ Snd d L ids tab enc (s3 qt) 31 (by decide))
def X1 : sProp 𝕄 := iprop(Z1 d L ids tab enc qi qt qe ∗ Pool d L ids tab enc 29 32 ∗ Got (F := F) d L (s0 qt) ∗ Snd d L ids tab enc (s2 qt) 30 (by decide) ∗ Snd d L ids tab enc (s3 qt) 31 (by decide))
def X2 : sProp 𝕄 := iprop(Z1 d L ids tab enc qi qt qe ∗ Pool d L ids tab enc 30 32 ∗ Got (F := F) d L (s0 qt) ∗ Got (F := F) d L (s1 qt) ∗ Snd d L ids tab enc (s3 qt) 31 (by decide))
def X3 : sProp 𝕄 := iprop(Z1 d L ids tab enc qi qt qe ∗ Pool d L ids tab enc 31 32 ∗ Got (F := F) d L (s0 qt) ∗ Got (F := F) d L (s1 qt) ∗ Got (F := F) d L (s2 qt))
/-- What a wait for a scatter brings. -/
def Bk (s : Slot) (g : ℕ) (hg : g < 32) : sProp 𝕄 :=
  iprop(outDone d L ids tab enc g hg ∗ (∃ v : S16x1024.Idx → F .f32, holds d L s.B fullShare v) ∗ semVal (V d (cV L) (jV L), .dma s.ss) 0 ∗ OW d L O W)

theorem to_end :
    iprop(Z0 (F := F) d L ids qi ∗ Ph d L ids tab enc O W qe (s0 qt) (s1 qt) (s2 qt) (s3 qt) 32)
      ⊢ iprop(X0 d L ids tab enc qi qt qe ∗ (SFly d L ids tab enc (s0 qt).B (s0 qt).ss 28 (by decide) ∗ OW d L O W)) := by
  unfold Ph X0 Z1 Snd
  rw [show sA d L ids tab enc (s0 qt) 32 = _ from (slotA_neg d L ids tab enc (s0 qt).B (s0 qt).sg (s0 qt).ss (s0 qt).q (s0 qt).qo 32 (by decide)).trans (slotB_fly d L ids tab enc (s0 qt).B (s0 qt).sg (s0 qt).ss (s0 qt).q (s0 qt).qo 28 (by decide) 32 rfl),
    show sA d L ids tab enc (s1 qt) (32 + 1) = _ from (slotA_neg d L ids tab enc (s1 qt).B (s1 qt).sg (s1 qt).ss (s1 qt).q (s1 qt).qo 33 (by decide)).trans (slotB_fly d L ids tab enc (s1 qt).B (s1 qt).sg (s1 qt).ss (s1 qt).q (s1 qt).qo 29 (by decide) 33 rfl),
    show sB d L ids tab enc (s2 qt) (32 + 2) = _ from slotB_fly d L ids tab enc (s2 qt).B (s2 qt).sg (s2 qt).ss (s2 qt).q (s2 qt).qo 30 (by decide) 34 rfl,
    show sB d L ids tab enc (s3 qt) (32 + 3) = _ from slotB_fly d L ids tab enc (s3 qt).B (s3 qt).sg (s3 qt).ss (s3 qt).q (s3 qt).qo 31 (by decide) 35 rfl,
    show pl d L ids tab enc 32 32 = Pool d L ids tab enc 28 32 from rfl]
  unfold svG sv tk
  iintro ⟨H1, ⟨H2, H3, H4⟩, ⟨H5, H6, H7⟩, ⟨H8, H9, H10⟩, ⟨H11, H12, H13⟩, H14, H15, H16, H17, H18⟩
  iframe H1 H2 H3 H4 H5 H6 H7 H8 H9 H10 H11 H12 H13 H14 H15 H16 H17 H18

theorem to_x1 :
    iprop(X0 d L ids tab enc qi qt qe ∗ Bk d L ids tab enc O W (s0 qt) 28 (by decide))
      ⊢ iprop(X1 d L ids tab enc qi qt qe ∗ (SFly d L ids tab enc (s1 qt).B (s1 qt).ss 29 (by decide) ∗ OW d L O W)) := by
  have hp := Pool_put d L ids tab enc 28 32 (by decide) (by decide)
  unfold X0 X1 Bk Snd Got hb sv
  iintro ⟨⟨H1, H2, H3, H4, H5⟩, H6, H7, H8, H9⟩
  ihave H2 := hp $$ [H6 H2]
  · iframe H6 H2
  iframe H1 H2 H3 H4 H5 H7 H8 H9
theorem to_x2 :
    iprop(X1 d L ids tab enc qi qt qe ∗ Bk d L ids tab enc O W (s1 qt) 29 (by decide))
      ⊢ iprop(X2 d L ids tab enc qi qt qe ∗ (SFly d L ids tab enc (s2 qt).B (s2 qt).ss 30 (by decide) ∗ OW d L O W)) := by
  have hp := Pool_put d L ids tab enc 29 32 (by decide) (by decide)
  unfold X1 X2 Bk Snd Got hb sv
  iintro ⟨⟨H1, H2, H3, H4, H5⟩, H6, H7, H8, H9⟩
  ihave H2 := hp $$ [H6 H2]
  · iframe H6 H2
  iframe H1 H2 H3 H4 H5 H7 H8 H9
theorem to_x3 :
    iprop(X2 d L ids tab enc qi qt qe ∗ Bk d L ids tab enc O W (s2 qt) 30 (by decide))
      ⊢ iprop(X3 d L ids tab enc qi qt qe ∗ (SFly d L ids tab enc (s3 qt).B (s3 qt).ss 31 (by decide) ∗ OW d L O W)) := by
  have hp := Pool_put d L ids tab enc 30 32 (by decide) (by decide)
  unfold X2 X3 Bk Snd Got hb sv
  iintro ⟨⟨H1, H2, H3, H4, H5⟩, H6, H7, H8, H9⟩
  ihave H2 := hp $$ [H6 H2]
  · iframe H6 H2
  iframe H1 H2 H3 H4 H5 H7 H8 H9
theorem to_done :
    iprop(X3 d L ids tab enc qi qt qe ∗ Bk d L ids tab enc O W (s3 qt) 31 (by decide))
      ⊢ TS d L ids tab enc O W qi qt qe 32 := by
  have hp := Pool_put d L ids tab enc 31 32 (by decide) (by decide)
  have hj := toks_join d L ids tab qt
  unfold X3 Bk Got TS Z1 Z0 idvAny svS
  unfold idsTok
  iintro ⟨⟨⟨⟨H1, H2⟩, H3, H4, H5, H6, H7⟩, H8, ⟨H9, H10⟩, ⟨H11, H12⟩, H13, H14⟩, H15, H16, H17, H18⟩
  ihave H8 := hp $$ [H15 H8]
  · iframe H15 H8
  ihave H7 := hj $$ H7
  icases H7 with ⟨H7, H19⟩
  isplitl [H1]; · iexact H1
  isplitl [H7]; · iexact H7
  isplitl [H4]; · iexact H4
  isplitl [H8]; · iexact H8
  isplitl [H3]; · iexists _; iexact H3
  isplitl [H19]; · iexact H19
  isplitl [H9 H11 H13 H16]
  · iframe H9 H11 H13
    unfold hb; iexact H16
  isplitl [H6]; · iexact H6
  isplitl [H10 H12 H14 H17]
  · iframe H10 H12 H14
    unfold sv; iexact H17
  isplitl [H2]; · iexact H2
  isplitl [H5]; · iexact H5
  iexact H18

theorem t1_step (hid : ∀ x, (ids x).toNat < 32100) (t : Fin k1_t1_loop.trips) :
    Lst (F := F) d L ids (16 * t.val)
      ⊢ wp frame (wpE defs 𝒱₀ (V d (cV L) (jV L)) none) Set.univ
        (k1_t1_body L idsM (Memref.isWhole_whole _) tabM (Memref.isWhole_whole _) encM (Memref.isWhole_whole _) outM (Memref.isWhole_whole _) idvM (Memref.isWhole_whole _) clnM (Memref.isWhole_whole _)
        (Memref.whole cc1_scratch2) (Memref.isWhole_whole _) (Memref.whole cc1_scratch3) (Memref.isWhole_whole _) (Memref.whole cc1_scratch4) (Memref.isWhole_whole _) (Memref.whole cc1_scratch5) (Memref.isWhole_whole _)
        cc1_scratch6 cc1_scratch7 cc1_scratch8 cc1_scratch9 cc1_scratch10 cc1_scratch11 cc1_scratch12 cc1_scratch13
        cc1_scoped0 cc1_scoped1 cc1_scoped2 cc1_scoped3 cc1_scoped4 cc1_scoped5 cc1_scoped6 cc1_scoped7 cc1_scoped8 cc1_scoped9 cc1_scoped10 cc1_scoped11 cc1_scoped12
        cc1_scoped13 cc1_scoped14 cc1_scoped15 cc1_scoped16 cc1_scoped17 cc1_scoped18 cc1_scoped19 cc1_scoped20 cc1_scoped21 cc1_scoped22 cc1_scoped23 cc1_scoped24 cc1_scoped25
        cc1_scoped26 cc1_scoped27 cc1_scoped28 cc1_scoped29 cc1_scoped30 cc1_scoped31 cc1_scoped32 cc1_scoped33 cc1_scoped34 cc1_scoped35 cc1_scoped36 cc1_scoped37 cc1_scoped38
        cc1_scoped39 cc1_scoped40 cc1_scoped41 cc1_scoped42 cc1_scoped43 cc1_scoped44 cc1_scoped45 cc1_scoped46 cc1_scoped47 cc1_scoped48 cc1_scoped49 cc1_scoped50 cc1_scoped51
        cc1_scoped52 cc1_scoped53 cc1_scoped54 cc1_scoped55 cc1_scoped56 cc1_scoped57 cc1_scoped58 cc1_scoped59 cc1_scoped60 cc1_scoped61 cc1_scoped62 cc1_scoped63 cc1_scoped64 t ⟨⟩)
        fun _ => Lst (F := F) d L ids (16 * (t.val + 1)) := by
  unfold k1_t1_body
  iintro H
  iapply (step_lst (defs := defs) d L ids hid t.val _ (k1_off2_eq t) _) $$ H
  iintro H
  iapply (step_pure (defs := defs) d L) $$ H

set_option maxHeartbeats 1000000 in
/-- The whole of a tile's program. -/
theorem tile_run (hid : ∀ x, (ids x).toNat < 32100) :
    TS d L ids tab enc O W qi qt qe 0
      ⊢ wp frame (wpE defs 𝒱₀ (V d (cV L) (jV L)) none) Set.univ
        (cc1_sc_fn L idsM (Memref.isWhole_whole _) tabM (Memref.isWhole_whole _) encM (Memref.isWhole_whole _) outM (Memref.isWhole_whole _) idvM (Memref.isWhole_whole _) clnM (Memref.isWhole_whole _)
        (Memref.whole cc1_scratch2) (Memref.isWhole_whole _) (Memref.whole cc1_scratch3) (Memref.isWhole_whole _) (Memref.whole cc1_scratch4) (Memref.isWhole_whole _) (Memref.whole cc1_scratch5) (Memref.isWhole_whole _)
        cc1_scratch6 cc1_scratch7 cc1_scratch8 cc1_scratch9 cc1_scratch10 cc1_scratch11 cc1_scratch12 cc1_scratch13
        cc1_scoped0 cc1_scoped1 cc1_scoped2 cc1_scoped3 cc1_scoped4 cc1_scoped5 cc1_scoped6 cc1_scoped7 cc1_scoped8 cc1_scoped9 cc1_scoped10 cc1_scoped11 cc1_scoped12
        cc1_scoped13 cc1_scoped14 cc1_scoped15 cc1_scoped16 cc1_scoped17 cc1_scoped18 cc1_scoped19 cc1_scoped20 cc1_scoped21 cc1_scoped22 cc1_scoped23 cc1_scoped24 cc1_scoped25
        cc1_scoped26 cc1_scoped27 cc1_scoped28 cc1_scoped29 cc1_scoped30 cc1_scoped31 cc1_scoped32 cc1_scoped33 cc1_scoped34 cc1_scoped35 cc1_scoped36 cc1_scoped37 cc1_scoped38
        cc1_scoped39 cc1_scoped40 cc1_scoped41 cc1_scoped42 cc1_scoped43 cc1_scoped44 cc1_scoped45 cc1_scoped46 cc1_scoped47 cc1_scoped48 cc1_scoped49 cc1_scoped50 cc1_scoped51
        cc1_scoped52 cc1_scoped53 cc1_scoped54 cc1_scoped55 cc1_scoped56 cc1_scoped57 cc1_scoped58 cc1_scoped59 cc1_scoped60 cc1_scoped61 cc1_scoped62 cc1_scoped63 cc1_scoped64)
        fun _ => TS d L ids tab enc O W qi qt qe 32 := by
  unfold cc1_sc_fn
  with_reducible_and_instances refine mono (to_fetch d L ids tab enc O W qi qt qe) ?_
  with_reducible_and_instances refine inBind d L ?_
  rw [k1_part22_eq_skeleton]; unfold k1_part22_skel
  refine seq (step_fetch d L ids qi _) ?_
  with_reducible_and_instances refine atPure d L ?_
  dsimp only
  with_reducible_and_instances refine mono (to_fwait d L ids tab enc O W qi qt qe) ?_
  with_reducible_and_instances refine inBind d L ?_
  rw [k1_part23_eq_skeleton]; unfold k1_part23_skel
  refine seq (step_fwait d L ids O W qi _) ?_
  with_reducible_and_instances refine mono (to_list d L ids tab enc O W qi qt qe) ?_
  refine seq (step_build d L ids hid _ (t1_step d L ids hid)) ?_
  with_reducible_and_instances refine mono (to_first d L ids tab enc O W qi qt qe) ?_
  refine start d L ids tab _ _ _ _ 0 (by decide) ?_
  refine seq (step_issue d L ids tab _ _ _ _ 0 _ 0 (by decide) _ rfl _) ?_
  refine seq (step_issue d L ids tab _ _ _ _ 0 _ 1 (by decide) _ rfl _) ?_
  refine seq (step_issue d L ids tab _ _ _ _ 0 _ 2 (by decide) _ rfl _) ?_
  refine seq (step_issue d L ids tab _ _ _ _ 0 _ 3 (by decide) _ rfl _) ?_
  refine seq (step_issue d L ids tab _ _ _ _ 0 _ 4 (by decide) _ rfl _) ?_
  with_reducible_and_instances refine atPure d L ?_
  dsimp only
  with_reducible_and_instances refine inBind d L ?_
  rw [k1_part24_eq_skeleton]; unfold k1_part24_skel
  refine seq (step_issue d L ids tab _ _ _ _ 0 _ 5 (by decide) _ rfl _) ?_
  refine seq (step_issue d L ids tab _ _ _ _ 0 _ 6 (by decide) _ rfl _) ?_
  refine seq (step_issue d L ids tab _ _ _ _ 0 _ 7 (by decide) _ rfl _) ?_
  with_reducible_and_instances refine mono (to_second d L ids tab enc O W qi qt qe) ?_
  refine start d L ids tab _ _ _ _ 1 (by decide) ?_
  refine seq (step_issue d L ids tab _ _ _ _ 1 _ 0 (by decide) _ rfl _) ?_
  refine seq (step_issue d L ids tab _ _ _ _ 1 _ 1 (by decide) _ rfl _) ?_
  refine seq (step_issue d L ids tab _ _ _ _ 1 _ 2 (by decide) _ rfl _) ?_
  refine seq (step_issue d L ids tab _ _ _ _ 1 _ 3 (by decide) _ rfl _) ?_
  with_reducible_and_instances refine atPure d L ?_
  dsimp only
  with_reducible_and_instances refine inBind d L ?_
  rw [k1_part25_eq_skeleton]; unfold k1_part25_skel
  refine seq (step_issue d L ids tab _ _ _ _ 1 _ 4 (by decide) _ rfl _) ?_
  refine seq (step_issue d L ids tab _ _ _ _ 1 _ 5 (by decide) _ rfl _) ?_
  refine seq (step_issue d L ids tab _ _ _ _ 1 _ 6 (by decide) _ rfl _) ?_
  refine seq (step_issue d L ids tab _ _ _ _ 1 _ 7 (by decide) _ rfl _) ?_
  with_reducible_and_instances refine mono (to_pipe d L ids tab enc O W qi qt qe) ?_
  refine seq (step_pipe d L ids tab enc O W qt qe _ (t2_step d L ids tab enc O W qe (qT qt) qL hid _ _)) ?_
  with_reducible_and_instances refine mono (to_end d L ids tab enc O W qi qt qe) ?_
  refine seq (step_swait d L ids tab enc O W _ _ 28 (by decide) _ _) ?_
  with_reducible_and_instances refine mono (to_x1 d L ids tab enc O W qi qt qe) ?_
  refine seq (step_swait d L ids tab enc O W _ _ 29 (by decide) _ _) ?_
  with_reducible_and_instances refine mono (to_x2 d L ids tab enc O W qi qt qe) ?_
  refine seq (step_swait d L ids tab enc O W _ _ 30 (by decide) _ _) ?_
  with_reducible_and_instances refine atPure d L ?_
  dsimp only
  with_reducible_and_instances refine mono (to_x3 d L ids tab enc O W qi qt qe) ?_
  refine seq (step_swait d L ids tab enc O W _ _ 31 (by decide) _ _) ?_
  with_reducible_and_instances refine atPure d L ?_
  exact to_done d L ids tab enc O W qi qt qe

end Run

end Cert.Proof.Tile

end
-- ==== Proof.Launch.lean ====
/-
  The program's launch: its SparseCore configuration, the facts decided of it, and where the handshakes' state and the
  TensorCore pipeline's live.
-/
module

public import proofs.«01_k».proof.Proof.Base
public import Idealize.SL.Sem.ProofMode

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-- Assertions that give each other are the same. -/
theorem eq_of_both {A B : sProp 𝕄} (h : A ⊢ B) (h' : B ⊢ A) : A = B := BI.Entails.antisymm h h'

/-! ## The launch -/

abbrev ΛP : Labels := Pipeline.Sig Λ₀ (Fin 1) fun p => (pcfgs (F := F) p).Adm
abbrev K : SparseCore.Cfg τ sig (ΛP (F := F)) 1 := sc (F := F)
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-- The pipeline's state. -/
abbrev EP : Emb UP (MT nD τ sig (HIx 1) (Elt F) ℕ UU ℕ) := (Emb.inl : Emb UP (UP × Counters)).trans embR

theorem nSub_zero : (K (F := F)).nSub 0 = 16 := rfl

variable [FloatOps F]

abbrev D : Defs nD τ sig (Elt F) (ΛP (F := F)) := Pipeline.defs pcfgs defs₀

instance EP_landsIn : (EP : Emb UP 𝕄).LandsIn (upEmb : UEmb _ 𝕄) := by unfold EP; infer_instance

end Cert.Proof.Tile

end
-- ==== Proof.Task.lean ====
/-
  The tile's program as a task of the launch: what the call hands each tile and takes back, the tile's own buffers and
  semaphores, and the task's obligation.
-/
module

public import proofs.«01_k».proof.Proof.Tile
public import proofs.«01_k».proof.Proof.Launch

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

open Idealize.ShloMosaic.SparseCore.Cfg (ownSems0 ownCells ownBufs ownRefs mem_ownCells)
/-! ## What a tile is handed -/

/-- A tile's coordinates in the call's grid. -/
def coordsV (c : Fin (grid1.bound 0)) (s : Fin (grid1.bound 1)) : grid1.Coords :=
  fun | 0 => c | 1 => s | ⟨_ + 2, h⟩ => absurd h (Nat.not_lt.2 (Nat.le_add_left _ _))

/-- A tile's share of what all of them read. -/
def shr (c : Fin 2) (i : Fin 16) : PosShare TreeShare := pieceOf (pieceOf fullShare 2 (by decide) c) 16 (by decide) i

/-- What a tile has of the arrays, `a` of its chunks of the result done. -/
def Go (d : Dev nD) (ids : Ids) (tab : Tab F) (enc : Enc F) (a : ℕ) (c : Fin 2) (i : Fin 16) : sProp 𝕄 :=
  iprop(idsAll (F := F) d (coordsV c i) ids (shr c i) ∗ tabAll d (coordsV c i) tab (shr c i) ∗ encTok d (coordsV c i) enc (shr c i)
    ∗ Pool d (coordsV c i) ids tab enc a a)

instance storable_Go (d : Dev nD) (ids : Ids) (tab : Tab F) (enc : Enc F) (a : ℕ) (c : Fin 2) (i : Fin 16) :
    BI.Storable (upEmb : UEmb _ 𝕄) (Go d ids tab enc a c i) := by
  have h : ∀ g, BI.Storable (upEmb : UEmb _ 𝕄) (poolAt d (coordsV c i) ids tab enc a a g) := fun g => by
    unfold poolAt outDone outNew
    split
    · infer_instance
    · first | infer_instance | (split <;> infer_instance)
  unfold Go idsAll tabAll encTok Pool
  infer_instance

variable (idsD : Dev nD → Ids) (tabD : Dev nD → Tab F) (encD : Dev nD → Enc F)

/-- The call's start and end, and each tile's. -/
def P : (K (F := F)).Pay (nD := nD) (Val := Elt F) (Name := ℕ) (U := UU) where
  st := fun q d c => match q with | 0 => bigSep Finset.univ fun i : Fin 16 => Go d (idsD d) (tabD d) (encD d) 0 c i
  dn := fun q d c => match q with | 0 => bigSep Finset.univ fun i : Fin 16 => Go d (idsD d) (tabD d) (encD d) 32 c i
  go := fun q d c i => match q with | 0 => Go d (idsD d) (tabD d) (encD d) 0 c i
  td := fun q d c i => match q with | 0 => Go d (idsD d) (tabD d) (encD d) 32 c i
  x := fun _ _ => iprop(emp)

instance P_storable : (P (F := F) idsD tabD encD).IsStorable where
  st q d c := match q with
    | 0 => (inferInstance : BI.Storable (upEmb : UEmb _ 𝕄) (bigSep Finset.univ fun i : Fin 16 => Go d (idsD d) (tabD d) (encD d) 0 c i))
  dn q d c := match q with
    | 0 => (inferInstance : BI.Storable (upEmb : UEmb _ 𝕄) (bigSep Finset.univ fun i : Fin 16 => Go d (idsD d) (tabD d) (encD d) 32 c i))
  go q d c i := match q with
    | 0 => (inferInstance : BI.Storable (upEmb : UEmb _ 𝕄) (Go d (idsD d) (tabD d) (encD d) 0 c i))
  td q d c i := match q with
    | 0 => (inferInstance : BI.Storable (upEmb : UEmb _ 𝕄) (Go d (idsD d) (tabD d) (encD d) 32 c i))

theorem vecSplit : (K (F := F)).VecSplit' (P idsD tabD encD) 0 := by
  intro d c
  show (bigSep Finset.univ fun i : Fin 16 => Go d (idsD d) (tabD d) (encD d) 0 c i) ⊢ |={Set.univ}=> iprop(
    (bigSep Finset.univ fun i : Fin 16 => Go d (idsD d) (tabD d) (encD d) 0 c i)
    ∗ ((bigSep Finset.univ fun i : Fin 16 => Go d (idsD d) (tabD d) (encD d) 32 c i) -∗ bigSep Finset.univ fun i : Fin 16 => Go d (idsD d) (tabD d) (encD d) 32 c i))
  iintro H; imodintro
  isplitl [H]; · iexact H
  iintro H; iexact H

/-! ## A tile's own buffers and semaphores -/

section Own

variable (d : Dev nD) (L : grid1.Coords)

/-- The tile's scratch buffers. -/
def scr : Fin 6 → Ref sig .scVector := fun
  | 0 => cc1_scratch0 | 1 => cc1_scratch1 | 2 => cc1_scratch2 | 3 => cc1_scratch3 | 4 => cc1_scratch4 | 5 => cc1_scratch5

theorem scr_inj : Function.Injective scr := by decide

theorem ownBufs_V :
    (ownBufs (V d (cV L) (jV L)) : sProp 𝕄)
      = iprop((bigSep Finset.univ fun k : Fin 6 => iprop(∃ f, (V d (cV L) (jV L)).loc (scr k) ↦{fullShare} f))
          ∗ bigSep (ownRefs (τ := τ) (.scVector (cV L) (jV L)) \ Finset.univ.image fun k => (Proc.scVector (cV L) (jV L)).devRef (scr k))
              fun b => iprop(∃ f, ((d, b) : Loc nD τ sig) ↦{fullShare} f)) := by
  unfold SparseCore.Cfg.ownBufs
  refine (SparseCore.bigSep_sdiff_split' (t := Finset.univ.image fun k => (Proc.scVector (cV L) (jV L)).devRef (scr k))
    (Finset.image_subset_iff.mpr fun k _ => SparseCore.Cfg.mem_ownRefs_of_owner (p := Proc.scVector (cV L) (jV L)) (b := (Proc.scVector (cV L) (jV L)).devRef (scr k))
      (match k with | 0 => rfl | 1 => rfl | 2 => rfl | 3 => rfl | 4 => rfl | 5 => rfl))).trans ?_
  rw [SparseCore.bigSep_image_of_injOn (fun a _ b _ e => scr_inj (Proc.devRef_injective _ e))]

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The semaphores of the copies in and out and of the ids' copy; and those of the rows' copies. -/
abbrev cellA (k : Fin 9) : GSem nD τ sig := (V d (cV L) (jV L), .dma (⟨8 + k.val, Nat.lt_of_lt_of_le (Nat.add_lt_add_left k.isLt 8) (show 8 + 9 ≤ sig.nDmaSem by decide)⟩ : DmaSem sig))
abbrev cellB (k : Fin 64) : GSem nD τ sig := (V d (cV L) (jV L), .dma (semF k.val k.isLt))

theorem cell_mem (s : DmaSem sig) : ((V d (cV L) (jV L), .dma s) : GSem nD τ sig) ∈ ownCells (V d (cV L) (jV L)) :=
  mem_ownCells.mpr ⟨rfl, (show ∀ s : DmaSem sig, (SemLoc.dma s : SemLoc sig).isScoped .scVector = true by decide) _⟩

theorem dma_val {a b : DmaSem sig} (e : ((V d (cV L) (jV L), .dma a) : GSem nD τ sig) = (V d (cV L) (jV L), .dma b)) : a.val = b.val := by
  have := congrArg (fun g : GSem nD τ sig => g.2) e
  simp only [SemLoc.dma.injEq] at this
  rw [this]

theorem ownSems0_V :
    (ownSems0 (V d (cV L) (jV L)) : sProp 𝕄)
      = iprop((bigSep Finset.univ fun k : Fin 9 => semVal (cellA d L k) 0)
          ∗ fixS (F := F) d L
          ∗ bigSep ((ownCells (V d (cV L) (jV L)) \ Finset.univ.image (cellA d L)) \ Finset.univ.image (cellB d L)) fun g => semVal g 0) := by
  unfold SparseCore.Cfg.ownSems0 fixS
  rw [SparseCore.bigSep_sdiff_split' (t := Finset.univ.image (cellA d L)) (Finset.image_subset_iff.mpr fun k _ => cell_mem d L _),
    SparseCore.bigSep_sdiff_split' (s := ownCells (V d (cV L) (jV L)) \ Finset.univ.image (cellA d L)) (t := Finset.univ.image (cellB d L))
      (Finset.image_subset_iff.mpr fun k _ => Finset.mem_sdiff.mpr ⟨cell_mem d L _, fun h => by
        obtain ⟨a, -, e⟩ := Finset.mem_image.mp h
        have := dma_val d L e
        have : 8 + a.val = 17 + k.val := this
        omega⟩),
    SparseCore.bigSep_image_of_injOn (fun a _ b _ e => Fin.ext (by have : 8 + a.val = 8 + b.val := dma_val d L e; omega)),
    SparseCore.bigSep_image_of_injOn (fun a _ b _ e => Fin.ext (by have : 17 + a.val = 17 + b.val := dma_val d L e; omega))]

/-- A row buffer that is a whole scratch array, whatever it holds. -/
theorem hb_whole (B : Buf16) (h : B.view.set = Finset.univ) :
    hb (F := F) d L B = iprop(∃ f : Buf (Elt F) (B.view.loc (V d (cV L) (jV L))), B.view.loc (V d (cV L) (jV L)) ↦[Finset.univ]{fullShare} f) := by
  unfold hb holds
  rw [h]
  refine eq_of_both ?_ ?_
  · iintro ⟨%v, %f, %hf, H⟩
    iexists f; iexact H
  · iintro ⟨%f, H⟩
    iexists _; iexists f
    isplitr; · ipureintro; rfl
    iexact H

end Own

/-! ## The task -/

/-- The tile's buffers and semaphores as the program's state takes them: all of them, and what it does not use. -/
def restV (d : Dev nD) (L : grid1.Coords) : sProp 𝕄 :=
  iprop((bigSep (ownRefs (τ := τ) (.scVector (cV L) (jV L)) \ Finset.univ.image fun k => (Proc.scVector (cV L) (jV L)).devRef (scr k))
              fun b => iprop(∃ f, ((d, b) : Loc nD τ sig) ↦{fullShare} f))
    ∗ bigSep ((ownCells (V d (cV L) (jV L)) \ Finset.univ.image (cellA d L)) \ Finset.univ.image (cellB d L)) fun g => semVal g 0)

/-- The tile's part of the program's state. -/
def ownV (d : Dev nD) (L : grid1.Coords) (q : PosShare TreeShare) : sProp 𝕄 :=
  iprop(idvAny (F := F) d L ∗ lstAny (F := F) d L
    ∗ (hb (F := F) d L (s0 q).B ∗ hb (F := F) d L (s1 q).B ∗ hb (F := F) d L (s2 q).B ∗ hb (F := F) d L (s3 q).B)
    ∗ svG (F := F) d L q ∗ svS (F := F) d L q ∗ sv (F := F) d L cc1_scoped0.sem ∗ fixS (F := F) d L)

theorem ownV_eq (d : Dev nD) (L : grid1.Coords) (q : PosShare TreeShare) :
    iprop(ownBufs (V d (cV L) (jV L)) ∗ ownSems0 (V d (cV L) (jV L))) = (iprop(ownV (F := F) d L q ∗ restV (F := F) d L) : sProp 𝕄) := by
  rw [ownBufs_V, ownSems0_V, six, nine]
  unfold ownV restV svG svS sv idvAny lstAny
  rw [hb_whole d L (s0 q).B (View.set_whole ..), hb_whole d L (s1 q).B (View.set_whole ..), hb_whole d L (s2 q).B (View.set_whole ..), hb_whole d L (s3 q).B (View.set_whole ..)]
  refine eq_of_both ?_ ?_
  · iintro ⟨⟨⟨B0, B1, B2, B3, B4, B5⟩, BR⟩, ⟨S0, S1, S2, S3, S4, S5, S6, S7, S8⟩, SF, SR⟩
    isplitr [BR SR]
    · isplitl [B0]; · iexact B0
      isplitl [B1]; · iexact B1
      isplitl [B2 B3 B4 B5]
      · isplitl [B2]; · iexact B2
        isplitl [B3]; · iexact B3
        isplitl [B4]; · iexact B4
        iexact B5
      isplitl [S0 S1 S2 S3]
      · isplitl [S0]; · iexact S0
        isplitl [S1]; · iexact S1
        isplitl [S2]; · iexact S2
        iexact S3
      isplitl [S4 S5 S6 S7]
      · isplitl [S4]; · iexact S4
        isplitl [S5]; · iexact S5
        isplitl [S6]; · iexact S6
        iexact S7
      isplitl [S8]; · iexact S8
      iexact SF
    · isplitl [BR]; · iexact BR
      iexact SR
  · iintro ⟨⟨B0, B1, ⟨B2, B3, B4, B5⟩, ⟨S0, S1, S2, S3⟩, ⟨S4, S5, S6, S7⟩, S8, SF⟩, BR, SR⟩
    isplitl [B0 B1 B2 B3 B4 B5 BR]
    · isplitr [BR]
      · isplitl [B0]; · iexact B0
        isplitl [B1]; · iexact B1
        isplitl [B2]; · iexact B2
        isplitl [B3]; · iexact B3
        isplitl [B4]; · iexact B4
        iexact B5
      iexact BR
    · isplitr [SF SR]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      isplitl [SF]; · iexact SF
      iexact SR

/-- The state from its parts. -/
theorem TS_eq (d : Dev nD) (c : Fin 2) (i : Fin 16) (ids : Ids) (tab : Tab F) (enc : Enc F) (O : CellTallies nD τ sig (HIx 1)) (W : Waits sig (HIx 1)) (a : ℕ) :
    TS d (coordsV c i) ids tab enc O W (shr c i) (shr c i) (shr c i) a
      = iprop(Go d ids tab enc a c i ∗ ownV (F := F) d (coordsV c i) (shr c i) ∗ OW d (coordsV c i) O W) := by
  unfold TS Go ownV
  refine eq_of_both ?_ ?_
  · iintro ⟨H1, H2, H3, H4, H5, H6, H7, H8, H9, H10, H11, H12⟩
    iframe H1 H2 H3 H4 H5 H6 H7 H8 H9 H10 H11 H12
  · iintro ⟨⟨H1, H2, H3, H4⟩, ⟨H5, H6, H7, H8, H9, H10, H11⟩, H12⟩
    iframe H1 H2 H3 H4 H5 H6 H7 H8 H9 H10 H11 H12

section Task

variable [FloatOps F] (d : Dev nD) (c : Fin 2) (i : Fin 16)

theorem tile_body (hF : (K (F := F)).Facts) (hid : ∀ d x, (idsD d x).toNat < 32100) (O : CellTallies nD τ sig (HIx 1)) (W : Waits sig (HIx 1)) (hO : ∀ g, O g none = 0) :
    iprop(levAts (K (F := F)).L (K (F := F)).lev ∗ emp ∗ Go d (idsD d) (tabD d) (encD d) 0 c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
        (cc1_sc_fn (coordsV c i) idsM (Memref.isWhole_whole _) tabM (Memref.isWhole_whole _) encM (Memref.isWhole_whole _) outM (Memref.isWhole_whole _) idvM (Memref.isWhole_whole _) clnM (Memref.isWhole_whole _)
        (Memref.whole cc1_scratch2) (Memref.isWhole_whole _) (Memref.whole cc1_scratch3) (Memref.isWhole_whole _) (Memref.whole cc1_scratch4) (Memref.isWhole_whole _) (Memref.whole cc1_scratch5) (Memref.isWhole_whole _)
        cc1_scratch6 cc1_scratch7 cc1_scratch8 cc1_scratch9 cc1_scratch10 cc1_scratch11 cc1_scratch12 cc1_scratch13
        cc1_scoped0 cc1_scoped1 cc1_scoped2 cc1_scoped3 cc1_scoped4 cc1_scoped5 cc1_scoped6 cc1_scoped7 cc1_scoped8 cc1_scoped9 cc1_scoped10 cc1_scoped11 cc1_scoped12
        cc1_scoped13 cc1_scoped14 cc1_scoped15 cc1_scoped16 cc1_scoped17 cc1_scoped18 cc1_scoped19 cc1_scoped20 cc1_scoped21 cc1_scoped22 cc1_scoped23 cc1_scoped24 cc1_scoped25
        cc1_scoped26 cc1_scoped27 cc1_scoped28 cc1_scoped29 cc1_scoped30 cc1_scoped31 cc1_scoped32 cc1_scoped33 cc1_scoped34 cc1_scoped35 cc1_scoped36 cc1_scoped37 cc1_scoped38
        cc1_scoped39 cc1_scoped40 cc1_scoped41 cc1_scoped42 cc1_scoped43 cc1_scoped44 cc1_scoped45 cc1_scoped46 cc1_scoped47 cc1_scoped48 cc1_scoped49 cc1_scoped50 cc1_scoped51
        cc1_scoped52 cc1_scoped53 cc1_scoped54 cc1_scoped55 cc1_scoped56 cc1_scoped57 cc1_scoped58 cc1_scoped59 cc1_scoped60 cc1_scoped61 cc1_scoped62 cc1_scoped63 cc1_scoped64)
        fun _ => iprop(Go d (idsD d) (tabD d) (encD d) 32 c i
          ∗ scopedBufs (V d (cV (coordsV c i)) (jV (coordsV c i))) ∗ scopedSems0 (V d (cV (coordsV c i)) (jV (coordsV c i)))
          ∗ ∃ W', ⌜∀ p ∈ W', p ∈ W ∨ p.2 = none⌝ ∗ owes (V d (cV (coordsV c i)) (jV (coordsV c i))) O W') := by
  have hrun := tile_run (defs := defs₀ (F := F)) d (coordsV c i) (idsD d) (tabD d) (encD d) O W (shr c i) (shr c i) (shr c i) (hid d)
  rw [TS_eq, TS_eq] at hrun
  rw [(K (F := F)).scopedBufs_V hF d (cV (coordsV c i)) (jV (coordsV c i)), SparseCore.Cfg.scopedSems0_V (Val := Elt F) d (cV (coordsV c i)) (jV (coordsV c i))]
  have ho := ownV_eq (F := F) d (coordsV c i) (shr c i)
  have hpre : iprop(levAts (K (F := F)).L (K (F := F)).lev ∗ emp ∗ Go d (idsD d) (tabD d) (encD d) 0 c i
        ∗ ownBufs (V d (cV (coordsV c i)) (jV (coordsV c i))) ∗ ownSems0 (V d (cV (coordsV c i)) (jV (coordsV c i))) ∗ owes (V d (cV (coordsV c i)) (jV (coordsV c i))) O W)
      ⊢ (iprop((Go d (idsD d) (tabD d) (encD d) 0 c i ∗ ownV (F := F) d (coordsV c i) (shr c i) ∗ OW d (coordsV c i) O W) ∗ restV (F := F) d (coordsV c i)) : sProp 𝕄) := by
    iintro ⟨#Hlev, -, HG, HB, HS, HO⟩
    ihave H := (Entails.of_eq ho) $$ [HB HS]
    · iframe HB HS
    icases H with ⟨H1, H2⟩
    iframe HG H1 H2
    unfold OW
    isplitr
    · iapply ((K (F := F)).mayWaits_none (thr := V d (cV (coordsV c i)) (jV (coordsV c i))) hO); iexact Hlev
    · iexists W; isplitr; · ipureintro; exact fun p hp => .inl hp
      iexact HO
  refine hpre.trans ?_
  refine (BI.sep_mono_l hrun).trans ?_
  refine (wp_frame_r frame _ _).trans ?_
  refine wp_mono frame _ _ fun _ => ?_
  iintro ⟨⟨HG, H1, HO⟩, H2⟩
  ihave H := (Entails.of_eq ho.symm) $$ [H1 H2]
  · iframe H1 H2
  icases H with ⟨HB, HS⟩
  unfold OW
  icases HO with ⟨-, HO⟩
  iframe HG HB HS HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem defs₀_vector (c : Fin τ.nSC) (s : Fin τ.nSub) :
    defs₀ (F := F) (.scVector c s) 1 ()
      = SparseCore.onTile hcore1 hsub1 (fun c s => cc1_sc_fn (coordsV c s) idsM (Memref.isWhole_whole _) tabM (Memref.isWhole_whole _) encM (Memref.isWhole_whole _) outM (Memref.isWhole_whole _) idvM (Memref.isWhole_whole _) clnM (Memref.isWhole_whole _)
        (Memref.whole cc1_scratch2) (Memref.isWhole_whole _) (Memref.whole cc1_scratch3) (Memref.isWhole_whole _) (Memref.whole cc1_scratch4) (Memref.isWhole_whole _) (Memref.whole cc1_scratch5) (Memref.isWhole_whole _)
        cc1_scratch6 cc1_scratch7 cc1_scratch8 cc1_scratch9 cc1_scratch10 cc1_scratch11 cc1_scratch12 cc1_scratch13
        cc1_scoped0 cc1_scoped1 cc1_scoped2 cc1_scoped3 cc1_scoped4 cc1_scoped5 cc1_scoped6 cc1_scoped7 cc1_scoped8 cc1_scoped9 cc1_scoped10 cc1_scoped11 cc1_scoped12
        cc1_scoped13 cc1_scoped14 cc1_scoped15 cc1_scoped16 cc1_scoped17 cc1_scoped18 cc1_scoped19 cc1_scoped20 cc1_scoped21 cc1_scoped22 cc1_scoped23 cc1_scoped24 cc1_scoped25
        cc1_scoped26 cc1_scoped27 cc1_scoped28 cc1_scoped29 cc1_scoped30 cc1_scoped31 cc1_scoped32 cc1_scoped33 cc1_scoped34 cc1_scoped35 cc1_scoped36 cc1_scoped37 cc1_scoped38
        cc1_scoped39 cc1_scoped40 cc1_scoped41 cc1_scoped42 cc1_scoped43 cc1_scoped44 cc1_scoped45 cc1_scoped46 cc1_scoped47 cc1_scoped48 cc1_scoped49 cc1_scoped50 cc1_scoped51
        cc1_scoped52 cc1_scoped53 cc1_scoped54 cc1_scoped55 cc1_scoped56 cc1_scoped57 cc1_scoped58 cc1_scoped59 cc1_scoped60 cc1_scoped61 cc1_scoped62 cc1_scoped63 cc1_scoped64) ⟨⟩ c s := rfl

set_option maxRecDepth 16384 in
/-- Every tile's obligation. -/
theorem tileObl (hF : (K (F := F)).Facts) (hid : ∀ d x, (idsD d x).toNat < 32100) : (K (F := F)).TileObl (D (F := F)) 𝒱 (P idsD tabD encD) v₀ 0 := by
  intro d c i O W hO _ _
  simp only [show (P idsD tabD encD).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body idsD tabD encD d ⟨_, hci.1⟩ ⟨_, hci.2⟩ hF hid O W hO).trans (wp_mono frame _ _ fun _ => obl_post)

end Task

end Cert.Proof.Tile

end
-- ==== Proof.Split.lean ====
/-
  The arrays the SparseCore call takes, dealt to its tiles: a share each of what all of them read, and of the result the
  rows each writes; and the same taken back.
-/
module

public import proofs.«01_k».proof.Proof.Task
public import Idealize.SL.Sem.ProofMode

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-! ## The result's chunks -/

/-- A chunk's rows: core, tile, and which of the tile's 32. -/
def chSet (t : Fin 2 × Fin 16 × Fin 32) : Finset S16384x1024.Idx := (outSl (coordsV t.1 t.2.1) t.2.2.val t.2.2.isLt).view.set

theorem mem_ch (t : Fin 2 × Fin 16 × Fin 32) (x : S16384x1024.Idx) :
    x ∈ chSet t ↔ 1024 * t.2.1.val + 512 * t.1.val + 16 * t.2.2.val ≤ (x 0).val ∧ (x 0).val < 1024 * t.2.1.val + 512 * t.1.val + 16 * t.2.2.val + 16 := by
  have e : chSet t = (Rect.unit (s := S16384x1024) ![base (coordsV t.1 t.2.1) + 16 * t.2.2.val, 0] S16x1024.size (out_inb (coordsV t.1 t.2.1) t.2.2.val t.2.2.isLt)).set :=
    View.set_slice_whole (main_v3_scv : Ref sig .scVector) _
  rw [e, Rect.mem_set_unit]
  constructor
  · exact fun h => h 0
  · intro h
    refine Fin.forall_fin_two.mpr ⟨h, Nat.zero_le _, ?_⟩
    have e : S16x1024.size 1 = S16384x1024.size 1 := rfl
    have h1 : (x 1).val < S16384x1024.size 1 := (x 1).isLt
    show (x 1).val < 0 + S16x1024.size 1
    rw [e, Nat.zero_add]
    exact h1

theorem ch_disjoint : ∀ t ∈ (Finset.univ : Finset (Fin 2 × Fin 16 × Fin 32)), ∀ t' ∈ (Finset.univ : Finset (Fin 2 × Fin 16 × Fin 32)), t ≠ t' → Disjoint (chSet t) (chSet t') := by
  rintro ⟨c, i, g⟩ - ⟨c', i', g'⟩ - h
  refine Finset.disjoint_left.mpr fun x hx hx' => h ?_
  have h1 := (mem_ch _ x).mp hx
  have h2 := (mem_ch _ x).mp hx'
  have := c.isLt; have := c'.isLt; have := g.isLt; have := g'.isLt
  simp only at h1 h2
  have e1 : i = i' := Fin.ext (by omega)
  have e2 : c = c' := Fin.ext (by omega)
  have e3 : g = g' := Fin.ext (by omega)
  rw [e1, e2, e3]

theorem ch_cover : (Finset.univ : Finset (Fin 2 × Fin 16 × Fin 32)).biUnion chSet = Finset.univ := by
  refine Finset.eq_univ_iff_forall.mpr fun x => ?_
  rw [Finset.mem_biUnion]
  have hx : (x 0).val < 16384 := (x 0).isLt
  refine ⟨(⟨(x 0).val % 1024 / 512, by omega⟩, ⟨(x 0).val / 1024, by omega⟩, ⟨(x 0).val % 512 / 16, by omega⟩), Finset.mem_univ _, (mem_ch _ x).mpr ?_⟩
  simp only
  omega

/-! ## Dealt and taken back -/

variable (d : Dev nD) (ids : Ids) (tab : Tab F) (enc : Enc F)

/-- The host's arrays. -/
abbrev ℓids : Loc nD τ sig := (SparseCore.T d : Thread nD τ).loc main_arg0
abbrev ℓtab : Loc nD τ sig := (SparseCore.T d : Thread nD τ).loc main_arg2
abbrev ℓenc : Loc nD τ sig := (SparseCore.T d : Thread nD τ).loc main_v2
abbrev ℓout : Loc nD τ sig := (SparseCore.T d : Thread nD τ).loc main_v3

theorem shares (ℓ : Loc nD τ sig) (f : Buf (Elt F) ℓ) :
    (ℓ ↦{fullShare} f : sProp 𝕄) = bigSep Finset.univ fun c : Fin 2 => bigSep Finset.univ fun i : Fin 16 => ℓ ↦{shr c i} f := by
  rw [pointsTo_piecesOf (Ix := HIx 1) (Val := Elt F) (Name := ℕ) (U := UU) (Lvl := ℕ) (ℓ := ℓ) Finset.univ f (by decide : 0 < 2) fullShare]
  exact bigSep_congr fun c _ => pointsTo_piecesOf (Ix := HIx 1) (Val := Elt F) (Name := ℕ) (U := UU) (Lvl := ℕ) (ℓ := ℓ) Finset.univ f (by decide : 0 < 16) _

theorem chunks (f : Buf (Elt F) (ℓout d)) :
    (ℓout d ↦{fullShare} f : sProp 𝕄)
      = bigSep Finset.univ fun c : Fin 2 => bigSep Finset.univ fun i : Fin 16 => bigSep Finset.univ fun g : Fin 32 => ℓout d ↦[chSet (c, i, g)]{fullShare} f := by
  have h : (ℓout d ↦{fullShare} f : sProp 𝕄) = bigSep Finset.univ fun t => ℓout d ↦[chSet t]{fullShare} f := by
    rw [← pointsTo_biUnion Finset.univ (ℓ := ℓout d) chSet ch_disjoint, ch_cover]; try rfl
  rw [h, ← Finset.univ_product_univ, bigSep_product]
  refine bigSep_congr fun c _ => ?_
  rw [← Finset.univ_product_univ, bigSep_product]

theorem chunk_new (c : Fin 2) (i : Fin 16) (g : Fin 32) (f : Buf (Elt F) (ℓout d)) :
    (ℓout d ↦[chSet (c, i, g)]{fullShare} f : sProp 𝕄) ⊢ outNew (F := F) d (coordsV c i) g.val g.isLt := by
  unfold outNew
  iintro H
  iexists f; iexact H

theorem pool_start (f : Buf (Elt F) (ℓout d)) :
    (ℓout d ↦{fullShare} f : sProp 𝕄) ⊢ bigSep Finset.univ fun c : Fin 2 => bigSep Finset.univ fun i : Fin 16 => Pool d (coordsV c i) ids tab enc 0 0 := by
  rw [chunks]
  refine BI.bigSep_mono fun c _ => BI.bigSep_mono fun i _ => ?_
  unfold Pool
  refine BI.bigSep_mono fun g _ => ?_
  unfold poolAt
  rw [if_neg (Nat.not_lt_zero _), if_neg (Nat.not_lt_zero _)]
  exact chunk_new d c i g f

theorem pool_end :
    (bigSep Finset.univ fun c : Fin 2 => bigSep Finset.univ fun i : Fin 16 => Pool d (coordsV c i) ids tab enc 32 32) = (ℓout d ↦{fullShare} outV ids tab enc : sProp 𝕄) := by
  refine Eq.trans ?_ (chunks d (outV ids tab enc)).symm
  refine bigSep_congr fun c _ => bigSep_congr fun i _ => ?_
  unfold Pool
  refine bigSep_congr fun g _ => ?_
  unfold poolAt
  rw [if_pos g.isLt]
  rfl

theorem Go_all (a : ℕ) :
    (bigSep Finset.univ fun c : Fin 2 => bigSep Finset.univ fun i : Fin 16 => Go d ids tab enc a c i)
      = iprop((ℓids d ↦{fullShare} ids) ∗ (ℓtab d ↦{fullShare} tab) ∗ (ℓenc d ↦{fullShare} enc)
          ∗ bigSep Finset.univ fun c : Fin 2 => bigSep Finset.univ fun i : Fin 16 => Pool d (coordsV c i) ids tab enc a a) := by
  rw [shares (ℓids d), shares (ℓtab d), shares (ℓenc d)]
  simp only [Go, bigSep_sep']
  rfl

theorem deal (f : Buf (Elt F) (ℓout d)) :
    iprop((ℓids d ↦{fullShare} ids) ∗ (ℓtab d ↦{fullShare} tab) ∗ (ℓenc d ↦{fullShare} enc) ∗ (ℓout d ↦{fullShare} f))
      ⊢ (bigSep Finset.univ fun c : Fin 2 => bigSep Finset.univ fun i : Fin 16 => Go d ids tab enc 0 c i : sProp 𝕄) := by
  rw [Go_all]
  iintro ⟨H1, H2, H3, H4⟩
  iframe H1 H2 H3
  iapply (pool_start d ids tab enc f); iexact H4

theorem back :
    (bigSep Finset.univ fun c : Fin 2 => bigSep Finset.univ fun i : Fin 16 => Go d ids tab enc 32 c i)
      = (iprop((ℓids d ↦{fullShare} ids) ∗ (ℓtab d ↦{fullShare} tab) ∗ (ℓenc d ↦{fullShare} enc) ∗ (ℓout d ↦{fullShare} outV ids tab enc)) : sProp 𝕄) := by
  rw [Go_all, pool_end]

end Cert.Proof.Tile

end
-- ==== Proof.Region.lean ====
/-
  The dense part of the kernel: the region that encodes the prompt rows for the four texts. Its body run on the windows'
  staging buffers, the value it leaves, and the region as a step of the host's program.
-/
module

public import proofs.«01_k».proof.Proof.Launch
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Tactic
public import Idealize.SL.Sem.ProofMode

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

open Idealize.ShloMosaic.TcCoe
open Idealize.ShloMosaic.Pipeline (BodyObligation)

variable [FloatOps F]

/-! ## What the region computes -/

/-- Entry `b` of the four task numbers. -/
def ent (b : Fin 4) : S4.Idx := fun a => match a with | ⟨0, _⟩ => b

/-- A task's row. -/
def trow (ta : S8x1024.Idx → F .f32) (v : BitVec 32) : S1x1024.Idx → F .f32 := fun x => ta (ix2 8 1024 v.toNat (x 1).val)

/-- The encoded prompts of the four texts, hundred rows to each. -/
def encOf (ti : S4.Idx → BitVec 32) (pr : S100x1024.Idx → F .f32) (ta : S8x1024.Idx → F .f32) (w1 : S1024x1024.Idx → F .f32)
    (b1 : S1x1024.Idx → F .f32) (w2 : S1024x1024.Idx → F .f32) (b2 : S1x1024.Idx → F .f32) : Enc F :=
  k0_pay1 (k0_pay2 (trow ta (ti (ent 0))) pr (trow ta (ti (ent 1))) pr (trow ta (ti (ent 2))) pr (trow ta (ti (ent 3))) pr w1 b1) w2 b2

/-! ## The body's steps -/

variable (d : Dev nD) {α : Type} {Q : α → sProp (MT nD τ sig (HIx 1) (Elt F) ℕ UU ℕ)}

theorem tc_load {cs : CoreSpace} {S : Shape} {e : EltTy} (M : Memref sig .tc cs S e) (q : PosShare TreeShare) (X : S.Idx → Elt F e) (r : Rect S)
    (w : r.shape.Idx → Elt F e) (hw : ∀ x, X (r.emb x) = w x) {hl}
    {k : (r.toLoadRect.shape.Idx → Elt F e) → Prog (TpuEff nD τ sig (Elt F) Λ₀ .tc) α} :
    (owns (Ix := HIx 1) (Name := ℕ) (U := UU) (Lvl := ℕ) (d : Thread nD τ) M q X : sProp 𝕄)
      ⊢ iprop(((owns (d : Thread nD τ) M q X : sProp 𝕄) -∗ wp frame (wpE (defs₀ (F := F)) 𝒱₀ (d : Thread nD τ) none) Set.univ (k w) Q)
        -∗ wp frame (wpE (defs₀ (F := F)) 𝒱₀ (d : Thread nD τ) none) Set.univ ((Prog.lift (.load M r.toLoadRect hl) : Prog (TpuEff nD τ sig (Elt F) Λ₀ .tc) (r.toLoadRect.shape.Idx → Elt F e)) >>= k) Q) := by
  unfold owns
  iintro ⟨%f, %hf, H⟩ Hk
  have hv : M.view.readAt (Elt F) r.toLoadRect f = w := by
    funext x
    rw [← hw, ← hf]; rfl
  iapply (wp_load (defs := defs₀ (F := F)) 𝒱₀ (d : Thread nD τ) none Set.univ (m := M) (r := r.toLoadRect) (f := f) (S := M.view.set)
    (View.setOn_subset_set _ _)) $$ H
  iintro H
  rw [hv]
  iapply Hk
  iexists f
  isplitr; · ipureintro; exact hf
  iexact H

theorem tc_store {S : Shape} {e : EltTy} (M : Memref sig .tc .vmem S e) (X : S.Idx → Elt F e) (r : Rect S)
    (w : r.shape.Idx → Elt F e) (Y : S.Idx → Elt F e) (hY : ∀ x, ∃ y, x = r.emb y ∧ w y = Y x) {h1 h2}
    {k : PUnit → Prog (TpuEff nD τ sig (Elt F) Λ₀ .tc) α} :
    (owns (Ix := HIx 1) (Name := ℕ) (U := UU) (Lvl := ℕ) (d : Thread nD τ) M fullShare X : sProp 𝕄)
      ⊢ iprop(((owns (d : Thread nD τ) M fullShare Y : sProp 𝕄) -∗ wp frame (wpE (defs₀ (F := F)) 𝒱₀ (d : Thread nD τ) none) Set.univ (k ⟨⟩) Q)
        -∗ wp frame (wpE (defs₀ (F := F)) 𝒱₀ (d : Thread nD τ) none) Set.univ ((Prog.lift (.store M r w Finset.univ h1 h2) : Prog (TpuEff nD τ sig (Elt F) Λ₀ .tc) PUnit) >>= k) Q) := by
  unfold owns
  iintro ⟨%f, %hf, H⟩ Hk
  iapply (wp_store (defs := defs₀ (F := F)) 𝒱₀ (d : Thread nD τ) none Set.univ (m := M) (r := r) (w := w) (Mk := Finset.univ) (f := f) (S := M.view.set)
    (Memref.setOn_access_subset _ _ _)) $$ H
  iintro H
  iapply Hk
  iexists _
  isplitr [H]
  rotate_left
  · iexact H
  ipureintro
  funext x
  obtain ⟨y, rfl, hy⟩ := hY x
  rw [← hy]
  exact congrFun (View.read_write_univ (Val := Elt F) (v := M.access r) f w) y

theorem tc_assume {P : Prop} {dec : Decidable P} (h : P) {k : PLift P → Prog (TpuEff nD τ sig (Elt F) Λ₀ .tc) α} :
    wp frame (wpE (defs₀ (F := F)) 𝒱₀ (d : Thread nD τ) none) Set.univ (k ⟨h⟩) Q
      ⊢ wp frame (wpE (defs₀ (F := F)) 𝒱₀ (d : Thread nD τ) none) Set.univ (Prog.lift (.assume P dec) >>= k) Q :=
  Entails.of_eq (wp_assume_of (defs := defs₀ (F := F)) 𝒱₀ (d : Thread nD τ) none Set.univ h).symm

theorem tc_smem (M : Memref sig .tc .smem S4 .i32) (X : S4.Idx → BitVec 32) (o : Fin 1 → ℕ) (b : Fin 4) (ho : o = ![b.val])
    (hob : ∀ a, o a + S1.size a ≤ S4.size a) {h1 : (Rect.unit (s := S4) o S1.size hob).shape.numel = 1} {h2}
    {k : BitVec 32 → Prog (TpuEff nD τ sig (Elt F) Λ₀ .tc) α} :
    (owns (Ix := HIx 1) (Name := ℕ) (U := UU) (Lvl := ℕ) (d : Thread nD τ) M fullShare X : sProp 𝕄)
      ⊢ iprop(((owns (d : Thread nD τ) M fullShare X : sProp 𝕄) -∗ wp frame (wpE (defs₀ (F := F)) 𝒱₀ (d : Thread nD τ) none) Set.univ (k (X (ent b))) Q)
        -∗ wp frame (wpE (defs₀ (F := F)) 𝒱₀ (d : Thread nD τ) none) Set.univ
          ((smemLoad M (Rect.unit (s := S4) o S1.size hob) h1 h2 : Prog (TpuEff nD τ sig (Elt F) Λ₀ .tc) (Elt F .i32)) >>= k) Q) := by
  subst ho
  unfold smemLoad smemLoadElt
  refine tc_load (F := F) (e := .i32) (k := fun f => k (f (Shape.Idx.first (by rw [h1]; decide)))) d M fullShare X (Rect.unit (s := S4) ![b.val] S1.size hob) (fun _ => X (ent b)) (fun x => congrArg X ?_)
  funext a
  rw [Subsingleton.elim a 0]
  refine Fin.ext ?_
  show b.val + 1 * (x 0).val = b.val
  have : (x 0).val < 1 := (x 0).isLt
  omega

omit [FloatOps F] in
theorem full_rect {n m : ℕ} {h} (x) :
    (Rect.unit (s := (⟨2, ![n, m]⟩ : Shape)) ![0, 0] ![n, m] h).emb x = x := by
  funext a
  refine Fin.ext ?_
  match a with
  | ⟨0, _⟩ => show 0 + 1 * (x 0).val = (x 0).val; omega
  | ⟨1, _⟩ => show 0 + 1 * (x 1).val = (x 1).val; omega

/-! ## The body -/

/-- The body's eight windows, the seven operands at given contents. -/
def Wins (M0 : Memref sig .tc .smem S4 .i32) (M1 : Memref sig .tc .vmem S100x1024 .f32) (M2 : Memref sig .tc .vmem S8x1024 .f32)
    (M3 : Memref sig .tc .vmem S1024x1024 .f32) (M4 : Memref sig .tc .vmem S1x1024 .f32) (M5 : Memref sig .tc .vmem S1024x1024 .f32)
    (M6 : Memref sig .tc .vmem S1x1024 .f32)
    (ti : S4.Idx → BitVec 32) (pr : S100x1024.Idx → F .f32) (ta : S8x1024.Idx → F .f32) (w1 : S1024x1024.Idx → F .f32)
    (b1 : S1x1024.Idx → F .f32) (w2 : S1024x1024.Idx → F .f32) (b2 : S1x1024.Idx → F .f32) : sProp 𝕄 :=
  iprop((owns (d : Thread nD τ) M0 fullShare ti) ∗ (owns (d : Thread nD τ) M1 fullShare pr) ∗ (owns (d : Thread nD τ) M2 fullShare ta)
    ∗ (owns (d : Thread nD τ) M3 fullShare w1) ∗ (owns (d : Thread nD τ) M4 fullShare b1) ∗ (owns (d : Thread nD τ) M5 fullShare w2)
    ∗ (owns (d : Thread nD τ) M6 fullShare b2))

omit [FloatOps F] in
theorem chk_row (v : BitVec 32) (hv : v.toNat < 8) : ∀ a, (![(Scalar.indexCast v).toNat, 0] : Fin 2 → ℕ) a + S1x1024.size a ≤ S8x1024.size a := by
  intro a
  match a with
  | ⟨0, _⟩ => show v.toNat + 1 ≤ 8; omega
  | ⟨1, _⟩ => show 0 + 1024 ≤ 1024; omega

omit [FloatOps F] in
theorem row_emb (ta : S8x1024.Idx → F .f32) (v : BitVec 32) (hv : v.toNat < 8) (o : Fin 2 → ℕ) (ho : o = ![(Scalar.indexCast v).toNat, 0])
    (h : ∀ a, o a + S1x1024.size a ≤ S8x1024.size a) (x) :
    ta ((Rect.unit (s := S8x1024) o S1x1024.size h).emb x) = trow ta v x := by
  subst ho
  refine congrArg ta ?_
  have h0 : (x 0).val < 1 := (x 0).isLt
  have h1 : (x 1).val < 1024 := (x 1).isLt
  funext a
  refine Fin.ext ?_
  match a with
  | ⟨0, _⟩ => show v.toNat + 1 * (x 0).val = (ix2 8 1024 v.toNat (x 1).val 0).val; rw [ix2_0 _ _ _ _ hv]; omega
  | ⟨1, _⟩ => show 0 + 1 * (x 1).val = (ix2 8 1024 v.toNat (x 1).val 1).val; rw [ix2_1 _ _ _ _ h1]; omega

theorem body_run (M0 : Memref sig .tc .smem S4 .i32) (h0 : M0.IsWhole) (M1 : Memref sig .tc .vmem S100x1024 .f32) (h1 : M1.IsWhole)
    (M2 : Memref sig .tc .vmem S8x1024 .f32) (h2 : M2.IsWhole)
    (M3 : Memref sig .tc .vmem S1024x1024 .f32) (h3 : M3.IsWhole) (M4 : Memref sig .tc .vmem S1x1024 .f32) (h4 : M4.IsWhole)
    (M5 : Memref sig .tc .vmem S1024x1024 .f32) (h5 : M5.IsWhole)
    (M6 : Memref sig .tc .vmem S1x1024 .f32) (h6 : M6.IsWhole) (M7 : Memref sig .tc .vmem S400x1024 .f32) (h7 : M7.IsWhole)
    (ti : S4.Idx → BitVec 32) (pr : S100x1024.Idx → F .f32) (ta : S8x1024.Idx → F .f32) (w1 : S1024x1024.Idx → F .f32)
    (b1 : S1x1024.Idx → F .f32) (w2 : S1024x1024.Idx → F .f32) (b2 : S1x1024.Idx → F .f32) (e0 : Enc F)
    (hti : ∀ x, (ti x).toNat < 8) (Q : PUnit → sProp 𝕄) :
    iprop(Wins d M0 M1 M2 M3 M4 M5 M6 ti pr ta w1 b1 w2 b2 ∗ (owns (d : Thread nD τ) M7 fullShare e0)
        ∗ ((Wins d M0 M1 M2 M3 M4 M5 M6 ti pr ta w1 b1 w2 b2 ∗ (owns (d : Thread nD τ) M7 fullShare (encOf ti pr ta w1 b1 w2 b2))) -∗ Q ⟨⟩))
      ⊢ wp frame (wpE (defs₀ (F := F)) 𝒱₀ (d : Thread nD τ) none) Set.univ (cc0_body (F := F) M0 h0 M1 h1 M2 h2 M3 h3 M4 h4 M5 h5 M6 h6 M7 h7) Q := by
  rw [cc0_body_eq_skeleton]
  unfold cc0_body_skel Wins
  rw [k0_part1_eq_skeleton]
  unfold k0_part1_skel
  simp only [bind_assoc, pure_bind]
  iintro ⟨⟨H0, H1, H2, H3, H4, H5, H6⟩, H7, Hk⟩
  iapply (tc_smem d M0 ti _ 0 rfl) $$ H0
  iintro H0
  iapply (tc_assume d (chk_row _ (hti (ent 0))))
  iapply (tc_load d M2 fullShare ta _ _ (row_emb ta _ (hti (ent 0)) _ rfl _)) $$ H2
  iintro H2
  iapply (tc_load d M1 fullShare pr _ pr (fun x => congrArg pr (full_rect x))) $$ H1
  iintro H1
  iapply (tc_smem d M0 ti _ 1 rfl) $$ H0
  iintro H0
  iapply (tc_assume d (chk_row _ (hti (ent 1))))
  iapply (tc_load d M2 fullShare ta _ _ (row_emb ta _ (hti (ent 1)) _ rfl _)) $$ H2
  iintro H2
  iapply (tc_load d M1 fullShare pr _ pr (fun x => congrArg pr (full_rect x))) $$ H1
  iintro H1
  iapply (tc_smem d M0 ti _ 2 rfl) $$ H0
  iintro H0
  iapply (tc_assume d (chk_row _ (hti (ent 2))))
  iapply (tc_load d M2 fullShare ta _ _ (row_emb ta _ (hti (ent 2)) _ rfl _)) $$ H2
  iintro H2
  iapply (tc_load d M1 fullShare pr _ pr (fun x => congrArg pr (full_rect x))) $$ H1
  iintro H1
  iapply (tc_smem d M0 ti _ 3 rfl) $$ H0
  iintro H0
  iapply (tc_assume d (chk_row _ (hti (ent 3))))
  iapply (tc_load d M2 fullShare ta _ _ (row_emb ta _ (hti (ent 3)) _ rfl _)) $$ H2
  iintro H2
  iapply (tc_load d M1 fullShare pr _ pr (fun x => congrArg pr (full_rect x))) $$ H1
  iintro H1
  iapply (tc_load d M3 fullShare w1 _ w1 (fun x => congrArg w1 (full_rect x))) $$ H3
  iintro H3
  iapply (tc_load d M4 fullShare b1 _ b1 (fun x => congrArg b1 (full_rect x))) $$ H4
  iintro H4
  iapply (tc_load d M5 fullShare w2 _ w2 (fun x => congrArg w2 (full_rect x))) $$ H5
  iintro H5
  iapply (tc_load d M6 fullShare b2 _ b2 (fun x => congrArg b2 (full_rect x))) $$ H6
  iintro H6
  iapply (tc_load d M7 fullShare e0 _ e0 (fun x => congrArg e0 (full_rect x))) $$ H7
  iintro H7
  iapply (tc_store d M7 e0 _ _ (encOf ti pr ta w1 b1 w2 b2) (fun x => ⟨x, (full_rect x).symm, rfl⟩)) $$ H7
  iintro H7
  iapply (le_wp_ret _ _ _ _ _)
  iapply Hk
  iframe H0 H1 H2 H3 H4 H5 H6 H7

/-! ## The region -/

variable (mm : (ℓ : Loc nD τ sig) → Buf (Elt F) ℓ)

/-- The encoded prompts, of what the region finds. -/
def encA (c : Dev nD) : Enc F :=
  encOf (mm ((c : Thread nD τ).loc main_arg1)) (mm ((c : Thread nD τ).loc main_arg3)) (mm ((c : Thread nD τ).loc main_arg4)) (mm ((c : Thread nD τ).loc main_arg5))
    (mm ((c : Thread nD τ).loc main_v0)) (mm ((c : Thread nD τ).loc main_arg7)) (mm ((c : Thread nD τ).loc main_v1))

/-- The waits recorded before the region: none above the first call. -/
def recd (c : Dev nD) : Set (SemLoc sig × HIx 1) := {p | (K (F := F)).lev ((SparseCore.T c : Thread nD τ), p.1) p.2 ≤ 0}

def dat0 (c : Dev nD) : Pipeline.Dat τ (Elt F) (HIx 1) ℕ UU ℕ cfg0 c where
  A w := mm ((cfg0.win w).arr.view.loc (c : Thread nD τ))
  after w _ := match w with
    | ⟨0, _⟩ => mm ((c : Thread nD τ).loc main_arg1)
    | ⟨1, _⟩ => mm ((c : Thread nD τ).loc main_arg3)
    | ⟨2, _⟩ => mm ((c : Thread nD τ).loc main_arg4)
    | ⟨3, _⟩ => mm ((c : Thread nD τ).loc main_arg5)
    | ⟨4, _⟩ => mm ((c : Thread nD τ).loc main_v0)
    | ⟨5, _⟩ => mm ((c : Thread nD τ).loc main_arg7)
    | ⟨6, _⟩ => mm ((c : Thread nD τ).loc main_v1)
    | ⟨7, _⟩ => encA mm c
  Φ _ := iprop(emp)
  q _ := fullShare
  owed _ := (K (F := F)).Otc c 0
  recorded _ := recd (F := F) c

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 mm

omit [FloatOps F] in
/-- A window over a whole array is the array. -/
theorem blk_read {s : Shape} {e : EltTy} {cs : CoreSpace} (arr : Memref sig .tc .hbm s e) (o y : Bool) (st : Memref sig .tc cs s e) (se) (ha) (hs) (t)
    (f : arr.view.ty.Contents (Elt F)) : ((Pipeline.Window.whole arr o y st se ha hs).blk t).view.read (Elt F) f = arr.view.read (Elt F) f := by
  funext x
  refine congrArg (arr.view.read (Elt F) f) (funext fun a => Fin.ext ?_)
  show 0 * s.size a + 1 * (x a).val = (x a).val
  omega

theorem before_0 (c : Dev nD) (d) : (dat0 mm c).before 0 t0_0 d = mm ((c : Thread nD τ).loc main_arg1) := by
  unfold Pipeline.Dat.before; rw [if_pos (by decide)]
  exact blk_read (Memref.whole main_arg1) false false (stage0_0 0) (sem0_0 0) (Memref.isWhole_whole _) (hstage0_0 0) t0_0 (mm ((c : Thread nD τ).loc main_arg1))
theorem before_1 (c : Dev nD) (d) : (dat0 mm c).before 1 t0_0 d = mm ((c : Thread nD τ).loc main_arg3) := by
  unfold Pipeline.Dat.before; rw [if_pos (by decide)]
  exact blk_read (Memref.whole main_arg3) false false (stage0_1 0) (sem0_1 0) (Memref.isWhole_whole _) (hstage0_1 0) t0_0 (mm ((c : Thread nD τ).loc main_arg3))
theorem before_2 (c : Dev nD) (d) : (dat0 mm c).before 2 t0_0 d = mm ((c : Thread nD τ).loc main_arg4) := by
  unfold Pipeline.Dat.before; rw [if_pos (by decide)]
  exact blk_read (Memref.whole main_arg4) false false (stage0_2 0) (sem0_2 0) (Memref.isWhole_whole _) (hstage0_2 0) t0_0 (mm ((c : Thread nD τ).loc main_arg4))
theorem before_3 (c : Dev nD) (d) : (dat0 mm c).before 3 t0_0 d = mm ((c : Thread nD τ).loc main_arg5) := by
  unfold Pipeline.Dat.before; rw [if_pos (by decide)]
  exact blk_read (Memref.whole main_arg5) false false (stage0_3 0) (sem0_3 0) (Memref.isWhole_whole _) (hstage0_3 0) t0_0 (mm ((c : Thread nD τ).loc main_arg5))
theorem before_4 (c : Dev nD) (d) : (dat0 mm c).before 4 t0_0 d = mm ((c : Thread nD τ).loc main_v0) := by
  unfold Pipeline.Dat.before; rw [if_pos (by decide)]
  exact blk_read (Memref.whole main_v0) false false (stage0_4 0) (sem0_4 0) (Memref.isWhole_whole _) (hstage0_4 0) t0_0 (mm ((c : Thread nD τ).loc main_v0))
theorem before_5 (c : Dev nD) (d) : (dat0 mm c).before 5 t0_0 d = mm ((c : Thread nD τ).loc main_arg7) := by
  unfold Pipeline.Dat.before; rw [if_pos (by decide)]
  exact blk_read (Memref.whole main_arg7) false false (stage0_5 0) (sem0_5 0) (Memref.isWhole_whole _) (hstage0_5 0) t0_0 (mm ((c : Thread nD τ).loc main_arg7))
theorem before_6 (c : Dev nD) (d) : (dat0 mm c).before 6 t0_0 d = mm ((c : Thread nD τ).loc main_v1) := by
  unfold Pipeline.Dat.before; rw [if_pos (by decide)]
  exact blk_read (Memref.whole main_v1) false false (stage0_6 0) (sem0_6 0) (Memref.isWhole_whole _) (hstage0_6 0) t0_0 (mm ((c : Thread nD τ).loc main_v1))

theorem body_obligation (hti : ∀ (c : Dev nD) x, ((mm ((c : Thread nD τ).loc main_arg1) : S4.Idx → BitVec 32) x).toNat < 8) (c : Dev nD) :
    BodyObligation (dat0 (F := F) mm c) (defs₀ (F := F)) 𝒱₀ none Set.univ := fun t => by
  obtain rfl := fin_N0 t
  rw [bigSep_W0, bigSep_W0]
  rw [show (dat0 mm c).Φ t0_0.castSucc = iprop(emp) from rfl, show (dat0 mm c).Φ t0_0.succ = iprop(emp) from rfl,
    show (dat0 mm c).owesAt none t0_0.succ = (dat0 mm c).owesAt none t0_0.castSucc from rfl]
  simp only [before_0, before_1, before_2, before_3, before_4, before_5, before_6]
  iintro ⟨-, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (win0_0.stage 0) (hstage0_0 0) (win0_1.stage 0) (hstage0_1 0) (win0_2.stage 0) (hstage0_2 0)
    (win0_3.stage 0) (hstage0_3 0) (win0_4.stage 0) (hstage0_4 0) (win0_5.stage 0) (hstage0_5 0) (win0_6.stage 0) (hstage0_6 0)
    (win0_7.stage 0) (hstage0_7 0) (mm ((c : Thread nD τ).loc main_arg1)) (mm ((c : Thread nD τ).loc main_arg3)) (mm ((c : Thread nD τ).loc main_arg4)) (mm ((c : Thread nD τ).loc main_arg5))
    (mm ((c : Thread nD τ).loc main_v0)) (mm ((c : Thread nD τ).loc main_arg7)) (mm ((c : Thread nD τ).loc main_v1)) ((dat0 mm c).before 7 t0_0 d7) (hti c) _)
  unfold Wins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iintro ⟨⟨H0, H1, H2, H3, H4, H5, H6⟩, H7⟩
  isplitr; · iempintro
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A buffer of the core, held whole. -/
abbrev ptc (c : Dev nD) (b : Ref sig .tc) (f : b.ty.Contents (Elt F)) : sProp 𝕄 := ((c : Thread nD τ).loc b) ↦{fullShare} f

theorem arrays_all (c : Dev nD) (Fa) : ((pdats (F := F) mm 0 c).arrays Fa : sProp 𝕄)
    = iprop(ptc c main_arg1 (Fa 0) ∗ ptc c main_arg3 (Fa 1) ∗ ptc c main_arg4 (Fa 2) ∗ ptc c main_arg5 (Fa 3) ∗ ptc c main_v0 (Fa 4)
      ∗ ptc c main_arg7 (Fa 5) ∗ ptc c main_v1 (Fa 6) ∗ ptc c main_v2 (Fa 7)) := by
  rw [Pipeline.arrays_eq (Pipeline.pin (pcfgs (F := F)) adm) (pdats mm) 0 c launch0.arr_whole ((pdats mm 0 c).share_full fun _ => rfl) Fa, bigSep_W0]

theorem arrAt_enc (c : Dev nD) : (pdats (F := F) mm 0 c).arrAt 7 (Pipeline.pin (pcfgs (F := F)) adm 0).N = encA mm c := by
  show (dat0 (F := F) mm c).arrAt 7 cfg0.N = encA mm c
  have hw : ((cfg0.win 7).blk t0_0).view.read (Elt F) ((dat0 (F := F) mm c).arrAt 7 cfg0.N) = encA mm c := by
    rw [show cfg0.N = t0_0.val + 1 from rfl, (dat0 mm c).arrAt_succ (7 : Fin 8) t0_0, flush0_7, if_pos rfl]
    exact View.read_write_univ _ _
  exact (blk_read (Memref.whole main_v2) true false (stage0_7 0) (sem0_7 0) (Memref.isWhole_whole _) (hstage0_7 0) t0_0 ((dat0 (F := F) mm c).arrAt 7 cfg0.N)).symm.trans hw

/-- What the core owes while the region runs. -/
def owe0 (c : Dev nD) : sProp 𝕄 :=
  iprop(∃ W, ⌜(K (F := F)).WBelow (SparseCore.T c : Thread nD τ) W 0⌝ ∗ owes (SparseCore.T c : Thread nD τ) ((K (F := F)).Otc c 0) W)

theorem Otc_none (c : Dev nD) (g : GSem nD τ sig) : (K (F := F)).Otc c 0 g (none : HIx 1) = 0 := by
  rcases Nat.eq_zero_or_pos ((K (F := F)).Otc c 0 g (none : HIx 1)) with h | h
  · exact h
  · have := SparseCore.Cfg.lev_of_Otc_pos h
    rw [SparseCore.Cfg.lev_none] at this
    omega

/-- What the region leaves of the arrays it works on, and of those it does not. -/
def arrPost (c : Dev nD) : sProp 𝕄 :=
  iprop(ptc c main_arg1 (mm ((c : Thread nD τ).loc main_arg1)) ∗ ptc c main_arg3 (mm ((c : Thread nD τ).loc main_arg3)) ∗ ptc c main_arg4 (mm ((c : Thread nD τ).loc main_arg4))
    ∗ ptc c main_arg5 (mm ((c : Thread nD τ).loc main_arg5)) ∗ ptc c main_v0 (mm ((c : Thread nD τ).loc main_v0))
    ∗ ptc c main_arg7 (mm ((c : Thread nD τ).loc main_arg7)) ∗ ptc c main_v1 (mm ((c : Thread nD τ).loc main_v1)) ∗ ptc c main_v2 (encA mm c))

def restPost (c : Dev nD) : sProp 𝕄 :=
  iprop(ptc c main_arg0 (mm ((c : Thread nD τ).loc main_arg0)) ∗ ptc c main_arg2 (mm ((c : Thread nD τ).loc main_arg2)) ∗ ptc c main_arg6 (mm ((c : Thread nD τ).loc main_arg6))
    ∗ ptc c main_arg8 (mm ((c : Thread nD τ).loc main_arg8)) ∗ ptc c main_v3 (mm ((c : Thread nD τ).loc main_v3)) ∗ ptc c main_v4 (mm ((c : Thread nD τ).loc main_v4)))

def reg0 (hti : ∀ (c : Dev nD) x, ((mm ((c : Thread nD τ).loc main_arg1) : S4.Idx → BitVec 32) x).toNat < 8) :
    Pipeline.RegionSeg (pcfgs (F := F)) adm (pdats mm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation mm hti c).loose
  hwaits c := Pipeline.cellsWaits_intro _ (pdats mm) none 0 c fun w s t => (K (F := F)).mayWait_none _ (Otc_none c)
  pre c := iprop(unscopedBufs c (fun b => mm ((c : Thread nD τ).loc b)) ∗ owe0 (F := F) c)
  post c := iprop(arrPost mm c ∗ restPost mm c ∗ owe0 (F := F) c)
  X _ := iprop(emp)
  Y _ := iprop(emp)
  Z c := Pipeline.unscopedRest (Ix := HIx 1) (Name := ℕ) (U := UU) (Lvl := ℕ) spec0 c (fun b => mm ((c : Thread nD τ).loc b))
  hentry c := by
    rw [Pipeline.ownSems0_none]
    have hsplit := Pipeline.arrays_of_unscopedBufs (pcfgs (F := F)) adm (pdats mm) launch0.win launch0.arr_whole c
      ((pdats mm 0 c).share_full fun _ => rfl) (fun b => mm ((c : Thread nD τ).loc b)) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold owe0
      icases HO with ⟨%W, %hW, HO⟩
      unfold Pipeline.Dat.owesAt Pipeline.owesWithin
      iexists W; isplitr
      · ipureintro; exact fun p hp => Or.inl (hW p hp)
      iexact HO
    isplitr; · iempintro
    iexact Hr
  hin c := by iintro -; iempintro
  hout c := by
    rw [Pipeline.ownSems0_none, scopedRest0_eq]
    iintro -; isplitr; · iempintro
    isplitr <;> iempintro
  hexit c := by
    rw [arrays_all, unscopedRest0_eq, arrAt_enc,
      show (pdats (F := F) mm 0 c).arrAt 0 (Pipeline.pin (pcfgs (F := F)) adm 0).N = mm ((c : Thread nD τ).loc main_arg1) from (dat0 mm c).arrAt_in 0 rfl _,
      show (pdats (F := F) mm 0 c).arrAt 1 (Pipeline.pin (pcfgs (F := F)) adm 0).N = mm ((c : Thread nD τ).loc main_arg3) from (dat0 mm c).arrAt_in 1 rfl _,
      show (pdats (F := F) mm 0 c).arrAt 2 (Pipeline.pin (pcfgs (F := F)) adm 0).N = mm ((c : Thread nD τ).loc main_arg4) from (dat0 mm c).arrAt_in 2 rfl _,
      show (pdats (F := F) mm 0 c).arrAt 3 (Pipeline.pin (pcfgs (F := F)) adm 0).N = mm ((c : Thread nD τ).loc main_arg5) from (dat0 mm c).arrAt_in 3 rfl _,
      show (pdats (F := F) mm 0 c).arrAt 4 (Pipeline.pin (pcfgs (F := F)) adm 0).N = mm ((c : Thread nD τ).loc main_v0) from (dat0 mm c).arrAt_in 4 rfl _,
      show (pdats (F := F) mm 0 c).arrAt 5 (Pipeline.pin (pcfgs (F := F)) adm 0).N = mm ((c : Thread nD τ).loc main_arg7) from (dat0 mm c).arrAt_in 5 rfl _,
      show (pdats (F := F) mm 0 c).arrAt 6 (Pipeline.pin (pcfgs (F := F)) adm 0).N = mm ((c : Thread nD τ).loc main_v1) from (dat0 mm c).arrAt_in 6 rfl _]
    unfold arrPost restPost
    iintro ⟨Ha, HO, -, Hr⟩
    imodintro
    isplitl [Ha]; · iexact Ha
    isplitl [Hr]; · iexact Hr
    unfold Pipeline.Dat.owesAt Pipeline.owesWithin owe0
    icases HO with ⟨%W, %hW, HO⟩; iexists W
    isplitr
    · ipureintro
      intro p hp
      rcases hW hp with h | ⟨w, s, h⟩
      · exact h
      · rw [h]; exact Nat.le_refl 0
    iexact HO

theorem reg0_pre (hti : ∀ (c : Dev nD) x, ((mm ((c : Thread nD τ).loc main_arg1) : S4.Idx → BitVec 32) x).toNat < 8) (c : Dev nD) :
    (reg0 mm hti).pre c = iprop(unscopedBufs c (fun b => mm ((c : Thread nD τ).loc b)) ∗ owe0 (F := F) c) := rfl
theorem reg0_post (hti : ∀ (c : Dev nD) x, ((mm ((c : Thread nD τ).loc main_arg1) : S4.Idx → BitVec 32) x).toNat < 8) (c : Dev nD) :
    (reg0 mm hti).post c = iprop(arrPost mm c ∗ restPost mm c ∗ owe0 (F := F) c) := rfl

/-- The region's state for the launch. -/
def regGhost (c : Dev nD) : sProp 𝕄 :=
  iprop(Pipeline.cellsGhost (Pipeline.pin (pcfgs (F := F)) adm) EP 0 c ∗ Pipeline.toksInit (Pipeline.pin (pcfgs (F := F)) adm) EP 0 c)

/-- The region's call in the host's program. -/
theorem wp_region [∀ e, Nonempty (Elt F e)] (hti : ∀ (c : Dev nD) x, ((mm ((c : Thread nD τ).loc main_arg1) : S4.Idx → BitVec 32) x).toNat < 8) (c : Dev nD)
    {k : PUnit → Prog (TpuEff nD τ sig (Elt F) (SparseCore.Sig (ΛP (F := F)) 1) .tc) PUnit} {Q : PUnit → sProp 𝕄} :
    iprop(boundary (SparseCore.T c : Thread nD τ) ∗ unscopedBufs c (fun b => mm ((c : Thread nD τ).loc b)) ∗ owe0 (F := F) c ∗ levAts (K (F := F)).L (K (F := F)).lev
        ∗ regGhost (F := F) c
        ∗ (iprop(boundary (SparseCore.T c : Thread nD τ) ∗ arrPost mm c ∗ restPost mm c ∗ owe0 (F := F) c)
          -∗ wp frame (wpE ((K (F := F)).defs (D (F := F))) 𝒱 (SparseCore.T c) none) Set.univ (k ⟨⟩) Q))
      ⊢ wp frame (wpE ((K (F := F)).defs (D (F := F))) 𝒱 (SparseCore.T c) none) Set.univ
          (Prog.lift (.customCall (SparseCore.inner (Pipeline.entry 0)) ()) >>= k) Q := by
  have hlift := (K (F := F)).wp_liftProg (D (F := F)) 𝒱 (SparseCore.T c : Thread nD τ) Set.univ none
    (.op (.customCall (Pipeline.entry 0) ()) .ret) (fun _ => wp frame (wpE ((K (F := F)).defs (D (F := F))) 𝒱 (SparseCore.T c) none) Set.univ (k ⟨⟩) Q)
  rw [wp_bind]
  refine BIBase.Entails.trans ?_ hlift
  refine BIBase.Entails.trans ?_ ((reg0 mm hti).wp (pcfgs (F := F)) adm (pdats mm) none cellOf_inj EP defs₀ 𝒱₀ (K (F := F)).L (K (F := F)).lev c none (fun _ h => nomatch h) .ret _)
  unfold regGhost
  rw [reg0_pre, reg0_post]
  iintro ⟨Hb, Hu, HO, HL, ⟨Hg, Ht⟩, Hk⟩
  isplitl [Hk]
  · iintro ⟨Hb, Hp⟩
    iapply (le_wp_ret _ _ _ _ _)
    iapply Hk
    isplitl [Hb]; · iexact Hb
    iexact Hp
  isplitl [Hb]; · iexact Hb
  isplitl [Hu HO]
  · isplitl [Hu]; · iexact Hu
    iexact HO
  isplitl [HL]; · iexact HL
  isplitl [Hg]; · iexact Hg
  iexact Ht

end Cert.Proof.Tile

end
-- ==== Proof.Main.lean ====
/-
  The host's program and its run: the biases reshaped, the encoder's region, the SparseCore call, its result reshaped.
-/
module

public import proofs.«01_k».proof.Proof.Split
public import proofs.«01_k».proof.Proof.Region
public import Idealize.ShloMosaic.Lib.SparseCore.Quiescent
public import Idealize.ShloMosaic.Lib.StableHlo.Run
public import Idealize.ShloMosaic.Lib.Pipeline.Frame
public import Idealize.SL.Sem.ProofMode

@[expose] public section

noncomputable section

namespace Cert.Proof.Tile

open Cert.KernelIdeal Cert.KernelIdeal.Gen
open Cert.Proof.Ops
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

open Idealize.ShloMosaic.TcCoe
open Idealize.ShloMosaic.StableHlo (held wp_hlo_within)

variable [FloatOps F] (m : (ℓ : Loc nD τ sig) → Buf (Elt F) ℓ) (ρ : Dev nD → PrngReg)

/-! ## The host's reshapes -/

abbrev op0 : HloOp τ sig (Elt F) := StableHlo.reshape main_arg6 main_v0 (rfl : (.f32 : EltTy) = .f32) shapeCasts_S1024_S1x1024
abbrev op1 : HloOp τ sig (Elt F) := StableHlo.reshape main_arg8 main_v1 (rfl : (.f32 : EltTy) = .f32) shapeCasts_S1024_S1x1024
abbrev op2 : HloOp τ sig (Elt F) := StableHlo.reshape main_v3 main_v4 (rfl : (.f32 : EltTy) = .f32) shapeCasts_S16384x1024_S4x4096x1024

/-- A device's memory once the biases are reshaped, and every device's. -/
def midV (d : Dev nD) : Valuation τ sig (Elt F) := op1.result (op0.result fun b => m (d, b))
def mid : (ℓ : Loc nD τ sig) → Buf (Elt F) ℓ := fun ℓ => midV m ℓ.1 ℓ.2

theorem mid_ne (d : Dev nD) (b : Ref sig .tc) (h0 : b ≠ main_v0) (h1 : b ≠ main_v1) : mid m ((d : Thread nD τ).loc b) = m ((d : Thread nD τ).loc b) :=
  (StableHlo.reshape_result_ne main_arg8 main_v1 _ _ _ _ _ h1).trans (StableHlo.reshape_result_ne main_arg6 main_v0 _ _ _ _ _ h0)

theorem mid_v0 (d : Dev nD) : (mid m ((d : Thread nD τ).loc main_v0) : S1x1024.Idx → F .f32)
    = shapeCast S1x1024 (m ((d : Thread nD τ).loc main_arg6) : S1024.Idx → F .f32) shapeCasts_S1024_S1x1024 := by
  show (op1 (F := F)).result ((op0 (F := F)).result fun b => m (d, b)) (Proc.devRef .tc main_v0) = _
  rw [StableHlo.reshape_result_ne _ _ _ _ _ _ _ (by decide), StableHlo.reshape_result]
  rfl

theorem mid_v1 (d : Dev nD) : (mid m ((d : Thread nD τ).loc main_v1) : S1x1024.Idx → F .f32)
    = shapeCast S1x1024 (m ((d : Thread nD τ).loc main_arg8) : S1024.Idx → F .f32) shapeCasts_S1024_S1x1024 := by
  show (op1 (F := F)).result ((op0 (F := F)).result fun b => m (d, b)) (Proc.devRef .tc main_v1) = _
  rw [StableHlo.reshape_result, StableHlo.reshape_result_ne _ _ _ _ _ _ _ (by decide)]
  rfl

/-! ## The values -/

abbrev idsD (d : Dev nD) : Ids := m ((d : Thread nD τ).loc main_arg0)
abbrev tabD (d : Dev nD) : Tab F := m ((d : Thread nD τ).loc main_arg2)
abbrev encD (d : Dev nD) : Enc F := encA (mid m) d
/-- The program's result. -/
def resD (d : Dev nD) : S4x4096x1024.Idx → F .f32 :=
  shapeCast S4x4096x1024 (outV (idsD m d) (tabD m d) (encD m d)) shapeCasts_S16384x1024_S4x4096x1024

/-- What the program leaves the claim. -/
def FIN (d : Dev nD) : sProp 𝕄 :=
  iprop(ptc d main_arg0 (m ((d : Thread nD τ).loc main_arg0)) ∗ ptc d main_arg1 (m ((d : Thread nD τ).loc main_arg1)) ∗ ptc d main_arg2 (m ((d : Thread nD τ).loc main_arg2))
    ∗ ptc d main_arg3 (m ((d : Thread nD τ).loc main_arg3)) ∗ ptc d main_arg4 (m ((d : Thread nD τ).loc main_arg4)) ∗ ptc d main_arg5 (m ((d : Thread nD τ).loc main_arg5))
    ∗ ptc d main_arg6 (m ((d : Thread nD τ).loc main_arg6)) ∗ ptc d main_arg7 (m ((d : Thread nD τ).loc main_arg7)) ∗ ptc d main_arg8 (m ((d : Thread nD τ).loc main_arg8))
    ∗ ptc d main_v4 (resD m d))

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem own_EP (x : UP) : (BI.own ((embR : Emb (UP × Counters) 𝕄) (x, 1)) : sProp 𝕄) = BI.own (EP x) := rfl

theorem hu₀ : (ownU (u₀ (F := F)) : sProp 𝕄)
    ⊢ |={Set.univ}=> iprop(BI.own (EH (initOf (K (F := F)).hsCells (K (F := F)).hsToks)) ∗ (bigSep Finset.univ fun d : Dev nD => regGhost (F := F) d)
        ∗ bigSep Finset.univ fun thr : Thread nD τ => bigSep Finset.univ fun q : Fin 1 => (P (F := F) (idsD m) (tabD m) (encD m)).x q thr) := by
  have hx : (bigSep Finset.univ fun thr : Thread nD τ => bigSep Finset.univ fun q : Fin 1 => (P (F := F) (idsD m) (tabD m) (encD m)).x q thr) = (iprop(emp) : sProp 𝕄) :=
    (bigSep_congr fun _ _ => bigSep_univ_of_subsingleton (0 : Fin 1)).trans (bigSep_emp_const _)
  have hg : (bigSep Finset.univ fun d : Dev nD => regGhost (F := F) d)
      = iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄))) := by
    rw [← bigSep_sep']
    refine bigSep_congr fun d _ => ?_
    rw [bigSep_univ_of_subsingleton (0 : Fin 1), bigSep_univ_of_subsingleton (0 : Fin 1)]
    rfl
  rw [hx, hg]
  unfold u₀
  iintro Hu
  ihave H := (ownU_pair _ _) $$ Hu
  icases H with ⟨HH, HR⟩
  ihave HR := (Entails.of_eq (own_EP _)) $$ HR
  imod (Pipeline.fund_ghost (Pipeline.pin (pcfgs (F := F)) adm) EP cellOf_inj) $$ HR with HG
  imodintro
  isplitl [HH]; · iexact HH
  isplitl [HG]; · iexact HG
  iempintro

/-! ## The host's program on the TensorCore -/

/-- The region's call alone. -/
theorem wp_region_call [∀ e, Nonempty (Elt F e)] (mm : (ℓ : Loc nD τ sig) → Buf (Elt F) ℓ)
    (hti : ∀ (c : Dev nD) x, ((mm ((c : Thread nD τ).loc main_arg1) : S4.Idx → BitVec 32) x).toNat < 8) (c : Dev nD) {Q : PUnit → sProp 𝕄} :
    iprop(boundary (SparseCore.T c : Thread nD τ) ∗ unscopedBufs c (fun b => mm ((c : Thread nD τ).loc b)) ∗ owe0 (F := F) c ∗ levAts (K (F := F)).L (K (F := F)).lev
        ∗ regGhost (F := F) c
        ∗ (iprop(boundary (SparseCore.T c : Thread nD τ) ∗ arrPost mm c ∗ restPost mm c ∗ owe0 (F := F) c) -∗ Q ⟨⟩))
      ⊢ wp frame (wpE ((K (F := F)).defs (D (F := F))) 𝒱 (SparseCore.T c) none) Set.univ (Prog.lift (.customCall (SparseCore.inner (Pipeline.entry 0)) ())) Q := by
  have h := wp_region (F := F) mm hti c (k := fun _ => .ret ⟨⟩) (Q := Q)
  refine BIBase.Entails.trans ?_ h
  iintro ⟨Hb, Hu, HO, HL, HG, Hk⟩
  iframe Hb Hu HO HL HG
  iintro H
  iapply (le_wp_ret _ _ _ _ _)
  iapply Hk; iexact H

/-- A TensorCore's state before the calls: what it owes, and the rest. -/
theorem tcSt_owe (d : Dev nD) : ∃ R : sProp 𝕄, (K (F := F)).tcSt EH d 0 = iprop(owe0 (F := F) d ∗ R) := ⟨_, rfl⟩

/-- The host's arrays of the last reshape. -/
def endV (d : Dev nD) : Valuation τ sig (Elt F) :=
  Function.update (midV m d) (Proc.devRef .tc main_v3) (outV (idsD m d) (tabD m d) (encD m d))

theorem op2_bufs : (op2 (F := F)).bufs = {(Proc.devRef .tc main_v3 : DevRef τ sig), Proc.devRef .tc main_v4} := rfl

theorem held_end (d : Dev nD) (V : Valuation τ sig (Elt F)) :
    (held (SparseCore.T d) (op2 (F := F)).bufs V : sProp 𝕄)
      = iprop(ptc d main_v3 (V (Proc.devRef .tc main_v3)) ∗ ptc d main_v4 (V (Proc.devRef .tc main_v4))) := by
  rw [op2_bufs]
  unfold held
  rw [SparseCore.bigSep_insert' (by decide), bigSep_singleton]

theorem endV_v3 (d : Dev nD) : endV m d (Proc.devRef .tc main_v3) = outV (idsD m d) (tabD m d) (encD m d) := Function.update_self ..
theorem endV_v4 (d : Dev nD) : endV m d (Proc.devRef .tc main_v4) = mid m ((d : Thread nD τ).loc main_v4) :=
  Function.update_of_ne (by decide) ..

theorem res_eq (d : Dev nD) : ((op2 (F := F)).result (endV m d) (Proc.devRef .tc main_v4) : S4x4096x1024.Idx → F .f32) = resD m d := by
  refine (StableHlo.reshape_result main_v3 main_v4 _ _ _ _ _).trans ?_
  unfold resD
  rw [← endV_v3 m d]
  rfl

theorem held_after (d : Dev nD) :
    (held (SparseCore.T d) (op2 (F := F)).bufs ((op2 (F := F)).result (endV m d)) : sProp 𝕄)
      = iprop(ptc d main_v3 ((op2 (F := F)).result (endV m d) (Proc.devRef .tc main_v3)) ∗ ptc d main_v4 (resD m d)) := by
  rw [held_end, res_eq]

theorem op0_sub : (op0 (F := F)).bufs ⊆ Pipeline.ucRefs τ sig :=
  Pipeline.sub_ucRefs _ (show ({(Proc.devRef .tc main_arg6 : DevRef τ sig), Proc.devRef .tc main_v0} : Finset (DevRef τ sig)) ⊆ StableHlo.tcRefs τ sig by decide)
theorem op1_sub : (op1 (F := F)).bufs ⊆ Pipeline.ucRefs τ sig :=
  Pipeline.sub_ucRefs _ (show ({(Proc.devRef .tc main_arg8 : DevRef τ sig), Proc.devRef .tc main_v1} : Finset (DevRef τ sig)) ⊆ StableHlo.tcRefs τ sig by decide)

/-- What the call hands back. -/
theorem dn_back (d : Dev nD) :
    (bigSep Finset.univ fun c : Fin ((K (F := F)).nCore 0) => (P (F := F) (idsD m) (tabD m) (encD m)).dn 0 d c)
      = (iprop((ℓids d ↦{fullShare} idsD m d) ∗ (ℓtab d ↦{fullShare} tabD m d) ∗ (ℓenc d ↦{fullShare} encD m d) ∗ (ℓout d ↦{fullShare} outV (idsD m d) (tabD m d) (encD m d))) : sProp 𝕄) :=
  back d (idsD m d) (tabD m d) (encD m d)

theorem hmain [∀ e, Nonempty (Elt F e)] (hti : ∀ (d : Dev nD) x, ((m ((d : Thread nD τ).loc main_arg1) : S4.Idx → BitVec 32) x).toNat < 8)
    (κ : GSem nD τ sig → ℕ) (d : Dev nD) :
    iprop((K (F := F)).ctx EH (P (F := F) (idsD m) (tabD m) (encD m)) κ ∗ (K (F := F)).tcSt EH d 0 ∗ (K (F := F)).tcRes m ρ d ∗ regGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_owe (F := F) d
  have hti' : ∀ (c : Dev nD) x, ((mid m ((c : Thread nD τ).loc main_arg1) : S4.Idx → BitVec 32) x).toNat < 8 := fun c x => by
    rw [mid_ne m c main_arg1 (by decide) (by decide)]; exact hti c x
  have h0 : (unscopedBufs d (fun b => m ((SparseCore.T d : Thread nD τ).loc b)) : sProp 𝕄) = held (SparseCore.T d) (Pipeline.ucRefs τ sig) (fun b => m (d, b)) :=
    Pipeline.unscopedBufs_held d (fun b => m (d, b))
  have h1 : (held (SparseCore.T d) (Pipeline.ucRefs τ sig) (op1.result (op0.result fun b => m (d, b))) : sProp 𝕄)
      = unscopedBufs d (fun b => mid m ((d : Thread nD τ).loc b)) := (Pipeline.unscopedBufs_held d (midV m d)).symm
  unfold SparseCore.Cfg.tcRes SparseCore.Cfg.tcEnd
  rw [h0]
  simp only [main, wp_bind, wp_pure]
  iintro ⟨#Hctx, Hst, ⟨Hb, Hheld, Hts, -⟩, Hg⟩
  iapply (wp_hlo_within 𝒱 (SparseCore.T d) none Set.univ (op := op0) (S := Pipeline.ucRefs τ sig) (op0_sub (F := F)) (V := fun b => m (d, b))) $$ [Hb Hheld]
  · iframe Hb Hheld
  iintro ⟨Hb, Hheld⟩
  iapply (le_wp_ret _ _ _ _ _)
  iapply (wp_hlo_within 𝒱 (SparseCore.T d) none Set.univ (op := op1) (S := Pipeline.ucRefs τ sig) (op1_sub (F := F)) (V := op0.result fun b => m (d, b))) $$ [Hb Hheld]
  · iframe Hb Hheld
  iintro ⟨Hb, Hheld⟩
  iapply (le_wp_ret _ _ _ _ _)
  ihave Hu := (Entails.of_eq h1) $$ Hheld
  ihave Hst' := (Entails.of_eq hR) $$ Hst
  icases Hst' with ⟨HO, HR⟩
  ihave Hlev := (SparseCore.Cfg.ctx_levAts κ) $$ Hctx
  iapply (wp_region_call (F := F) (mid m) hti' d)
  iframe Hb Hu HO Hlev Hg
  iintro ⟨Hb, Ha, Hr, HO⟩
  unfold arrPost restPost
  rw [mid_ne m d main_arg0 (by decide) (by decide), mid_ne m d main_arg1 (by decide) (by decide), mid_ne m d main_arg2 (by decide) (by decide),
    mid_ne m d main_arg3 (by decide) (by decide), mid_ne m d main_arg4 (by decide) (by decide), mid_ne m d main_arg5 (by decide) (by decide),
    mid_ne m d main_arg6 (by decide) (by decide), mid_ne m d main_arg7 (by decide) (by decide), mid_ne m d main_arg8 (by decide) (by decide)]
  icases Ha with ⟨H1, H3, H4, H5, -, H7, -, He⟩
  icases Hr with ⟨H0, H2, H6, H8, Ho, Hv⟩
  ihave Hst := (Entails.of_eq hR.symm) $$ [HO HR]
  · iframe HO HR
  iapply ((K (F := F)).wp_run (D (F := F)) 𝒱 (EH := EH) (P := P (F := F) (idsD m) (tabD m) (encD m)) κ d 0)
  isplitr; · iexact Hctx
  isplitl [Hst]; · iexact Hst
  isplitl [H0 H2 He Ho]
  · iapply (deal d (idsD m d) (tabD m d) (encD m d) _)
    isplitl [H0]; · iexact H0
    isplitl [H2]; · iexact H2
    isplitl [He]; · iexact He
    iexact Ho
  iintro ⟨Hst, Hdn⟩
  ihave Hd := (Entails.of_eq (dn_back m d)) $$ Hdn
  icases Hd with ⟨H0, H2, -, Ho⟩
  iapply (wp_hlo_within 𝒱 (SparseCore.T d) none Set.univ (op := op2) (S := (op2 (F := F)).bufs) (Finset.Subset.refl _) (V := endV m d)) $$ [Hb Ho Hv]
  · isplitl [Hb]; · iexact Hb
    rw [held_end, endV_v3, endV_v4]
    isplitl [Ho]; · iexact Ho
    iexact Hv
  iintro ⟨Hb, Hh⟩
  ihave Hh' := (Entails.of_eq (held_after m d)) $$ Hh
  icases Hh' with ⟨-, Hv⟩
  rw [wp_ret]
  imodintro
  imodintro
  isplitl [Hst]; · iexact Hst
  isplitr [Hb Hts]
  · unfold FIN
    iframe H0 H1 H2 H3 H4 H5 H6 H7 H8 Hv
  isplitl [Hb] <;> iassumption

/-! ## The program's run -/

/-- A device's memory as the claims have it: the arguments as they were, the result `resD`. -/
def fq (d : Dev nD) (mem : (ℓ : Loc nD τ sig) → Buf (Elt F) ℓ) : Prop :=
  (∀ b ∈ ([main_arg0, main_arg1, main_arg2, main_arg3, main_arg4, main_arg5, main_arg6, main_arg7, main_arg8] : List (Ref sig .tc)), mem ((d : Thread nD τ).loc b) = m ((d : Thread nD τ).loc b))
    ∧ mem ((d : Thread nD τ).loc main_v4) = resD m d

theorem agree (d : Dev nD) (b : Ref sig .tc) (f : b.ty.Contents (Elt F)) (s' : Phys nD τ sig (Elt F)) :
    iprop(SI s' ∗ ptc d b f) ⊢ (iprop(⌜s'.mem.mem ((d : Thread nD τ).loc b) = f⌝ ∗ SI s') : sProp 𝕄) := by
  iintro H
  ihave H' := (persistent_entails_right (SI_pointsTo_agree (st := s') (ℓ := (d : Thread nD τ).loc b) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'.mem.mem⌝ : sProp 𝕄) := by
  unfold FIN
  iintro ⟨⟨H0, H1, H2, H3, H4, H5, H6, H7, H8, Hv⟩, HSI⟩
  ihave H := (agree d main_arg0 _ s') $$ [HSI H0]; · iframe HSI H0
  icases H with ⟨%e0, HSI⟩
  ihave H := (agree d main_arg1 _ s') $$ [HSI H1]; · iframe HSI H1
  icases H with ⟨%e1, HSI⟩
  ihave H := (agree d main_arg2 _ s') $$ [HSI H2]; · iframe HSI H2
  icases H with ⟨%e2, HSI⟩
  ihave H := (agree d main_arg3 _ s') $$ [HSI H3]; · iframe HSI H3
  icases H with ⟨%e3, HSI⟩
  ihave H := (agree d main_arg4 _ s') $$ [HSI H4]; · iframe HSI H4
  icases H with ⟨%e4, HSI⟩
  ihave H := (agree d main_arg5 _ s') $$ [HSI H5]; · iframe HSI H5
  icases H with ⟨%e5, HSI⟩
  ihave H := (agree d main_arg6 _ s') $$ [HSI H6]; · iframe HSI H6
  icases H with ⟨%e6, HSI⟩
  ihave H := (agree d main_arg7 _ s') $$ [HSI H7]; · iframe HSI H7
  icases H with ⟨%e7, HSI⟩
  ihave H := (agree d main_arg8 _ s') $$ [HSI H8]; · iframe HSI H8
  icases H with ⟨%e8, HSI⟩
  ihave H := (agree d main_v4 _ s') $$ [HSI Hv]; · iframe HSI Hv
  icases H with ⟨%e9, -⟩
  ipureintro
  refine ⟨?_, e9⟩
  simp only [List.forall_mem_cons, List.not_mem_nil, false_imp_iff, implies_true, and_true]
  exact ⟨e0, e1, e2, e3, e4, e5, e6, e7, e8⟩

def QC : PUnit × MemSt nD τ sig (Elt F) → Prop := fun r => (∀ d : Dev nD, fq m d r.2.mem) ∧ r.2.sem = fun _ => 0

theorem run_main [∀ e, Nonempty (Elt F e)] (hid : ∀ (d : Dev nD) x, ((m ((d : Thread nD τ).loc main_arg0) : S4x4096.Idx → BitVec 32) x).toNat < 32100)
    (hti : ∀ (d : Dev nD) x, ((m ((d : Thread nD τ).loc main_arg1) : S4.Idx → BitVec 32) x).toNat < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (idsD m) (tabD m) (encD m)) (A := ∅) facts v₀
    (fun q hq => match q with | 0 => nomatch hq)
    (fun q _ => match q with | 0 => tileObl (idsD m) (tabD m) (encD m) facts hid)
    (fun q _ => match q with | 0 => SparseCore.Cfg.VecSplit.of_plain (vecSplit (idsD m) (tabD m) (encD m)))
    m ρ main (fun d => regGhost (F := F) d) (FIN m) (u₀ (F := F)) (sep_elim_left.trans (hu₀ m)) (hmain m ρ hti) (fun d s => fq m d s.mem.mem) (hfin m) (QC m) (fun _ h hz => ⟨h, hz⟩)

end Cert.Proof.Tile

end
-- ==== Proof.Frames.lean ====
/-
  What the precondition says of the two index arrays, and the frames of the three programs.
-/
module

public import proofs.«01_k».proof.Proof.Main
public import proofs.«01_k».proof.Defs
public import proofs.«01_k».proof.Proof.Gen.ReferenceIdeal.Run
public import proofs.«01_k».proof.Proof.Gen.Pre_ids_in_range
public import Idealize.ShloMosaic.Lib.ReduceAll

@[expose] public section

noncomputable section

namespace Cert.Proof.Frames

open Idealize.ShloMosaic Idealize.ShloMosaic.TcCoe Idealize.SL.Sem

theorem andi_ones {a b : BitVec 1} (h : IntOp.andi a b = 1#1) : a = 1#1 ∧ b = 1#1 := by
  revert a b; decide

/-- A word that is at least zero and below `n`, both read signed, is its own value, below `n`. -/
theorem below (n : ℕ) (hn : n < 2 ^ 31) (v : BitVec 32) (h₀ : IntOp.cmpi .sge v 0#32 = 1#1)
    (h₁ : IntOp.cmpi .slt v (BitVec.ofNat 32 n) = 1#1) : v.toNat < n := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h₀ h₁
  rw [Nat.mod_eq_of_lt (by omega)] at h₁
  omega

instance : Subsingleton Cert.Pre_ids_in_range.S_.Idx := ⟨fun a b => funext fun i => i.elim0⟩

/-- The precondition, all ones, bounds every token index by 32100 and every task index by 8. -/
theorem ranges {F : FTy → Type} [FloatOps F] (a₀ : IVec Cert.Pre_ids_in_range.S4x4096 32) (a₁ : IVec Cert.Pre_ids_in_range.S4 32)
    (a₂ a₃ a₄ a₅ a₆ a₇ a₈) (h : Cert.Pre_ids_in_range.fn (F := F) a₀ a₁ a₂ a₃ a₄ a₅ a₆ a₇ a₈ = fun _ => 1#1) :
    (∀ x, (a₀ x).toNat < 32100) ∧ ∀ x, (a₁ x).toNat < 8 := by
  have e := congrFun h (fun i => i.elim0)
  simp only [Cert.Pre_ids_in_range.fn] at e
  obtain ⟨e, hd⟩ := andi_ones e
  obtain ⟨e, hc⟩ := andi_ones e
  obtain ⟨ha, hb⟩ := andi_ones e
  exact ⟨fun x => below 32100 (by omega) _ (Host.reduce_andi_all _ _ _ _ _ ha x) (Host.reduce_andi_all _ _ _ _ _ hb x),
    fun x => below 8 (by omega) _ (Host.reduce_andi_all _ _ _ _ _ hc x) (Host.reduce_andi_all _ _ _ _ _ hd x)⟩

/-- `run_main` with its range conditions read off the precondition. -/
theorem run_pre {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : ∀ c : Dev Cert.KernelIdeal.nD, Cert.Pre_ids_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1) :
    θ_run (Cert.KernelIdeal.defs (F := F)) (Cert.KernelIdeal.threads (F := F)) ⟨m, fun _ => 0, g⟩ (Cert.Proof.Tile.QC m) :=
  Cert.Proof.Tile.run_main m g (fun d x => (ranges _ _ _ _ _ _ _ _ _ (h d)).1 x) (fun d x => (ranges _ _ _ _ _ _ _ _ _ (h d)).2 x)

theorem frame_kernel_ideal : Cert.quiescent_KernelIdeal := fun m g hpre =>
  (θ_run Cert.KernelIdeal.defs _ _).mono (fun _ h => ⟨fun c =>
    ⟨(h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide)⟩, h.2⟩) (run_pre (F := Ideal) m g hpre)

/-- The reference declares no semaphore, so every counter it ends with is zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_ids_in_range := fun m g _ => frame_reference m g trivial

end Cert.Proof.Frames

end

end
-- ==== Proof.SameA.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part7 : @Cert.Kernel.k1_part7 F _ = @Cert.KernelIdeal.k1_part7 F _ := (rfl)

end Cert.Proof.Same

end

end
-- ==== Proof.SameB.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part12 : @Cert.Kernel.k1_part12 F _ = @Cert.KernelIdeal.k1_part12 F _ := (rfl)

end Cert.Proof.Same

end

end
-- ==== Proof.SameC.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part11 : @Cert.Kernel.k1_part11 F _ = @Cert.KernelIdeal.k1_part11 F _ := (rfl)
theorem part20 : @Cert.Kernel.k1_part20 F _ = @Cert.KernelIdeal.k1_part20 F _ := (rfl)

end Cert.Proof.Same

end

end
-- ==== Proof.SameD.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part8 : @Cert.Kernel.k1_part8 F _ = @Cert.KernelIdeal.k1_part8 F _ := (rfl)
theorem part21 : @Cert.Kernel.k1_part21 F _ = @Cert.KernelIdeal.k1_part21 F _ := (rfl)
theorem part15 : @Cert.Kernel.k1_part15 F _ = @Cert.KernelIdeal.k1_part15 F _ := (rfl)

end Cert.Proof.Same

end

end
-- ==== Proof.SameE.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part16 : @Cert.Kernel.k1_part16 F _ = @Cert.KernelIdeal.k1_part16 F _ := (rfl)
theorem part17 : @Cert.Kernel.k1_part17 F _ = @Cert.KernelIdeal.k1_part17 F _ := (rfl)

end Cert.Proof.Same

end

end
-- ==== Proof.SameF.lean ====
/-
  The two kernel programs have one text: here for the windows of the SparseCore kernel's body named below.
-/
module

public import proofs.«01_k».proof.Proof.Gen.KernelIdeal
public import proofs.«01_k».proof.Proof.Gen.Kernel

@[expose] public section

set_option maxRecDepth 100000
set_option maxHeartbeats 0

noncomputable section

namespace Cert.Proof.Same

open Idealize.ShloMosaic

variable {F : FTy → Type} [FloatOps F]

theorem part5 : @Cert.Kernel.k1_part5 F _ = @Cert.KernelIdeal.k1_part5 F _ := (rfl)
theorem part6 : @Cert.Kernel.k1_part6 F _ = @Cert.KernelIdeal.k1_part6 F _ := (rfl)
theorem part9 : @Cert.Kernel.k1_part9 F _ = @Cert.KernelIdeal.k1_part9 F _ := (rfl)
theorem part10 : @Cert.Kernel.k1_part10 F _ = @Cert.KernelIdeal.k1_part10 F _ := (rfl)
theorem part13 : @Cert.Kernel.k1_part13 F _ = @Cert.KernelIdeal.k1_part13 F _ := (rfl)
theorem part14 : @Cert.Kernel.k1_part14 F _ = @Cert.KernelIdeal.k1_part14 F _ := (rfl)
theorem part18 : @Cert.Kernel.k1_part18 F _ = @Cert.KernelIdeal.k1_part18 F _ := (rfl)
theorem part19 : @Cert.Kernel.k1_part19 F _ = @Cert.KernelIdeal.k1_part19 F _ := (rfl)
theorem part22 : @Cert.Kernel.k1_part22 F _ = @Cert.KernelIdeal.k1_part22 F _ := (rfl)
theorem part23 : @Cert.Kernel.k1_part23 F _ = @Cert.KernelIdeal.k1_part23 F _ := (rfl)
theorem part24 : @Cert.Kernel.k1_part24 F _ = @Cert.KernelIdeal.k1_part24 F _ := (rfl)

end Cert.Proof.Same

end

end
-- ==== Proof.Same.lean ====
/-
  The two kernel programs have one text, so they are one program: the kernels' bodies, the body table and the threads
  of one equal those of the other.
-/
module

public import proofs.«01_k».proof.Proof.Gen.KernelIdeal
public import proofs.«01_k».proof.Proof.Gen.Kernel
public import proofs.«01_k».proof.Proof.SameA
public import proofs.«01_k».proof.Proof.SameB
public import proofs.«01_k».proof.Proof.SameC
public import proofs.«01_k».proof.Proof.SameD
public import proofs.«01_k».proof.Proof.SameE
public import proofs.«01_k».proof.Proof.SameF

@[expose] public section

set_option maxRecDepth 100000
set_option maxHeartbeats 0

noncomputable section

namespace Cert.Proof.Same

open Idealize.ShloMosaic

variable {F : FTy → Type} [FloatOps F]

theorem part25 : @Cert.Kernel.k1_part25 F _ = @Cert.KernelIdeal.k1_part25 F _ := by
  delta Cert.Kernel.k1_part25 Cert.KernelIdeal.k1_part25
  rw [part5, part6, part7, part8, part9, part10, part11, part12, part13, part14, part15, part16, part17, part18, part19, part20, part21]
  rfl

theorem body : @Cert.Kernel.cc1_sc_fn F _ = @Cert.KernelIdeal.cc1_sc_fn F _ := by
  delta Cert.Kernel.cc1_sc_fn Cert.KernelIdeal.cc1_sc_fn
  rw [part22, part23, part24, part25]
  rfl

/-- The encoder's label. -/
theorem on_tc (a) : @Cert.Kernel.defs₀ F _ _ .tc 0 a = @Cert.KernelIdeal.defs₀ F _ _ .tc 0 a := by
  rfl

/-- The SparseCore kernel's label. -/
theorem on_tile (c s a) : @Cert.Kernel.defs₀ F _ _ (.scVector c s) 1 a = @Cert.KernelIdeal.defs₀ F _ _ (.scVector c s) 1 a := by
  delta Cert.Kernel.defs₀ Cert.KernelIdeal.defs₀
  dsimp only
  rw [body]
  rfl

theorem defs₀ : @Cert.Kernel.defs₀ F _ _ = @Cert.KernelIdeal.defs₀ F _ _ := by
  funext p ℓ a
  match p, ℓ with
  | .tc, 0 => exact on_tc a
  | .tc, 1 => rfl
  | .scScalar _, 0 => rfl
  | .scScalar _, 1 => rfl
  | .scVector _ _, 0 => rfl
  | .scVector c s, 1 => exact on_tile c s a

theorem defs : @Cert.Kernel.defs F _ _ = @Cert.KernelIdeal.defs F _ _ := by
  delta Cert.Kernel.defs Cert.KernelIdeal.defs
  rw [defs₀]
  rfl

theorem threads : @Cert.Kernel.threads F _ = @Cert.KernelIdeal.threads F _ := (rfl)

end Cert.Proof.Same

end

end
-- ==== Proof.FrameKernel.lean ====
/-
  The frame of the kernel as printed: the two kernels have one text, so the run over any float values is its run too.
-/
module

public import proofs.«01_k».proof.Proof.Frames
public import proofs.«01_k».proof.Proof.Same

@[expose] public section

noncomputable section

namespace Cert.Proof.Frames

open Idealize.ShloMosaic Idealize.ShloMosaic.TcCoe Idealize.SL.Sem

set_option maxRecDepth 100000 in
set_option maxHeartbeats 0 in
theorem frame_kernel : Cert.quiescent_Kernel := by
  intro m g hpre
  rw [Same.defs, Same.threads]
  exact (θ_run Cert.KernelIdeal.defs _ _).mono (fun _ h => ⟨fun c =>
    ⟨(h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide)⟩, h.2⟩) (run_pre (F := Bits) m g hpre)

end Cert.Proof.Frames

end

end
-- ==== Proof.Equation.lean ====
/-
  What the two programs return, read at one position over the extended reals, and that it is the same.
-/
module

public import proofs.«01_k».proof.Proof.Frames
public import Idealize.ShloMosaic.Lib.Pointwise.Contract
public import Idealize.ShloMosaic.Lib.Pipeline.Value
public import Idealize.ShloMosaic.Lib.Routing.Ops
public import Idealize.ShloMosaic.Lib.Routing.OpsPair
public import Idealize.ShloMosaic.PureOps.Ideal.Laws

@[expose] public section

noncomputable section

namespace Cert.Proof.Equation

open Idealize.ShloMosaic Idealize.ShloMosaic.TcCoe Idealize.SL.Sem
open Cert.Proof.Tile (ix2_0 ix2_1 eq_ix2 trow ent encOf outRow outV tok)
open scoped BigOperators

abbrev S2 (n m : ℕ) : Shape := ⟨2, ![n, m]⟩
abbrev SO : Shape := ⟨3, ![4, 4096, 1024]⟩
abbrev SI : Shape := ⟨3, ![4, 4096, 1]⟩
abbrev ixO (b : Fin 4) (s : Fin 4096) (x : Fin 1024) : SO.Idx := ValueIdx.ix3 b s x

/-- Two layers with a bias each, the first through a maximum with zero, of one row. -/
def mlp (h : Fin 1024 → EReal) (w1 : (S2 1024 1024).Idx → EReal) (b1 : Fin 1024 → EReal) (w2 : (S2 1024 1024).Idx → EReal)
    (b2 : Fin 1024 → EReal) (x : Fin 1024) : EReal :=
  (∑ k : Fin 1024, max ((∑ j : Fin 1024, h j * w1 (ValueIdx.ix2 j k)) + b1 k) 0 * w2 (ValueIdx.ix2 k x)) + b2 x

/-! ## The kernel's encoder -/

/-- The kernel's product at a position. -/
theorem product (l : FVec Ideal (S2 400 1024) .f32) (r : FVec Ideal (S2 1024 1024) .f32) (p : Fin 400) (q : Fin 1024) :
    matmul Cert.KernelIdeal.dot_S400x1024_S1024x1024_S400x1024_1_0_0_1_n_n none l r
      (constant Cert.KernelIdeal.S400x1024 .f32 0x00000000#32) (ValueIdx.ix2 p q)
      = ∑ k : Fin 1024, l (ValueIdx.ix2 p k) * r (ValueIdx.ix2 k q) := by
  refine (Ideal.matmul_constant_zero_apply _ none l r _).trans ?_
  rw [DotDims.sum_contr₁ (a := (1 : Fin 2)) _ rfl rfl]
  refine Finset.sum_congr rfl fun k _ => ?_
  refine congrArg₂ (fun a b => l a * r b) ?_ ?_ <;>
  · funext a
    apply Fin.ext
    match a with
    | ⟨0, _⟩ => rfl
    | ⟨1, _⟩ => rfl

/-- One row spread over the rows of a taller array. -/
theorem spread {α : Type} (n : ℕ) (v : (S2 1 1024).Idx → α) (h : (S2 1 1024).Broadcasts (S2 n 1024)) (p : Fin n) (q : Fin 1024) :
    broadcastTo (S2 n 1024) v h (ValueIdx.ix2 p q) = v (ValueIdx.ix2 0 q) := by
  refine congrArg v (funext fun a => Fin.ext ?_)
  match a with
  | ⟨0, _⟩ => rfl
  | ⟨1, _⟩ => rfl

theorem cast_self {α : Type} (s : Shape) (x : s.Idx → α) (h : s.ShapeCasts s) : shapeCast s x h = x := by
  funext j
  exact congrArg x (s.rowMajor.symm_apply_apply j)

/-- Four arrays of a hundred rows, one under the other, at row `r` of the `b`-th. -/
theorem stacked {α : Type} (a : Fin 4 → (S2 100 1024).Idx → α)
    (h : Shape.Concatenates ([⟨S2 100 1024, a 0⟩, ⟨S2 100 1024, a 1⟩, ⟨S2 100 1024, a 2⟩, ⟨S2 100 1024, a 3⟩].map
      (fun p : (s : Shape) × (s.Idx → α) => p.1)) (S2 400 1024) 0)
    (b : Fin 4) (r : Fin 100) (p : Fin 400) (hp : p.val = b.val * 100 + r.val) (q : Fin 1024) :
    concatenate (S2 400 1024) 0 [⟨S2 100 1024, a 0⟩, ⟨S2 100 1024, a 1⟩, ⟨S2 100 1024, a 2⟩, ⟨S2 100 1024, a 3⟩] h (ValueIdx.ix2 p q)
      = a b (ValueIdx.ix2 r q) := by
  have off : ∀ c : Fin 2, c.cast rfl ≠ (0 : Fin 2) → ((ValueIdx.ix2 r q : (S2 100 1024).Idx) c).val = ((ValueIdx.ix2 p q : (S2 400 1024).Idx) c).val :=
    fun c hc => by
      match c with
      | ⟨0, _⟩ => exact absurd rfl hc
      | ⟨1, _⟩ => rfl
  refine concatenate_apply_piece (t := S2 400 1024) 0 _ h (ValueIdx.ix2 p q) b.val b.isLt (S2 100 1024) (a b) ?_ rfl (b.val * 100) ?_
    (ValueIdx.ix2 r q) off hp.symm
  · fin_cases b <;> rfl
  · fin_cases b <;> rfl

/-- The encoder's row `b · 100 + r`: the layers applied to prompt row `r` with the `b`-th text's task row added. -/
theorem encoded (ti : (⟨1, ![4]⟩ : Shape).Idx → BitVec 32) (pr : FVec Ideal (S2 100 1024) .f32) (ta : FVec Ideal (S2 8 1024) .f32)
    (w1 : FVec Ideal (S2 1024 1024) .f32) (b1 : FVec Ideal (S2 1 1024) .f32) (w2 : FVec Ideal (S2 1024 1024) .f32) (b2 : FVec Ideal (S2 1 1024) .f32)
    (b : Fin 4) (r : Fin 100) (p : Fin 400) (hp : p.val = b.val * 100 + r.val) (q : Fin 1024) :
    encOf (F := Ideal) ti pr ta w1 b1 w2 b2 (ValueIdx.ix2 p q)
      = mlp (fun j => pr (ValueIdx.ix2 r j) + ta (Tile.ix2 8 1024 (ti (ent b)).toNat j.val)) w1 (fun k => b1 (ValueIdx.ix2 0 k)) w2
          (fun k => b2 (ValueIdx.ix2 0 k)) q := by
  have inner (k : Fin 1024) :
      Cert.KernelIdeal.Gen.k0_pay2 (F := Ideal) (trow ta (ti (ent 0))) pr (trow ta (ti (ent 1))) pr (trow ta (ti (ent 2))) pr (trow ta (ti (ent 3))) pr w1 b1
        (ValueIdx.ix2 p k)
      = max ((∑ j : Fin 1024, (pr (ValueIdx.ix2 r j) + ta (Tile.ix2 8 1024 (ti (ent b)).toNat j.val)) * w1 (ValueIdx.ix2 j k)) + b1 (ValueIdx.ix2 0 k)) 0 := by
    refine congrArg₂ max (congrArg₂ (· + ·) ?_ ?_) Ideal.ofBits_zero_f32
    · refine (product _ _ p k).trans (Finset.sum_congr rfl fun j _ => congrArg (· * _) ?_)
      refine (stacked (fun b => addf pr (broadcastTo Cert.KernelIdeal.S100x1024 (trow ta (ti (ent b)))
        Cert.KernelIdeal.Facts₀.broadcasts_S1x1024_S100x1024)) _ b r p hp j).trans ?_
      exact congrArg (pr (ValueIdx.ix2 r j) + ·) (spread 100 _ _ r j)
    · refine (spread 400 _ _ p k).trans ?_
      rw [cast_self]
  refine congrArg₂ (· + ·) ?_ ?_
  · exact (product _ _ p q).trans (Finset.sum_congr rfl fun k _ => congrArg (· * _) (inner k))
  · refine (spread 400 _ _ p q).trans ?_
    rw [cast_self]

/-! ## The reference -/

/-- The reference's product at a position. -/
theorem product₃ (l : FVec Ideal SO .f32) (r : FVec Ideal (S2 1024 1024) .f32) (b : Fin 4) (s : Fin 4096) (q : Fin 1024) :
    Host.dotGeneral Cert.ReferenceIdeal.dot_S4x4096x1024_S1024x1024_S4x4096x1024_2_0_01_1_n_n none l r (ixO b s q)
      = ∑ k : Fin 1024, l (ixO b s k) * r (ValueIdx.ix2 k q) := by
  refine (Ideal.dotGeneral_apply _ none _ l r _).trans ?_
  rw [DotDims.sum_contr₁ (a := (2 : Fin 3)) _ rfl rfl]
  refine Finset.sum_congr rfl fun k _ => ?_
  refine congrArg₂ (fun a b => l a * r b) ?_ ?_
  · funext a
    apply Fin.ext
    match a with
    | ⟨0, _⟩ => rfl
    | ⟨1, _⟩ => rfl
    | ⟨2, _⟩ => rfl
  · funext a
    apply Fin.ext
    match a with
    | ⟨0, _⟩ => rfl
    | ⟨1, _⟩ => rfl

/-- Whole rows of an `N` by 1024 table taken at a 4 by 4096 array of indices. -/
abbrev rows (N : ℕ) (wf : GatherDims.WF (S2 N 1024) SI SO [2] [0] [] [0] [] 2 ![1, 1024]) : GatherDims (S2 N 1024) SI SO where
  offsetDims := [2]
  collapsedSliceDims := [0]
  operandBatchingDims := []
  startIndicesBatchingDims := []
  startIndexMap := [0]
  indexVectorDim := 2
  sliceSizes := ![1, 1024]
  wf := wf

/-- Such a gather at a position, its index a row of the table. -/
theorem rows_apply {α : Type} (N : ℕ) [NeZero N] (hN : N < 2 ^ 31) (wf) (x : (S2 N 1024).Idx → α) (idx : IVec SI 32)
    (b : Fin 4) (s : Fin 4096) (q : Fin 1024) (v : BitVec 32) (hv : idx (ValueIdx.ix3 b s 0) = v) (hlt : v.toNat < N) :
    Host.gather (rows N wf) x idx (ixO b s q) = x (Tile.ix2 N 1024 v.toNat q.val) := by
  unfold Host.gather
  refine congrArg x (eq_ix2 N 1024 _ _ _ ?_ ?_)
  · show (rows N wf).start (ixO b s q) idx 0 + (rows N wf).batchCoord (ixO b s q) 0 + (rows N wf).offCoord (ixO b s q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows N wf).startIndexMap from List.mem_singleton.mpr rfl)]
    have at0 : (rows N wf).siIdx (ixO b s q) ⟨List.idxOf (0 : Fin 2) (rows N wf).startIndexMap,
        List.idxOf_lt_length_iff.2 (List.mem_singleton.mpr rfl)⟩ = ValueIdx.ix3 b s 0 := by
      funext c
      apply Fin.ext
      match c with
      | ⟨0, _⟩ => rfl
      | ⟨1, _⟩ => rfl
      | ⟨2, _⟩ => rfl
    rw [at0, hv]
    show min v.toInt.toNat (N - 1) = _
    rw [BitVec.toInt_eq_toNat_of_lt (by omega)]
    omega
  · show (rows N wf).start (ixO b s q) idx 1 + (rows N wf).batchCoord (ixO b s q) 1 + (rows N wf).offCoord (ixO b s q) 1 = _
    rw [GatherDims.batchCoord_eq_zero _ _ _ List.not_mem_nil]
    unfold GatherDims.start GatherDims.offCoord
    rw [dif_neg (show (1 : Fin 2) ∉ (rows N wf).startIndexMap by simp),
      dif_pos ((GatherDims.mem_sKept _ _).mpr ⟨by simp, List.not_mem_nil⟩), Nat.zero_add]
    rfl

theorem select_one {α : Type} {s : Shape} (c : IVec s 1) (x y : s.Idx → α) (j : s.Idx) (h : c j = 1#1) : select c x y j = x j := if_pos h
theorem select_zero {α : Type} {s : Shape} (c : IVec s 1) (x y : s.Idx → α) (j : s.Idx) (h : c j = 0#1) : select c x y j = y j :=
  if_neg (by rw [h]; decide)

theorem add_at {s : Shape} (x y : FVec Ideal s .f32) (j : s.Idx) : addf x y j = x j + y j := rfl
theorem max_at {s : Shape} (x y : FVec Ideal s .f32) (j : s.Idx) : maximumf x y j = max (x j) (y j) := rfl

/-- An index that is not negative needs no wrap. -/
theorem no_wrap (s : Shape) (N : BitVec 32) (h) (i : IVec s 32) (hi : ∀ z, (i z).toNat < 2 ^ 31) :
    select (cmpi .slt i (broadcastInDim s ![] h (constantI Cert.ReferenceIdeal.S_ 32 0#32)))
      (addi i (broadcastInDim s ![] h (constantI Cert.ReferenceIdeal.S_ 32 N))) i = i := by
  funext z
  exact Routing.wrap_of_lt (i z) _ (hi z)

/-- The test that a word lies from zero to `K`, both read signed. -/
theorem inside (v : BitVec 32) (K : ℕ) (hK : K < 2 ^ 31) (h : v.toNat ≤ K) :
    IntOp.andi (IntOp.cmpi .sge v 0#32) (IntOp.cmpi .sle v (BitVec.ofNat 32 K)) = 1#1 := by
  have e₀ : IntOp.cmpi .sge v 0#32 = 1#1 := by
    simp only [IntOp.cmpi, BitVec.sle_eq_decide, BitVec.toInt_eq_toNat_cond, BitVec.toNat_ofNat, Nat.reducePow, Nat.reduceMod]
    rw [decide_eq_true (by omega)]; rfl
  have e₁ : IntOp.cmpi .sle v (BitVec.ofNat 32 K) = 1#1 := by
    simp only [IntOp.cmpi, BitVec.sle_eq_decide, BitVec.toInt_eq_toNat_cond, BitVec.toNat_ofNat, Nat.reducePow]
    rw [decide_eq_true (by rw [Nat.mod_eq_of_lt (by omega)]; omega)]; rfl
  rw [e₀, e₁]; rfl

open Cert.ReferenceIdeal Cert.ReferenceIdeal.Facts₀ in
/-- A table's rows taken at indices that are all rows of it: the row the index names, never the filling value. -/
theorem taken (N : ℕ) [NeZero N] (hN : N < 2 ^ 31) (wf) (x : FVec Ideal (S2 N 1024) .f32) (i : IVec S4x4096 32) (K n : BitVec 32)
    (hK : K = BitVec.ofNat 32 (N - 1)) (hi : ∀ z, (i z).toNat < N) (b : Fin 4) (s : Fin 4096) (q : Fin 1024) :
    (select (broadcastInDim S4x4096x1024 ![0, 1] bcast_S4x4096_S4x4096x1024_0_1
        (Host.reduce IntOp.andi
          (andi (cmpi .sge (broadcastInDim S4x4096x1 ![0, 1] bcast_S4x4096_S4x4096x1_0_1
              (select (cmpi .slt i (broadcastInDim S4x4096 ![] bcast_S_S4x4096 (constantI S_ 32 0#32)))
                (addi i (broadcastInDim S4x4096 ![] bcast_S_S4x4096 (constantI S_ 32 n))) i))
              (broadcastInDim S4x4096x1 ![] bcast_S_S4x4096x1 (constantI S_ 32 0#32)))
            (cmpi .sle (broadcastInDim S4x4096x1 ![0, 1] bcast_S4x4096_S4x4096x1_0_1
              (select (cmpi .slt i (broadcastInDim S4x4096 ![] bcast_S_S4x4096 (constantI S_ 32 0#32)))
                (addi i (broadcastInDim S4x4096 ![] bcast_S_S4x4096 (constantI S_ 32 n))) i))
              (broadcastInDim S4x4096x1 ![0, 1, 2] bcast_S1x1x1_S4x4096x1_0_1_2
                (broadcastInDim S1x1x1 ![2] bcast_S1_S1x1x1_2 (constantI S1 32 K)))))
          (constantI S_ 1 1#1) reducesTo_S4x4096x1_S4x4096_d2 h_S_))
      (Host.gather (rows N wf) x (broadcastInDim S4x4096x1 ![0, 1] bcast_S4x4096_S4x4096x1_0_1
        (select (cmpi .slt i (broadcastInDim S4x4096 ![] bcast_S_S4x4096 (constantI S_ 32 0#32)))
          (addi i (broadcastInDim S4x4096 ![] bcast_S_S4x4096 (constantI S_ 32 n))) i)))
      (broadcastInDim S4x4096x1024 ![] bcast_S_S4x4096x1024 (constant S_ .f32 0x7FC00000#32)) : FVec Ideal SO .f32) (ixO b s q)
      = x (Tile.ix2 N 1024 (i (ValueIdx.ix2 b s)).toNat q.val) := by
  subst hK
  rw [no_wrap S4x4096 n bcast_S_S4x4096 i fun z => (hi z).trans hN]
  refine (select_one _ _ _ _ ?_).trans ?_
  · refine Host.reduce_andi_one _ _ _ _ _ rfl fun z => ?_
    exact inside (i _) (N - 1) (by omega) (Nat.le_sub_one_of_lt (hi _))
  · exact rows_apply N hN wf x _ b s q _ (congrArg i (funext fun a => Fin.ext (by
      match a with
      | ⟨0, _⟩ => rfl
      | ⟨1, _⟩ => rfl))) (hi _)

open Cert.ReferenceIdeal Cert.ReferenceIdeal.Facts₀ in
/-- The task rows taken at the texts' task indices. -/
theorem tasked (x : FVec Ideal (S2 8 1024) .f32) (i : IVec S4 32) (hi : ∀ z, (i z).toNat < 8) (b : Fin 4) (q : Fin 1024) :
    (select (broadcastInDim S4x1024 ![0] bcast_S4_S4x1024_0
        (Host.reduce IntOp.andi
          (andi (cmpi .sge (broadcastInDim S4x1 ![0] bcast_S4_S4x1_0
              (select (cmpi .slt i (broadcastInDim S4 ![] bcast_S_S4 (constantI S_ 32 0#32)))
                (addi i (broadcastInDim S4 ![] bcast_S_S4 (constantI S_ 32 8#32))) i))
              (broadcastInDim S4x1 ![] bcast_S_S4x1 (constantI S_ 32 0#32)))
            (cmpi .sle (broadcastInDim S4x1 ![0] bcast_S4_S4x1_0
              (select (cmpi .slt i (broadcastInDim S4 ![] bcast_S_S4 (constantI S_ 32 0#32)))
                (addi i (broadcastInDim S4 ![] bcast_S_S4 (constantI S_ 32 8#32))) i))
              (broadcastInDim S4x1 ![0, 1] bcast_S1x1_S4x1_0_1 (broadcastInDim S1x1 ![1] bcast_S1_S1x1_1 (constantI S1 32 7#32)))))
          (constantI S_ 1 1#1) reducesTo_S4x1_S4_d1 h_S_))
      (Host.gather gather_S8x1024_S4x1_S4x1024_1_0_n_n_0_1_11024 x (broadcastInDim S4x1 ![0] bcast_S4_S4x1_0
        (select (cmpi .slt i (broadcastInDim S4 ![] bcast_S_S4 (constantI S_ 32 0#32)))
          (addi i (broadcastInDim S4 ![] bcast_S_S4 (constantI S_ 32 8#32))) i)))
      (broadcastInDim S4x1024 ![] bcast_S_S4x1024 (constant S_ .f32 0x7FC00000#32)) : FVec Ideal S4x1024 .f32) (ValueIdx.ix2 b q)
      = x (Tile.ix2 8 1024 (i (ent b)).toNat q.val) := by
  rw [no_wrap S4 8#32 bcast_S_S4 i fun z => (hi z).trans (by omega)]
  refine (select_one _ _ _ _ ?_).trans ?_
  · refine Host.reduce_andi_one _ _ _ _ _ rfl fun z => ?_
    exact inside (i _) 7 (by omega) (Nat.le_of_lt_succ (hi _))
  · have h := hi (ent b)
    refine (Routing.gather_row _ rfl rfl rfl rfl rfl x _ b q (⟨(i (ent b)).toNat, h⟩ : Fin 8) ?_ (by omega)).trans ?_
    · rw [BitVec.ofNat_toNat, BitVec.setWidth_eq]
      exact congrArg i (funext fun a => Fin.ext (by
        match a with
        | ⟨0, _⟩ => rfl))
    · exact congrArg x (eq_ix2 8 1024 _ _ _ rfl rfl)

/-- The word held to `0 … 99`, read signed. -/
theorem held (v : BitVec 32) : (IntOp.minsi 99#32 (IntOp.maxsi 0#32 v)).toNat < 100 := by
  simp only [IntOp.minsi, IntOp.maxsi, BitVec.sle_eq_decide, BitVec.slt_eq_decide, decide_eq_true_eq]
  split <;> split <;> simp_all only [BitVec.toInt_eq_toNat_cond, BitVec.toNat_ofNat, Nat.reducePow, Nat.reduceMod] <;> omega

/-- A prompt token's place among the prompt's rows, which the clamp keeps. -/
theorem held_eq (v : BitVec 32) (h₀ : 32000 ≤ v.toNat) (h₁ : v.toNat < 32100) :
    (IntOp.minsi 99#32 (IntOp.maxsi 0#32 (v - 32000#32))).toNat = v.toNat - 32000 := by
  have e : (v - 32000#32).toNat = v.toNat - 32000 := by
    rw [BitVec.toNat_sub]; simp only [BitVec.toNat_ofNat, Nat.reducePow, Nat.reduceMod]; omega
  simp only [IntOp.minsi, IntOp.maxsi, BitVec.sle_eq_decide, BitVec.slt_eq_decide, decide_eq_true_eq]
  split <;> split <;> simp_all only [BitVec.toInt_eq_toNat_cond, BitVec.toNat_ofNat, Nat.reducePow, Nat.reduceMod] <;> omega

theorem prompt_one (v : BitVec 32) (h : 32000 ≤ v.toNat) (h₁ : v.toNat < 32100) : IntOp.cmpi .sge v 32000#32 = 1#1 := by
  simp only [IntOp.cmpi, BitVec.sle_eq_decide, BitVec.toInt_eq_toNat_cond, BitVec.toNat_ofNat, Nat.reducePow, Nat.reduceMod]
  rw [decide_eq_true (by omega)]; rfl

theorem prompt_zero (v : BitVec 32) (h : v.toNat < 32000) : IntOp.cmpi .sge v 32000#32 = 0#1 := by
  simp only [IntOp.cmpi, BitVec.sle_eq_decide, BitVec.toInt_eq_toNat_cond, BitVec.toNat_ofNat, Nat.reducePow, Nat.reduceMod]
  rw [decide_eq_false (by omega)]; rfl

/-- The id the reference reads the token table at. -/
theorem table_id (v : BitVec 32) (h : v.toNat < 32100) : (Scalar.select (IntOp.cmpi .sge v 32000#32) 0#32 v).toNat < 32000 := by
  rcases Nat.lt_or_ge v.toNat 32000 with h' | h'
  · rw [prompt_zero v h']; exact h'
  · rw [prompt_one v h' h]
    exact (by decide : (0#32 : BitVec 32).toNat < 32000)

open Cert.ReferenceIdeal Cert.ReferenceIdeal.Facts₀ in
/-- The reference's result at a position. -/
theorem reference_at (m : (ℓ : Loc nD τ sig) → Buf (Elt Ideal) ℓ) (c : Dev nD) (ids : IVec S4x4096 32) (ti : IVec S4 32)
    (tab : FVec Ideal S32000x1024 .f32) (pr : FVec Ideal S100x1024 .f32) (ta : FVec Ideal S8x1024 .f32) (w1 w2 : FVec Ideal S1024x1024 .f32)
    (b1 b2 : FVec Ideal S1024 .f32)
    (e0 : m ((c.tc : Thread nD τ).loc main_arg0) = ids) (e1 : m ((c.tc : Thread nD τ).loc main_arg1) = ti)
    (e2 : m ((c.tc : Thread nD τ).loc main_arg2) = tab) (e3 : m ((c.tc : Thread nD τ).loc main_arg3) = pr)
    (e4 : m ((c.tc : Thread nD τ).loc main_arg4) = ta) (e5 : m ((c.tc : Thread nD τ).loc main_arg5) = w1)
    (e6 : m ((c.tc : Thread nD τ).loc main_arg6) = b1) (e7 : m ((c.tc : Thread nD τ).loc main_arg7) = w2)
    (e8 : m ((c.tc : Thread nD τ).loc main_arg8) = b2)
    (hid : ∀ z, (ids z).toNat < 32100) (hti : ∀ z, (ti z).toNat < 8) (b : Fin 4) (s : Fin 4096) (q : Fin 1024) :
    (Value.res_main_v22 m c : FVec Ideal SO .f32) (ixO b s q)
      = if 32000 ≤ (ids (ValueIdx.ix2 b s)).toNat then
          mlp (fun j => pr (Tile.ix2 100 1024 ((ids (ValueIdx.ix2 b s)).toNat - 32000) j.val) + ta (Tile.ix2 8 1024 (ti (ent b)).toNat j.val)) w1
            (fun k => b1 (ValueIdx.ix1 k)) w2 (fun k => b2 (ValueIdx.ix1 k)) q
        else tab (Tile.ix2 32000 1024 (ids (ValueIdx.ix2 b s)).toNat q.val) := by
  unfold Value.res_main_v22
  rw [e0, e1, e2, e3, e4, e5, e6, e7, e8]
  have one (w : FVec Ideal S1024 .f32) (k : Fin 1024) :
      (broadcastInDim S4x4096x1024 ![0, 1, 2] bcast_S1x1x1024_S4x4096x1024_0_1_2 (broadcastInDim S1x1x1024 ![2] bcast_S1024_S1x1x1024_2 w) :
        FVec Ideal SO .f32) (ixO b s k) = w (ValueIdx.ix1 k) :=
    congrArg w (funext fun a => Fin.ext (by
      match a with
      | ⟨0, _⟩ => rfl))
  have at2 (f : IVec S4x4096 1) : (broadcastInDim S4x4096x1024 ![0, 1, 2] bcast_S4x4096x1_S4x4096x1024_0_1_2
      (broadcastInDim S4x4096x1 ![0, 1] bcast_S4x4096_S4x4096x1_0_1 f)) (ixO b s q) = f (ValueIdx.ix2 b s) :=
    congrArg f (funext fun a => Fin.ext (by
      match a with
      | ⟨0, _⟩ => rfl
      | ⟨1, _⟩ => rfl))
  have row2 (w : FVec Ideal S4x1024 .f32) (k : Fin 1024) :
      (broadcastInDim S4x4096x1024 ![0, 1, 2] bcast_S4x1x1024_S4x4096x1024_0_1_2 (broadcastInDim S4x1x1024 ![0, 2] bcast_S4x1024_S4x1x1024_0_2 w) :
        FVec Ideal SO .f32) (ixO b s k) = w (ValueIdx.ix2 b k) :=
    congrArg w (funext fun a => Fin.ext (by
      match a with
      | ⟨0, _⟩ => rfl
      | ⟨1, _⟩ => rfl))
  split
  · rename_i h
    refine (select_one _ _ _ _ ((at2 _).trans (prompt_one _ h (hid _)))).trans ?_
    unfold mlp
    refine (add_at _ _ _).trans (congrArg₂ (· + ·) ?_ (one b2 q))
    refine (product₃ _ _ b s q).trans (Finset.sum_congr rfl fun k _ => ?_)
    refine congrArg₂ (· * ·) ?_ rfl
    refine (max_at _ _ _).trans (congrArg₂ max ?_ Ideal.ofBits_zero_f32)
    refine (add_at _ _ _).trans (congrArg₂ (· + ·) ?_ (one b1 k))
    refine (product₃ _ _ b s k).trans (Finset.sum_congr rfl fun j _ => ?_)
    refine congrArg₂ (· * ·) ?_ rfl
    refine (add_at _ _ _).trans (congrArg₂ (· + ·) ?_ ?_)
    · refine (taken 100 (by omega) _ pr _ _ _ rfl (fun z => held _) b s j).trans ?_
      exact congrArg (fun n => pr (Tile.ix2 100 1024 n j.val)) (held_eq _ h (hid _))
    · exact (row2 _ j).trans (tasked ta ti hti b j)
  · rename_i h
    have h' : (ids (ValueIdx.ix2 b s)).toNat < 32000 := by omega
    refine (select_zero _ _ _ _ ((at2 _).trans (prompt_zero _ h'))).trans ?_
    refine (taken 32000 (by omega) _ tab _ _ _ rfl (fun z => table_id _ (hid z)) b s q).trans ?_
    refine congrArg (fun v : BitVec 32 => tab (Tile.ix2 32000 1024 v.toNat q.val)) ?_
    exact (congrArg (fun c => Scalar.select c _ _) (prompt_zero _ h')).trans (if_neg (by decide))

end Cert.Proof.Equation

end

end
-- ==== Proof.Agree.lean ====
/-
  The kernel's result read at one position, and that it is the reference's.
-/
module

public import proofs.«01_k».proof.Proof.Equation

@[expose] public section

noncomputable section

namespace Cert.Proof.Equation

open Idealize.ShloMosaic Idealize.ShloMosaic.TcCoe Idealize.SL.Sem
open Cert.Proof.Tile (ix2_0 ix2_1 eq_ix2 ent encOf outRow outV tok)

/-- A bias kept as one row, read along that row. -/
theorem biased (v : FVec Ideal (⟨1, ![1024]⟩ : Shape) .f32) (h : (⟨1, ![1024]⟩ : Shape).ShapeCasts (S2 1 1024)) (k : Fin 1024) :
    shapeCast (S2 1 1024) v h (ValueIdx.ix2 0 k) = v (ValueIdx.ix1 k) :=
  shapeCast_apply v h _ _ (by
    rw [Shape.rowMajor_val_one, Shape.rowMajor_val_two]
    exact (Nat.zero_add k.val).symm.trans (congrArg (· + k.val) (Nat.zero_mul 1024).symm))

/-- The flat rows, cut into the four texts. -/
theorem cut {α : Type} (v : (S2 16384 1024).Idx → α) (h : (S2 16384 1024).ShapeCasts SO) (b : Fin 4) (s : Fin 4096) (q : Fin 1024) :
    shapeCast SO v h (ixO b s q) = v (Tile.ix2 16384 1024 (b.val * 4096 + s.val) q.val) :=
  shapeCast_apply v h _ _ (by
    rw [Shape.rowMajor_val_two, Shape.rowMajor_val_three, ix2_0 _ _ _ _ (by omega), ix2_1 _ _ _ _ q.isLt]
    rfl)

/-- The SparseCore call's row for position `s` of text `b`. -/
theorem row_at (ids : Tile.Ids) (tab : Tile.Tab Ideal) (enc : Tile.Enc Ideal) (b : Fin 4) (s : Fin 4096) (q : Fin 1024) :
    outV ids tab enc (Tile.ix2 16384 1024 (b.val * 4096 + s.val) q.val)
      = if 32000 ≤ (ids (ValueIdx.ix2 b s)).toNat then enc (Tile.ix2 400 1024 (b.val * 100 + ((ids (ValueIdx.ix2 b s)).toNat - 32000)) q.val)
        else tab (Tile.ix2 32000 1024 (ids (ValueIdx.ix2 b s)).toNat q.val) := by
  have hb : (b.val * 4096 + s.val) / 4096 = b.val := by omega
  have hs : (b.val * 4096 + s.val) % 4096 = s.val := by omega
  unfold outV
  rw [ix2_0 _ _ _ _ (by omega), ix2_1 _ _ _ _ q.isLt]
  unfold outRow tok
  rw [hb, hs, ← eq_ix2 4 4096 (ValueIdx.ix2 b s) b.val s.val rfl rfl]

open Cert.KernelIdeal in
/-- The kernel's result at a position. -/
theorem kernel_at (m : (ℓ : Loc nD τ sig) → Buf (Elt Ideal) ℓ) (c : Dev nD) (ids : IVec S4x4096 32) (ti : IVec S4 32)
    (tab : FVec Ideal S32000x1024 .f32) (pr : FVec Ideal S100x1024 .f32) (ta : FVec Ideal S8x1024 .f32) (w1 w2 : FVec Ideal S1024x1024 .f32)
    (b1 b2 : FVec Ideal S1024 .f32)
    (e0 : m ((c : Thread nD τ).loc main_arg0) = ids) (e1 : m ((c : Thread nD τ).loc main_arg1) = ti)
    (e2 : m ((c : Thread nD τ).loc main_arg2) = tab) (e3 : m ((c : Thread nD τ).loc main_arg3) = pr)
    (e4 : m ((c : Thread nD τ).loc main_arg4) = ta) (e5 : m ((c : Thread nD τ).loc main_arg5) = w1)
    (e6 : m ((c : Thread nD τ).loc main_arg6) = b1) (e7 : m ((c : Thread nD τ).loc main_arg7) = w2)
    (e8 : m ((c : Thread nD τ).loc main_arg8) = b2)
    (hid : ∀ z, (ids z).toNat < 32100) (b : Fin 4) (s : Fin 4096) (q : Fin 1024) :
    Tile.resD (F := Ideal) m c (ixO b s q)
      = if 32000 ≤ (ids (ValueIdx.ix2 b s)).toNat then
          mlp (fun j => pr (Tile.ix2 100 1024 ((ids (ValueIdx.ix2 b s)).toNat - 32000) j.val) + ta (Tile.ix2 8 1024 (ti (ent b)).toNat j.val)) w1
            (fun k => b1 (ValueIdx.ix1 k)) w2 (fun k => b2 (ValueIdx.ix1 k)) q
        else tab (Tile.ix2 32000 1024 (ids (ValueIdx.ix2 b s)).toNat q.val) := by
  have enc : Tile.encD (F := Ideal) m c = encOf (F := Ideal) ti pr ta w1 (shapeCast S1x1024 b1 Facts₀.shapeCasts_S1024_S1x1024) w2
      (shapeCast S1x1024 b2 Facts₀.shapeCasts_S1024_S1x1024) := by
    unfold Tile.encD Tile.encA
    rw [Tile.mid_ne m c main_arg1 (by decide) (by decide), Tile.mid_ne m c main_arg3 (by decide) (by decide),
      Tile.mid_ne m c main_arg4 (by decide) (by decide), Tile.mid_ne m c main_arg5 (by decide) (by decide),
      Tile.mid_ne m c main_arg7 (by decide) (by decide), Tile.mid_v0 m c, Tile.mid_v1 m c, e1, e3, e4, e5, e6, e7, e8]
  unfold Tile.resD
  refine (cut _ _ b s q).trans ((row_at _ _ _ b s q).trans ?_)
  unfold Tile.idsD Tile.tabD
  rw [enc, e0, e2]
  split
  on_goal 2 => rfl
  obtain ⟨r, hr⟩ : ∃ r : Fin 100, r.val = (ids (ValueIdx.ix2 b s)).toNat - 32000 :=
    ⟨⟨_, by have := hid (ValueIdx.ix2 b s); omega⟩, rfl⟩
  obtain ⟨p, hp⟩ : ∃ p : Fin 400, p.val = b.val * 100 + r.val := ⟨⟨_, by omega⟩, rfl⟩
  rw [← hr, ← hp, ← eq_ix2 400 1024 (ValueIdx.ix2 p q) _ _ rfl rfl]
  refine (encoded ti pr ta w1 _ w2 _ b r p hp q).trans ?_
  have row (j : Fin 1024) : pr (Tile.ix2 100 1024 r.val j.val) = pr (ValueIdx.ix2 r j) :=
    congrArg pr (eq_ix2 100 1024 (ValueIdx.ix2 r j) _ _ rfl rfl).symm
  unfold mlp
  simp only [biased, row]

/-- Every position of the result is a text's, a place's and a column's. -/
theorem every (z : SO.Idx) : z = ixO (z 0) (z 1) (z 2) := by
  funext a
  match a with
  | ⟨0, _⟩ => rfl
  | ⟨1, _⟩ => rfl
  | ⟨2, _⟩ => rfl

/-- From equal arguments both programs end with the same result. -/
theorem algebraic : Cert.algebraic_KernelIdeal_ReferenceIdeal := by
  intro m g m' g' hpre heq
  refine ⟨fun c => Tile.resD m c, ?_, ?_⟩
  · exact (θ_run Cert.KernelIdeal.defs _ _).mono (fun _ h c =>
      ⟨(h.1 c).2, (h.1 c).1 _ (by decide), (h.1 c).1 _ (by decide), (h.1 c).1 _ (by decide), (h.1 c).1 _ (by decide), (h.1 c).1 _ (by decide),
        (h.1 c).1 _ (by decide), (h.1 c).1 _ (by decide), (h.1 c).1 _ (by decide), (h.1 c).1 _ (by decide)⟩) (Frames.run_pre (F := Ideal) m g hpre)
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6, e7, e8⟩ := heq c
    obtain ⟨hid, hti⟩ := Frames.ranges _ _ _ _ _ _ _ _ _ (hpre c)
    refine funext fun z => ?_
    rw [every z]
    exact (reference_at m' c _ _ _ _ _ _ _ _ _ e0 e1 e2 e3 e4 e5 e6 e7 e8 hid hti _ _ _).trans
      (kernel_at m c _ _ _ _ _ _ _ _ _ rfl rfl rfl rfl rfl rfl rfl rfl rfl hid _ _ _).symm

end Cert.Proof.Equation

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.FrameKernel
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Frames.frame_kernel, Frames.frame_kernel_ideal, Frames.frame_reference, Frames.frame_reference_pre, trivial, Equation.algebraic⟩

end Cert.Proof

end
